-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  IdealRules.named_const.Statement Cert.KernelIdeal.κ "inv3" .f32 0x3EAAAAAB#32 ((3⁻¹ : ℝ) : EReal)
  ∧ IdealRules.named_const.Statement Cert.KernelIdeal.κ "inv7" .f32 0x3E124925#32 ((7⁻¹ : ℝ) : EReal)
  ∧ IdealRules.named_const.Statement Cert.KernelIdeal.κ "inv15" .f32 0x3D888889#32 ((15⁻¹ : ℝ) : EReal)
  ∧ IdealRules.named_const.Statement Cert.KernelIdeal.κ "inv31" .f32 0x3D042108#32 ((31⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v563) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x32 : Shape := ⟨2, ![10000, 32]⟩
abbrev S32x32 : Shape := ⟨2, ![32, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S48x64 : Shape := ⟨2, ![48, 64]⟩
abbrev S64 : Shape := ⟨1, ![64]⟩
abbrev S64x64 : Shape := ⟨2, ![64, 64]⟩
abbrev S48x32 : Shape := ⟨2, ![48, 32]⟩
abbrev S80x80 : Shape := ⟨2, ![80, 80]⟩
abbrev S80 : Shape := ⟨1, ![80]⟩
abbrev S80x32 : Shape := ⟨2, ![80, 32]⟩
abbrev S_ : Shape := ⟨0, ![]⟩
abbrev S128x128 : Shape := ⟨2, ![128, 128]⟩
abbrev S1x32 : Shape := ⟨2, ![1, 32]⟩
abbrev S1x1x1x32 : Shape := ⟨4, ![1, 1, 1, 32]⟩
abbrev S1x1x4x32 : Shape := ⟨4, ![1, 1, 4, 32]⟩
abbrev S1x128 : Shape := ⟨2, ![1, 128]⟩
abbrev S128x64 : Shape := ⟨2, ![128, 64]⟩
abbrev S1x16 : Shape := ⟨2, ![1, 16]⟩
abbrev S1x1x1x16 : Shape := ⟨4, ![1, 1, 1, 16]⟩
abbrev S1x1x4x16 : Shape := ⟨4, ![1, 1, 4, 16]⟩
abbrev S1x64 : Shape := ⟨2, ![1, 64]⟩
abbrev S32x64 : Shape := ⟨2, ![32, 64]⟩
abbrev S128x256 : Shape := ⟨2, ![128, 256]⟩
abbrev S16x64 : Shape := ⟨2, ![16, 64]⟩
abbrev S64x256 : Shape := ⟨2, ![64, 256]⟩
abbrev S1x1x1x64 : Shape := ⟨4, ![1, 1, 1, 64]⟩
abbrev S1x1x4x64 : Shape := ⟨4, ![1, 1, 4, 64]⟩
abbrev S1x256 : Shape := ⟨2, ![1, 256]⟩
abbrev S256x256 : Shape := ⟨2, ![256, 256]⟩
abbrev S16x32 : Shape := ⟨2, ![16, 32]⟩
abbrev S64x128 : Shape := ⟨2, ![64, 128]⟩
abbrev S32x80 : Shape := ⟨2, ![32, 80]⟩
abbrev S128x320 : Shape := ⟨2, ![128, 320]⟩
abbrev S16x80 : Shape := ⟨2, ![16, 80]⟩
abbrev S64x320 : Shape := ⟨2, ![64, 320]⟩
abbrev S1x80 : Shape := ⟨2, ![1, 80]⟩
abbrev S1x1x1x80 : Shape := ⟨4, ![1, 1, 1, 80]⟩
abbrev S1x1x4x80 : Shape := ⟨4, ![1, 1, 4, 80]⟩
abbrev S1x320 : Shape := ⟨2, ![1, 320]⟩
abbrev S320x128 : Shape := ⟨2, ![320, 128]⟩
abbrev S10000x252 : Shape := ⟨2, ![10000, 252]⟩
abbrev S400x32 : Shape := ⟨2, ![400, 32]⟩
abbrev S400x252 : Shape := ⟨2, ![400, 252]⟩
abbrev S8x128 : Shape := ⟨2, ![8, 128]⟩
abbrev S100x32 : Shape := ⟨2, ![100, 32]⟩
abbrev S100x128 : Shape := ⟨2, ![100, 128]⟩
abbrev S1x100x128 : Shape := ⟨3, ![1, 100, 128]⟩
abbrev S100x64 : Shape := ⟨2, ![100, 64]⟩
abbrev S1x100x64 : Shape := ⟨3, ![1, 100, 64]⟩
abbrev S100x256 : Shape := ⟨2, ![100, 256]⟩
abbrev S1x100x256 : Shape := ⟨3, ![1, 100, 256]⟩
abbrev S1x100x32 : Shape := ⟨3, ![1, 100, 32]⟩
abbrev S1x1x100x128 : Shape := ⟨4, ![1, 1, 100, 128]⟩
abbrev S1x2x100x128 : Shape := ⟨4, ![1, 2, 100, 128]⟩
abbrev S2x100x128 : Shape := ⟨3, ![2, 100, 128]⟩
abbrev S200x128 : Shape := ⟨2, ![200, 128]⟩
abbrev S300x128 : Shape := ⟨2, ![300, 128]⟩
abbrev S100x320 : Shape := ⟨2, ![100, 320]⟩
abbrev S1x100x320 : Shape := ⟨3, ![1, 100, 320]⟩
abbrev S1x1x100x320 : Shape := ⟨4, ![1, 1, 100, 320]⟩
abbrev S1x2x100x320 : Shape := ⟨4, ![1, 2, 100, 320]⟩
abbrev S2x100x320 : Shape := ⟨3, ![2, 100, 320]⟩
abbrev S3x100x320 : Shape := ⟨3, ![3, 100, 320]⟩
abbrev S300x320 : Shape := ⟨2, ![300, 320]⟩
abbrev S300x64 : Shape := ⟨2, ![300, 64]⟩
abbrev S3x100x64 : Shape := ⟨3, ![3, 100, 64]⟩
abbrev S200x256 : Shape := ⟨2, ![200, 256]⟩
abbrev S2x100x256 : Shape := ⟨3, ![2, 100, 256]⟩
abbrev S2x100x32 : Shape := ⟨3, ![2, 100, 32]⟩
abbrev S2x1x100x128 : Shape := ⟨4, ![2, 1, 100, 128]⟩
abbrev S2x2x100x128 : Shape := ⟨4, ![2, 2, 100, 128]⟩
abbrev S4x100x128 : Shape := ⟨3, ![4, 100, 128]⟩
abbrev S3x100x128 : Shape := ⟨3, ![3, 100, 128]⟩
abbrev S400x128 : Shape := ⟨2, ![400, 128]⟩
abbrev S700x128 : Shape := ⟨2, ![700, 128]⟩
abbrev S2x1x100x320 : Shape := ⟨4, ![2, 1, 100, 320]⟩
abbrev S2x2x100x320 : Shape := ⟨4, ![2, 2, 100, 320]⟩
abbrev S4x100x320 : Shape := ⟨3, ![4, 100, 320]⟩
abbrev S7x100x320 : Shape := ⟨3, ![7, 100, 320]⟩
abbrev S700x320 : Shape := ⟨2, ![700, 320]⟩
abbrev S700x64 : Shape := ⟨2, ![700, 64]⟩
abbrev S7x100x64 : Shape := ⟨3, ![7, 100, 64]⟩
abbrev S400x256 : Shape := ⟨2, ![400, 256]⟩
abbrev S4x100x256 : Shape := ⟨3, ![4, 100, 256]⟩
abbrev S4x100x32 : Shape := ⟨3, ![4, 100, 32]⟩
abbrev S4x1x100x128 : Shape := ⟨4, ![4, 1, 100, 128]⟩
abbrev S4x2x100x128 : Shape := ⟨4, ![4, 2, 100, 128]⟩
abbrev S8x100x128 : Shape := ⟨3, ![8, 100, 128]⟩
abbrev S7x100x128 : Shape := ⟨3, ![7, 100, 128]⟩
abbrev S800x128 : Shape := ⟨2, ![800, 128]⟩
abbrev S1500x128 : Shape := ⟨2, ![1500, 128]⟩
abbrev S4x1x100x320 : Shape := ⟨4, ![4, 1, 100, 320]⟩
abbrev S4x2x100x320 : Shape := ⟨4, ![4, 2, 100, 320]⟩
abbrev S8x100x320 : Shape := ⟨3, ![8, 100, 320]⟩
abbrev S15x100x320 : Shape := ⟨3, ![15, 100, 320]⟩
abbrev S1500x320 : Shape := ⟨2, ![1500, 320]⟩
abbrev S1500x64 : Shape := ⟨2, ![1500, 64]⟩
abbrev S15x100x64 : Shape := ⟨3, ![15, 100, 64]⟩
abbrev S800x256 : Shape := ⟨2, ![800, 256]⟩
abbrev S8x100x256 : Shape := ⟨3, ![8, 100, 256]⟩
abbrev S8x100x32 : Shape := ⟨3, ![8, 100, 32]⟩
abbrev S8x1x100x128 : Shape := ⟨4, ![8, 1, 100, 128]⟩
abbrev S8x2x100x128 : Shape := ⟨4, ![8, 2, 100, 128]⟩
abbrev S16x100x128 : Shape := ⟨3, ![16, 100, 128]⟩
abbrev S15x100x128 : Shape := ⟨3, ![15, 100, 128]⟩
abbrev S1600x128 : Shape := ⟨2, ![1600, 128]⟩
abbrev S3100x128 : Shape := ⟨2, ![3100, 128]⟩
abbrev S8x1x100x320 : Shape := ⟨4, ![8, 1, 100, 320]⟩
abbrev S8x2x100x320 : Shape := ⟨4, ![8, 2, 100, 320]⟩
abbrev S16x100x320 : Shape := ⟨3, ![16, 100, 320]⟩
abbrev S31x100x320 : Shape := ⟨3, ![31, 100, 320]⟩
abbrev S3100x320 : Shape := ⟨2, ![3100, 320]⟩
abbrev S3100x64 : Shape := ⟨2, ![3100, 64]⟩
abbrev S31x100x64 : Shape := ⟨3, ![31, 100, 64]⟩
abbrev S1600x256 : Shape := ⟨2, ![1600, 256]⟩
abbrev S16x100x256 : Shape := ⟨3, ![16, 100, 256]⟩
abbrev S16x100x32 : Shape := ⟨3, ![16, 100, 32]⟩
abbrev S16x1x100x128 : Shape := ⟨4, ![16, 1, 100, 128]⟩
abbrev S16x2x100x128 : Shape := ⟨4, ![16, 2, 100, 128]⟩
abbrev S32x100x128 : Shape := ⟨3, ![32, 100, 128]⟩
abbrev S31x100x128 : Shape := ⟨3, ![31, 100, 128]⟩
abbrev S3200x128 : Shape := ⟨2, ![3200, 128]⟩
abbrev S6300x128 : Shape := ⟨2, ![6300, 128]⟩
abbrev S16x1x100x320 : Shape := ⟨4, ![16, 1, 100, 320]⟩
abbrev S16x2x100x320 : Shape := ⟨4, ![16, 2, 100, 320]⟩
abbrev S32x100x320 : Shape := ⟨3, ![32, 100, 320]⟩
abbrev S63x100x320 : Shape := ⟨3, ![63, 100, 320]⟩
abbrev S6300x320 : Shape := ⟨2, ![6300, 320]⟩
abbrev S1x100x4 : Shape := ⟨3, ![1, 100, 4]⟩
abbrev S100x4 : Shape := ⟨2, ![100, 4]⟩
abbrev S100x252 : Shape := ⟨2, ![100, 252]⟩

abbrev nBuf : Space → Nat
  | .hbm => 325
  | .vmem => 35
  | .smem => 0
  | _ => 0

abbrev hbmTy0_0 (i : Nat) : BufTy := match i % 128 with
  | 0 => ⟨S10000x32, .f32⟩
  | 1 => ⟨S32x32, .f32⟩
  | 2 => ⟨S32, .f32⟩
  | 3 => ⟨S32x16, .f32⟩
  | 4 => ⟨S16, .f32⟩
  | 5 => ⟨S16x16, .f32⟩
  | 6 => ⟨S16, .f32⟩
  | 7 => ⟨S16x16, .f32⟩
  | 8 => ⟨S16, .f32⟩
  | 9 => ⟨S48x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S48x32, .f32⟩
  | 16 => ⟨S32, .f32⟩
  | 17 => ⟨S32x32, .f32⟩
  | 18 => ⟨S32, .f32⟩
  | 19 => ⟨S32x32, .f32⟩
  | 20 => ⟨S32, .f32⟩
  | 21 => ⟨S80x80, .f32⟩
  | 22 => ⟨S80, .f32⟩
  | 23 => ⟨S80x32, .f32⟩
  | 24 => ⟨S32, .f32⟩
  | 25 => ⟨S32x32, .f32⟩
  | 26 => ⟨S32, .f32⟩
  | 27 => ⟨S_, .f32⟩
  | 28 => ⟨S128x128, .f32⟩
  | 29 => ⟨S_, .i32⟩
  | 30 => ⟨S_, .i32⟩
  | 31 => ⟨S128x128, .f32⟩
  | 32 => ⟨S_, .i32⟩
  | 33 => ⟨S_, .i32⟩
  | 34 => ⟨S128x128, .f32⟩
  | 35 => ⟨S_, .i32⟩
  | 36 => ⟨S_, .i32⟩
  | 37 => ⟨S128x128, .f32⟩
  | 38 => ⟨S_, .i32⟩
  | 39 => ⟨S_, .i32⟩
  | 40 => ⟨S128x128, .f32⟩
  | 41 => ⟨S1x32, .f32⟩
  | 42 => ⟨S1x1x1x32, .f32⟩
  | 43 => ⟨S1x1x4x32, .f32⟩
  | 44 => ⟨S1x128, .f32⟩
  | 45 => ⟨S_, .f32⟩
  | 46 => ⟨S128x64, .f32⟩
  | 47 => ⟨S_, .i32⟩
  | 48 => ⟨S_, .i32⟩
  | 49 => ⟨S128x64, .f32⟩
  | 50 => ⟨S_, .i32⟩
  | 51 => ⟨S_, .i32⟩
  | 52 => ⟨S128x64, .f32⟩
  | 53 => ⟨S_, .i32⟩
  | 54 => ⟨S_, .i32⟩
  | 55 => ⟨S128x64, .f32⟩
  | 56 => ⟨S_, .i32⟩
  | 57 => ⟨S_, .i32⟩
  | 58 => ⟨S128x64, .f32⟩
  | 59 => ⟨S1x16, .f32⟩
  | 60 => ⟨S1x1x1x16, .f32⟩
  | 61 => ⟨S1x1x4x16, .f32⟩
  | 62 => ⟨S1x64, .f32⟩
  | 63 => ⟨S_, .f32⟩
  | 64 => ⟨S64x64, .f32⟩
  | 65 => ⟨S_, .i32⟩
  | 66 => ⟨S_, .i32⟩
  | 67 => ⟨S64x64, .f32⟩
  | 68 => ⟨S_, .i32⟩
  | 69 => ⟨S_, .i32⟩
  | 70 => ⟨S64x64, .f32⟩
  | 71 => ⟨S_, .i32⟩
  | 72 => ⟨S_, .i32⟩
  | 73 => ⟨S64x64, .f32⟩
  | 74 => ⟨S_, .i32⟩
  | 75 => ⟨S_, .i32⟩
  | 76 => ⟨S64x64, .f32⟩
  | 77 => ⟨S1x16, .f32⟩
  | 78 => ⟨S1x1x1x16, .f32⟩
  | 79 => ⟨S1x1x4x16, .f32⟩
  | 80 => ⟨S1x64, .f32⟩
  | 81 => ⟨S_, .f32⟩
  | 82 => ⟨S64x64, .f32⟩
  | 83 => ⟨S_, .i32⟩
  | 84 => ⟨S_, .i32⟩
  | 85 => ⟨S64x64, .f32⟩
  | 86 => ⟨S_, .i32⟩
  | 87 => ⟨S_, .i32⟩
  | 88 => ⟨S64x64, .f32⟩
  | 89 => ⟨S_, .i32⟩
  | 90 => ⟨S_, .i32⟩
  | 91 => ⟨S64x64, .f32⟩
  | 92 => ⟨S_, .i32⟩
  | 93 => ⟨S_, .i32⟩
  | 94 => ⟨S64x64, .f32⟩
  | 95 => ⟨S1x16, .f32⟩
  | 96 => ⟨S1x1x1x16, .f32⟩
  | 97 => ⟨S1x1x4x16, .f32⟩
  | 98 => ⟨S1x64, .f32⟩
  | 99 => ⟨S32x64, .f32⟩
  | 100 => ⟨S_, .f32⟩
  | 101 => ⟨S128x256, .f32⟩
  | 102 => ⟨S_, .i32⟩
  | 103 => ⟨S_, .i32⟩
  | 104 => ⟨S128x256, .f32⟩
  | 105 => ⟨S_, .i32⟩
  | 106 => ⟨S_, .i32⟩
  | 107 => ⟨S128x256, .f32⟩
  | 108 => ⟨S_, .i32⟩
  | 109 => ⟨S_, .i32⟩
  | 110 => ⟨S128x256, .f32⟩
  | 111 => ⟨S_, .i32⟩
  | 112 => ⟨S_, .i32⟩
  | 113 => ⟨S128x256, .f32⟩
  | 114 => ⟨S16x64, .f32⟩
  | 115 => ⟨S_, .f32⟩
  | 116 => ⟨S64x256, .f32⟩
  | 117 => ⟨S_, .i32⟩
  | 118 => ⟨S_, .i32⟩
  | 119 => ⟨S64x256, .f32⟩
  | 120 => ⟨S_, .i32⟩
  | 121 => ⟨S_, .i32⟩
  | 122 => ⟨S64x256, .f32⟩
  | 123 => ⟨S_, .i32⟩
  | 124 => ⟨S_, .i32⟩
  | 125 => ⟨S64x256, .f32⟩
  | 126 => ⟨S_, .i32⟩
  | 127 => ⟨S_, .i32⟩
  | _ => ⟨S10000x32, .f32⟩

abbrev hbmTy0_1 (i : Nat) : BufTy := match i % 128 with
  | 0 => ⟨S64x256, .f32⟩
  | 1 => ⟨S1x64, .f32⟩
  | 2 => ⟨S1x1x1x64, .f32⟩
  | 3 => ⟨S1x1x4x64, .f32⟩
  | 4 => ⟨S1x256, .f32⟩
  | 5 => ⟨S_, .f32⟩
  | 6 => ⟨S256x256, .f32⟩
  | 7 => ⟨S_, .i32⟩
  | 8 => ⟨S_, .i32⟩
  | 9 => ⟨S256x256, .f32⟩
  | 10 => ⟨S_, .i32⟩
  | 11 => ⟨S_, .i32⟩
  | 12 => ⟨S256x256, .f32⟩
  | 13 => ⟨S_, .i32⟩
  | 14 => ⟨S_, .i32⟩
  | 15 => ⟨S256x256, .f32⟩
  | 16 => ⟨S_, .i32⟩
  | 17 => ⟨S_, .i32⟩
  | 18 => ⟨S256x256, .f32⟩
  | 19 => ⟨S1x64, .f32⟩
  | 20 => ⟨S1x1x1x64, .f32⟩
  | 21 => ⟨S1x1x4x64, .f32⟩
  | 22 => ⟨S1x256, .f32⟩
  | 23 => ⟨S_, .f32⟩
  | 24 => ⟨S256x256, .f32⟩
  | 25 => ⟨S_, .i32⟩
  | 26 => ⟨S_, .i32⟩
  | 27 => ⟨S256x256, .f32⟩
  | 28 => ⟨S_, .i32⟩
  | 29 => ⟨S_, .i32⟩
  | 30 => ⟨S256x256, .f32⟩
  | 31 => ⟨S_, .i32⟩
  | 32 => ⟨S_, .i32⟩
  | 33 => ⟨S256x256, .f32⟩
  | 34 => ⟨S_, .i32⟩
  | 35 => ⟨S_, .i32⟩
  | 36 => ⟨S256x256, .f32⟩
  | 37 => ⟨S1x64, .f32⟩
  | 38 => ⟨S1x1x1x64, .f32⟩
  | 39 => ⟨S1x1x4x64, .f32⟩
  | 40 => ⟨S1x256, .f32⟩
  | 41 => ⟨S32x32, .f32⟩
  | 42 => ⟨S_, .f32⟩
  | 43 => ⟨S128x128, .f32⟩
  | 44 => ⟨S_, .i32⟩
  | 45 => ⟨S_, .i32⟩
  | 46 => ⟨S128x128, .f32⟩
  | 47 => ⟨S_, .i32⟩
  | 48 => ⟨S_, .i32⟩
  | 49 => ⟨S128x128, .f32⟩
  | 50 => ⟨S_, .i32⟩
  | 51 => ⟨S_, .i32⟩
  | 52 => ⟨S128x128, .f32⟩
  | 53 => ⟨S_, .i32⟩
  | 54 => ⟨S_, .i32⟩
  | 55 => ⟨S128x128, .f32⟩
  | 56 => ⟨S16x32, .f32⟩
  | 57 => ⟨S_, .f32⟩
  | 58 => ⟨S64x128, .f32⟩
  | 59 => ⟨S_, .i32⟩
  | 60 => ⟨S_, .i32⟩
  | 61 => ⟨S64x128, .f32⟩
  | 62 => ⟨S_, .i32⟩
  | 63 => ⟨S_, .i32⟩
  | 64 => ⟨S64x128, .f32⟩
  | 65 => ⟨S_, .i32⟩
  | 66 => ⟨S_, .i32⟩
  | 67 => ⟨S64x128, .f32⟩
  | 68 => ⟨S_, .i32⟩
  | 69 => ⟨S_, .i32⟩
  | 70 => ⟨S64x128, .f32⟩
  | 71 => ⟨S1x32, .f32⟩
  | 72 => ⟨S1x1x1x32, .f32⟩
  | 73 => ⟨S1x1x4x32, .f32⟩
  | 74 => ⟨S1x128, .f32⟩
  | 75 => ⟨S_, .f32⟩
  | 76 => ⟨S128x128, .f32⟩
  | 77 => ⟨S_, .i32⟩
  | 78 => ⟨S_, .i32⟩
  | 79 => ⟨S128x128, .f32⟩
  | 80 => ⟨S_, .i32⟩
  | 81 => ⟨S_, .i32⟩
  | 82 => ⟨S128x128, .f32⟩
  | 83 => ⟨S_, .i32⟩
  | 84 => ⟨S_, .i32⟩
  | 85 => ⟨S128x128, .f32⟩
  | 86 => ⟨S_, .i32⟩
  | 87 => ⟨S_, .i32⟩
  | 88 => ⟨S128x128, .f32⟩
  | 89 => ⟨S1x32, .f32⟩
  | 90 => ⟨S1x1x1x32, .f32⟩
  | 91 => ⟨S1x1x4x32, .f32⟩
  | 92 => ⟨S1x128, .f32⟩
  | 93 => ⟨S_, .f32⟩
  | 94 => ⟨S128x128, .f32⟩
  | 95 => ⟨S_, .i32⟩
  | 96 => ⟨S_, .i32⟩
  | 97 => ⟨S128x128, .f32⟩
  | 98 => ⟨S_, .i32⟩
  | 99 => ⟨S_, .i32⟩
  | 100 => ⟨S128x128, .f32⟩
  | 101 => ⟨S_, .i32⟩
  | 102 => ⟨S_, .i32⟩
  | 103 => ⟨S128x128, .f32⟩
  | 104 => ⟨S_, .i32⟩
  | 105 => ⟨S_, .i32⟩
  | 106 => ⟨S128x128, .f32⟩
  | 107 => ⟨S1x32, .f32⟩
  | 108 => ⟨S1x1x1x32, .f32⟩
  | 109 => ⟨S1x1x4x32, .f32⟩
  | 110 => ⟨S1x128, .f32⟩
  | 111 => ⟨S32x80, .f32⟩
  | 112 => ⟨S_, .f32⟩
  | 113 => ⟨S128x320, .f32⟩
  | 114 => ⟨S_, .i32⟩
  | 115 => ⟨S_, .i32⟩
  | 116 => ⟨S128x320, .f32⟩
  | 117 => ⟨S_, .i32⟩
  | 118 => ⟨S_, .i32⟩
  | 119 => ⟨S128x320, .f32⟩
  | 120 => ⟨S_, .i32⟩
  | 121 => ⟨S_, .i32⟩
  | 122 => ⟨S128x320, .f32⟩
  | 123 => ⟨S_, .i32⟩
  | 124 => ⟨S_, .i32⟩
  | 125 => ⟨S128x320, .f32⟩
  | 126 => ⟨S32x80, .f32⟩
  | 127 => ⟨S_, .f32⟩
  | _ => ⟨S10000x32, .f32⟩

abbrev hbmTy0_2 (i : Nat) : BufTy := match i % 128 with
  | 0 => ⟨S128x320, .f32⟩
  | 1 => ⟨S_, .i32⟩
  | 2 => ⟨S_, .i32⟩
  | 3 => ⟨S128x320, .f32⟩
  | 4 => ⟨S_, .i32⟩
  | 5 => ⟨S_, .i32⟩
  | 6 => ⟨S128x320, .f32⟩
  | 7 => ⟨S_, .i32⟩
  | 8 => ⟨S_, .i32⟩
  | 9 => ⟨S128x320, .f32⟩
  | 10 => ⟨S_, .i32⟩
  | 11 => ⟨S_, .i32⟩
  | 12 => ⟨S128x320, .f32⟩
  | 13 => ⟨S16x80, .f32⟩
  | 14 => ⟨S_, .f32⟩
  | 15 => ⟨S64x320, .f32⟩
  | 16 => ⟨S_, .i32⟩
  | 17 => ⟨S_, .i32⟩
  | 18 => ⟨S64x320, .f32⟩
  | 19 => ⟨S_, .i32⟩
  | 20 => ⟨S_, .i32⟩
  | 21 => ⟨S64x320, .f32⟩
  | 22 => ⟨S_, .i32⟩
  | 23 => ⟨S_, .i32⟩
  | 24 => ⟨S64x320, .f32⟩
  | 25 => ⟨S_, .i32⟩
  | 26 => ⟨S_, .i32⟩
  | 27 => ⟨S64x320, .f32⟩
  | 28 => ⟨S1x80, .f32⟩
  | 29 => ⟨S1x1x1x80, .f32⟩
  | 30 => ⟨S1x1x4x80, .f32⟩
  | 31 => ⟨S1x320, .f32⟩
  | 32 => ⟨S_, .f32⟩
  | 33 => ⟨S320x128, .f32⟩
  | 34 => ⟨S_, .i32⟩
  | 35 => ⟨S_, .i32⟩
  | 36 => ⟨S320x128, .f32⟩
  | 37 => ⟨S_, .i32⟩
  | 38 => ⟨S_, .i32⟩
  | 39 => ⟨S320x128, .f32⟩
  | 40 => ⟨S_, .i32⟩
  | 41 => ⟨S_, .i32⟩
  | 42 => ⟨S320x128, .f32⟩
  | 43 => ⟨S_, .i32⟩
  | 44 => ⟨S_, .i32⟩
  | 45 => ⟨S320x128, .f32⟩
  | 46 => ⟨S1x32, .f32⟩
  | 47 => ⟨S1x1x1x32, .f32⟩
  | 48 => ⟨S1x1x4x32, .f32⟩
  | 49 => ⟨S1x128, .f32⟩
  | 50 => ⟨S_, .f32⟩
  | 51 => ⟨S128x128, .f32⟩
  | 52 => ⟨S_, .i32⟩
  | 53 => ⟨S_, .i32⟩
  | 54 => ⟨S128x128, .f32⟩
  | 55 => ⟨S_, .i32⟩
  | 56 => ⟨S_, .i32⟩
  | 57 => ⟨S128x128, .f32⟩
  | 58 => ⟨S_, .i32⟩
  | 59 => ⟨S_, .i32⟩
  | 60 => ⟨S128x128, .f32⟩
  | 61 => ⟨S_, .i32⟩
  | 62 => ⟨S_, .i32⟩
  | 63 => ⟨S128x128, .f32⟩
  | 64 => ⟨S1x32, .f32⟩
  | 65 => ⟨S1x1x1x32, .f32⟩
  | 66 => ⟨S1x1x4x32, .f32⟩
  | 67 => ⟨S1x128, .f32⟩
  | 68 => ⟨S10000x252, .f32⟩
  | _ => ⟨S10000x32, .f32⟩

abbrev hbmTy (i : Nat) : BufTy := match i / 128 with
  | 0 => hbmTy0_0 i
  | 1 => hbmTy0_1 i
  | 2 => hbmTy0_2 i
  | _ => ⟨S10000x32, .f32⟩

abbrev bufTy : (tb : Table) → Fin (tcTables nBuf tb) → BufTy
  | .hbm, ⟨i, _⟩ => hbmTy i
  | .local _ .vmem, ⟨0, _⟩ => ⟨S400x32, .f32⟩
  | .local _ .vmem, ⟨1, _⟩ => ⟨S400x32, .f32⟩
  | .local _ .vmem, ⟨2, _⟩ => ⟨S128x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S128x256, .f32⟩
  | .local _ .vmem, ⟨11, _⟩ => ⟨S64x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S128x128, .f32⟩
  | .local _ .vmem, ⟨18, _⟩ => ⟨S64x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x320, .f32⟩
  | .local _ .vmem, ⟨25, _⟩ => ⟨S128x320, .f32⟩
  | .local _ .vmem, ⟨26, _⟩ => ⟨S64x320, .f32⟩
  | .local _ .vmem, ⟨27, _⟩ => ⟨S1x320, .f32⟩
  | .local _ .vmem, ⟨28, _⟩ => ⟨S320x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S400x252, .f32⟩
  | .local _ .vmem, ⟨33, _⟩ => ⟨S400x252, .f32⟩
  | .local _ .vmem, ⟨34, _⟩ => ⟨S8x128, .f32⟩
  | _, _ => ⟨S10000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_c : Ref sig .tc := ⟨.hbm, 29, rfl⟩
abbrev main_c_0 : Ref sig .tc := ⟨.hbm, 30, rfl⟩
abbrev main_v1 : Ref sig .tc := ⟨.hbm, 31, rfl⟩
abbrev main_c_1 : Ref sig .tc := ⟨.hbm, 32, rfl⟩
abbrev main_c_2 : Ref sig .tc := ⟨.hbm, 33, rfl⟩
abbrev main_v2 : Ref sig .tc := ⟨.hbm, 34, rfl⟩
abbrev main_c_3 : Ref sig .tc := ⟨.hbm, 35, rfl⟩
abbrev main_c_4 : Ref sig .tc := ⟨.hbm, 36, rfl⟩
abbrev main_v3 : Ref sig .tc := ⟨.hbm, 37, rfl⟩
abbrev main_c_5 : Ref sig .tc := ⟨.hbm, 38, rfl⟩
abbrev main_c_6 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_cst_7 : Ref sig .tc := ⟨.hbm, 45, rfl⟩
abbrev main_v9 : Ref sig .tc := ⟨.hbm, 46, rfl⟩
abbrev main_c_8 : Ref sig .tc := ⟨.hbm, 47, rfl⟩
abbrev main_c_9 : Ref sig .tc := ⟨.hbm, 48, rfl⟩
abbrev main_v10 : Ref sig .tc := ⟨.hbm, 49, rfl⟩
abbrev main_c_10 : Ref sig .tc := ⟨.hbm, 50, rfl⟩
abbrev main_c_11 : Ref sig .tc := ⟨.hbm, 51, rfl⟩
abbrev main_v11 : Ref sig .tc := ⟨.hbm, 52, rfl⟩
abbrev main_c_12 : Ref sig .tc := ⟨.hbm, 53, rfl⟩
abbrev main_c_13 : Ref sig .tc := ⟨.hbm, 54, rfl⟩
abbrev main_v12 : Ref sig .tc := ⟨.hbm, 55, rfl⟩
abbrev main_c_14 : Ref sig .tc := ⟨.hbm, 56, rfl⟩
abbrev main_c_15 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_cst_16 : Ref sig .tc := ⟨.hbm, 63, rfl⟩
abbrev main_v18 : Ref sig .tc := ⟨.hbm, 64, rfl⟩
abbrev main_c_17 : Ref sig .tc := ⟨.hbm, 65, rfl⟩
abbrev main_c_18 : Ref sig .tc := ⟨.hbm, 66, rfl⟩
abbrev main_v19 : Ref sig .tc := ⟨.hbm, 67, rfl⟩
abbrev main_c_19 : Ref sig .tc := ⟨.hbm, 68, rfl⟩
abbrev main_c_20 : Ref sig .tc := ⟨.hbm, 69, rfl⟩
abbrev main_v20 : Ref sig .tc := ⟨.hbm, 70, rfl⟩
abbrev main_c_21 : Ref sig .tc := ⟨.hbm, 71, rfl⟩
abbrev main_c_22 : Ref sig .tc := ⟨.hbm, 72, rfl⟩
abbrev main_v21 : Ref sig .tc := ⟨.hbm, 73, rfl⟩
abbrev main_c_23 : Ref sig .tc := ⟨.hbm, 74, rfl⟩
abbrev main_c_24 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_cst_25 : Ref sig .tc := ⟨.hbm, 81, rfl⟩
abbrev main_v27 : Ref sig .tc := ⟨.hbm, 82, rfl⟩
abbrev main_c_26 : Ref sig .tc := ⟨.hbm, 83, rfl⟩
abbrev main_c_27 : Ref sig .tc := ⟨.hbm, 84, rfl⟩
abbrev main_v28 : Ref sig .tc := ⟨.hbm, 85, rfl⟩
abbrev main_c_28 : Ref sig .tc := ⟨.hbm, 86, rfl⟩
abbrev main_c_29 : Ref sig .tc := ⟨.hbm, 87, rfl⟩
abbrev main_v29 : Ref sig .tc := ⟨.hbm, 88, rfl⟩
abbrev main_c_30 : Ref sig .tc := ⟨.hbm, 89, rfl⟩
abbrev main_c_31 : Ref sig .tc := ⟨.hbm, 90, rfl⟩
abbrev main_v30 : Ref sig .tc := ⟨.hbm, 91, rfl⟩
abbrev main_c_32 : Ref sig .tc := ⟨.hbm, 92, rfl⟩
abbrev main_c_33 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_34 : Ref sig .tc := ⟨.hbm, 100, rfl⟩
abbrev main_v37 : Ref sig .tc := ⟨.hbm, 101, rfl⟩
abbrev main_c_35 : Ref sig .tc := ⟨.hbm, 102, rfl⟩
abbrev main_c_36 : Ref sig .tc := ⟨.hbm, 103, rfl⟩
abbrev main_v38 : Ref sig .tc := ⟨.hbm, 104, rfl⟩
abbrev main_c_37 : Ref sig .tc := ⟨.hbm, 105, rfl⟩
abbrev main_c_38 : Ref sig .tc := ⟨.hbm, 106, rfl⟩
abbrev main_v39 : Ref sig .tc := ⟨.hbm, 107, rfl⟩
abbrev main_c_39 : Ref sig .tc := ⟨.hbm, 108, rfl⟩
abbrev main_c_40 : Ref sig .tc := ⟨.hbm, 109, rfl⟩
abbrev main_v40 : Ref sig .tc := ⟨.hbm, 110, rfl⟩
abbrev main_c_41 : Ref sig .tc := ⟨.hbm, 111, rfl⟩
abbrev main_c_42 : Ref sig .tc := ⟨.hbm, 112, rfl⟩
abbrev main_v41 : Ref sig .tc := ⟨.hbm, 113, rfl⟩
abbrev main_v42 : Ref sig .tc := ⟨.hbm, 114, rfl⟩
abbrev main_cst_43 : Ref sig .tc := ⟨.hbm, 115, rfl⟩
abbrev main_v43 : Ref sig .tc := ⟨.hbm, 116, rfl⟩
abbrev main_c_44 : Ref sig .tc := ⟨.hbm, 117, rfl⟩
abbrev main_c_45 : Ref sig .tc := ⟨.hbm, 118, rfl⟩
abbrev main_v44 : Ref sig .tc := ⟨.hbm, 119, rfl⟩
abbrev main_c_46 : Ref sig .tc := ⟨.hbm, 120, rfl⟩
abbrev main_c_47 : Ref sig .tc := ⟨.hbm, 121, rfl⟩
abbrev main_v45 : Ref sig .tc := ⟨.hbm, 122, rfl⟩
abbrev main_c_48 : Ref sig .tc := ⟨.hbm, 123, rfl⟩
abbrev main_c_49 : Ref sig .tc := ⟨.hbm, 124, rfl⟩
abbrev main_v46 : Ref sig .tc := ⟨.hbm, 125, rfl⟩
abbrev main_c_50 : Ref sig .tc := ⟨.hbm, 126, rfl⟩
abbrev main_c_51 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_cst_52 : Ref sig .tc := ⟨.hbm, 133, rfl⟩
abbrev main_v52 : Ref sig .tc := ⟨.hbm, 134, rfl⟩
abbrev main_c_53 : Ref sig .tc := ⟨.hbm, 135, rfl⟩
abbrev main_c_54 : Ref sig .tc := ⟨.hbm, 136, rfl⟩
abbrev main_v53 : Ref sig .tc := ⟨.hbm, 137, rfl⟩
abbrev main_c_55 : Ref sig .tc := ⟨.hbm, 138, rfl⟩
abbrev main_c_56 : Ref sig .tc := ⟨.hbm, 139, rfl⟩
abbrev main_v54 : Ref sig .tc := ⟨.hbm, 140, rfl⟩
abbrev main_c_57 : Ref sig .tc := ⟨.hbm, 141, rfl⟩
abbrev main_c_58 : Ref sig .tc := ⟨.hbm, 142, rfl⟩
abbrev main_v55 : Ref sig .tc := ⟨.hbm, 143, rfl⟩
abbrev main_c_59 : Ref sig .tc := ⟨.hbm, 144, rfl⟩
abbrev main_c_60 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_cst_61 : Ref sig .tc := ⟨.hbm, 151, rfl⟩
abbrev main_v61 : Ref sig .tc := ⟨.hbm, 152, rfl⟩
abbrev main_c_62 : Ref sig .tc := ⟨.hbm, 153, rfl⟩
abbrev main_c_63 : Ref sig .tc := ⟨.hbm, 154, rfl⟩
abbrev main_v62 : Ref sig .tc := ⟨.hbm, 155, rfl⟩
abbrev main_c_64 : Ref sig .tc := ⟨.hbm, 156, rfl⟩
abbrev main_c_65 : Ref sig .tc := ⟨.hbm, 157, rfl⟩
abbrev main_v63 : Ref sig .tc := ⟨.hbm, 158, rfl⟩
abbrev main_c_66 : Ref sig .tc := ⟨.hbm, 159, rfl⟩
abbrev main_c_67 : Ref sig .tc := ⟨.hbm, 160, rfl⟩
abbrev main_v64 : Ref sig .tc := ⟨.hbm, 161, rfl⟩
abbrev main_c_68 : Ref sig .tc := ⟨.hbm, 162, rfl⟩
abbrev main_c_69 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_v68 : Ref sig .tc := ⟨.hbm, 167, rfl⟩
abbrev main_v69 : Ref sig .tc := ⟨.hbm, 168, rfl⟩
abbrev main_v70 : Ref sig .tc := ⟨.hbm, 169, rfl⟩
abbrev main_cst_70 : Ref sig .tc := ⟨.hbm, 170, rfl⟩
abbrev main_v71 : Ref sig .tc := ⟨.hbm, 171, rfl⟩
abbrev main_c_71 : Ref sig .tc := ⟨.hbm, 172, rfl⟩
abbrev main_c_72 : Ref sig .tc := ⟨.hbm, 173, rfl⟩
abbrev main_v72 : Ref sig .tc := ⟨.hbm, 174, rfl⟩
abbrev main_c_73 : Ref sig .tc := ⟨.hbm, 175, rfl⟩
abbrev main_c_74 : Ref sig .tc := ⟨.hbm, 176, rfl⟩
abbrev main_v73 : Ref sig .tc := ⟨.hbm, 177, rfl⟩
abbrev main_c_75 : Ref sig .tc := ⟨.hbm, 178, rfl⟩
abbrev main_c_76 : Ref sig .tc := ⟨.hbm, 179, rfl⟩
abbrev main_v74 : Ref sig .tc := ⟨.hbm, 180, rfl⟩
abbrev main_c_77 : Ref sig .tc := ⟨.hbm, 181, rfl⟩
abbrev main_c_78 : Ref sig .tc := ⟨.hbm, 182, rfl⟩
abbrev main_v75 : Ref sig .tc := ⟨.hbm, 183, rfl⟩
abbrev main_v76 : Ref sig .tc := ⟨.hbm, 184, rfl⟩
abbrev main_cst_79 : Ref sig .tc := ⟨.hbm, 185, rfl⟩
abbrev main_v77 : Ref sig .tc := ⟨.hbm, 186, rfl⟩
abbrev main_c_80 : Ref sig .tc := ⟨.hbm, 187, rfl⟩
abbrev main_c_81 : Ref sig .tc := ⟨.hbm, 188, rfl⟩
abbrev main_v78 : Ref sig .tc := ⟨.hbm, 189, rfl⟩
abbrev main_c_82 : Ref sig .tc := ⟨.hbm, 190, rfl⟩
abbrev main_c_83 : Ref sig .tc := ⟨.hbm, 191, rfl⟩
abbrev main_v79 : Ref sig .tc := ⟨.hbm, 192, rfl⟩
abbrev main_c_84 : Ref sig .tc := ⟨.hbm, 193, rfl⟩
abbrev main_c_85 : Ref sig .tc := ⟨.hbm, 194, rfl⟩
abbrev main_v80 : Ref sig .tc := ⟨.hbm, 195, rfl⟩
abbrev main_c_86 : Ref sig .tc := ⟨.hbm, 196, rfl⟩
abbrev main_c_87 : Ref sig .tc := ⟨.hbm, 197, rfl⟩
abbrev main_v81 : Ref sig .tc := ⟨.hbm, 198, rfl⟩
abbrev main_v82 : Ref sig .tc := ⟨.hbm, 199, rfl⟩
abbrev main_v83 : Ref sig .tc := ⟨.hbm, 200, rfl⟩
abbrev main_v84 : Ref sig .tc := ⟨.hbm, 201, rfl⟩
abbrev main_v85 : Ref sig .tc := ⟨.hbm, 202, rfl⟩
abbrev main_cst_88 : Ref sig .tc := ⟨.hbm, 203, rfl⟩
abbrev main_v86 : Ref sig .tc := ⟨.hbm, 204, rfl⟩
abbrev main_c_89 : Ref sig .tc := ⟨.hbm, 205, rfl⟩
abbrev main_c_90 : Ref sig .tc := ⟨.hbm, 206, rfl⟩
abbrev main_v87 : Ref sig .tc := ⟨.hbm, 207, rfl⟩
abbrev main_c_91 : Ref sig .tc := ⟨.hbm, 208, rfl⟩
abbrev main_c_92 : Ref sig .tc := ⟨.hbm, 209, rfl⟩
abbrev main_v88 : Ref sig .tc := ⟨.hbm, 210, rfl⟩
abbrev main_c_93 : Ref sig .tc := ⟨.hbm, 211, rfl⟩
abbrev main_c_94 : Ref sig .tc := ⟨.hbm, 212, rfl⟩
abbrev main_v89 : Ref sig .tc := ⟨.hbm, 213, rfl⟩
abbrev main_c_95 : Ref sig .tc := ⟨.hbm, 214, rfl⟩
abbrev main_c_96 : Ref sig .tc := ⟨.hbm, 215, rfl⟩
abbrev main_v90 : Ref sig .tc := ⟨.hbm, 216, rfl⟩
abbrev main_v91 : Ref sig .tc := ⟨.hbm, 217, rfl⟩
abbrev main_v92 : Ref sig .tc := ⟨.hbm, 218, rfl⟩
abbrev main_v93 : Ref sig .tc := ⟨.hbm, 219, rfl⟩
abbrev main_v94 : Ref sig .tc := ⟨.hbm, 220, rfl⟩
abbrev main_cst_97 : Ref sig .tc := ⟨.hbm, 221, rfl⟩
abbrev main_v95 : Ref sig .tc := ⟨.hbm, 222, rfl⟩
abbrev main_c_98 : Ref sig .tc := ⟨.hbm, 223, rfl⟩
abbrev main_c_99 : Ref sig .tc := ⟨.hbm, 224, rfl⟩
abbrev main_v96 : Ref sig .tc := ⟨.hbm, 225, rfl⟩
abbrev main_c_100 : Ref sig .tc := ⟨.hbm, 226, rfl⟩
abbrev main_c_101 : Ref sig .tc := ⟨.hbm, 227, rfl⟩
abbrev main_v97 : Ref sig .tc := ⟨.hbm, 228, rfl⟩
abbrev main_c_102 : Ref sig .tc := ⟨.hbm, 229, rfl⟩
abbrev main_c_103 : Ref sig .tc := ⟨.hbm, 230, rfl⟩
abbrev main_v98 : Ref sig .tc := ⟨.hbm, 231, rfl⟩
abbrev main_c_104 : Ref sig .tc := ⟨.hbm, 232, rfl⟩
abbrev main_c_105 : Ref sig .tc := ⟨.hbm, 233, rfl⟩
abbrev main_v99 : Ref sig .tc := ⟨.hbm, 234, rfl⟩
abbrev main_v100 : Ref sig .tc := ⟨.hbm, 235, rfl⟩
abbrev main_v101 : Ref sig .tc := ⟨.hbm, 236, rfl⟩
abbrev main_v102 : Ref sig .tc := ⟨.hbm, 237, rfl⟩
abbrev main_v103 : Ref sig .tc := ⟨.hbm, 238, rfl⟩
abbrev main_v104 : Ref sig .tc := ⟨.hbm, 239, rfl⟩
abbrev main_cst_106 : Ref sig .tc := ⟨.hbm, 240, rfl⟩
abbrev main_v105 : Ref sig .tc := ⟨.hbm, 241, rfl⟩
abbrev main_c_107 : Ref sig .tc := ⟨.hbm, 242, rfl⟩
abbrev main_c_108 : Ref sig .tc := ⟨.hbm, 243, rfl⟩
abbrev main_v106 : Ref sig .tc := ⟨.hbm, 244, rfl⟩
abbrev main_c_109 : Ref sig .tc := ⟨.hbm, 245, rfl⟩
abbrev main_c_110 : Ref sig .tc := ⟨.hbm, 246, rfl⟩
abbrev main_v107 : Ref sig .tc := ⟨.hbm, 247, rfl⟩
abbrev main_c_111 : Ref sig .tc := ⟨.hbm, 248, rfl⟩
abbrev main_c_112 : Ref sig .tc := ⟨.hbm, 249, rfl⟩
abbrev main_v108 : Ref sig .tc := ⟨.hbm, 250, rfl⟩
abbrev main_c_113 : Ref sig .tc := ⟨.hbm, 251, rfl⟩
abbrev main_c_114 : Ref sig .tc := ⟨.hbm, 252, rfl⟩
abbrev main_v109 : Ref sig .tc := ⟨.hbm, 253, rfl⟩
abbrev main_v110 : Ref sig .tc := ⟨.hbm, 254, rfl⟩
abbrev main_cst_115 : Ref sig .tc := ⟨.hbm, 255, rfl⟩
abbrev main_v111 : Ref sig .tc := ⟨.hbm, 256, rfl⟩
abbrev main_c_116 : Ref sig .tc := ⟨.hbm, 257, rfl⟩
abbrev main_c_117 : Ref sig .tc := ⟨.hbm, 258, rfl⟩
abbrev main_v112 : Ref sig .tc := ⟨.hbm, 259, rfl⟩
abbrev main_c_118 : Ref sig .tc := ⟨.hbm, 260, rfl⟩
abbrev main_c_119 : Ref sig .tc := ⟨.hbm, 261, rfl⟩
abbrev main_v113 : Ref sig .tc := ⟨.hbm, 262, rfl⟩
abbrev main_c_120 : Ref sig .tc := ⟨.hbm, 263, rfl⟩
abbrev main_c_121 : Ref sig .tc := ⟨.hbm, 264, rfl⟩
abbrev main_v114 : Ref sig .tc := ⟨.hbm, 265, rfl⟩
abbrev main_c_122 : Ref sig .tc := ⟨.hbm, 266, rfl⟩
abbrev main_c_123 : Ref sig .tc := ⟨.hbm, 267, rfl⟩
abbrev main_v115 : Ref sig .tc := ⟨.hbm, 268, rfl⟩
abbrev main_v116 : Ref sig .tc := ⟨.hbm, 269, rfl⟩
abbrev main_cst_124 : Ref sig .tc := ⟨.hbm, 270, rfl⟩
abbrev main_v117 : Ref sig .tc := ⟨.hbm, 271, rfl⟩
abbrev main_c_125 : Ref sig .tc := ⟨.hbm, 272, rfl⟩
abbrev main_c_126 : Ref sig .tc := ⟨.hbm, 273, rfl⟩
abbrev main_v118 : Ref sig .tc := ⟨.hbm, 274, rfl⟩
abbrev main_c_127 : Ref sig .tc := ⟨.hbm, 275, rfl⟩
abbrev main_c_128 : Ref sig .tc := ⟨.hbm, 276, rfl⟩
abbrev main_v119 : Ref sig .tc := ⟨.hbm, 277, rfl⟩
abbrev main_c_129 : Ref sig .tc := ⟨.hbm, 278, rfl⟩
abbrev main_c_130 : Ref sig .tc := ⟨.hbm, 279, rfl⟩
abbrev main_v120 : Ref sig .tc := ⟨.hbm, 280, rfl⟩
abbrev main_c_131 : Ref sig .tc := ⟨.hbm, 281, rfl⟩
abbrev main_c_132 : Ref sig .tc := ⟨.hbm, 282, rfl⟩
abbrev main_v121 : Ref sig .tc := ⟨.hbm, 283, rfl⟩
abbrev main_v122 : Ref sig .tc := ⟨.hbm, 284, rfl⟩
abbrev main_v123 : Ref sig .tc := ⟨.hbm, 285, rfl⟩
abbrev main_v124 : Ref sig .tc := ⟨.hbm, 286, rfl⟩
abbrev main_v125 : Ref sig .tc := ⟨.hbm, 287, rfl⟩
abbrev main_cst_133 : Ref sig .tc := ⟨.hbm, 288, rfl⟩
abbrev main_v126 : Ref sig .tc := ⟨.hbm, 289, rfl⟩
abbrev main_c_134 : Ref sig .tc := ⟨.hbm, 290, rfl⟩
abbrev main_c_135 : Ref sig .tc := ⟨.hbm, 291, rfl⟩
abbrev main_v127 : Ref sig .tc := ⟨.hbm, 292, rfl⟩
abbrev main_c_136 : Ref sig .tc := ⟨.hbm, 293, rfl⟩
abbrev main_c_137 : Ref sig .tc := ⟨.hbm, 294, rfl⟩
abbrev main_v128 : Ref sig .tc := ⟨.hbm, 295, rfl⟩
abbrev main_c_138 : Ref sig .tc := ⟨.hbm, 296, rfl⟩
abbrev main_c_139 : Ref sig .tc := ⟨.hbm, 297, rfl⟩
abbrev main_v129 : Ref sig .tc := ⟨.hbm, 298, rfl⟩
abbrev main_c_140 : Ref sig .tc := ⟨.hbm, 299, rfl⟩
abbrev main_c_141 : Ref sig .tc := ⟨.hbm, 300, rfl⟩
abbrev main_v130 : Ref sig .tc := ⟨.hbm, 301, rfl⟩
abbrev main_v131 : Ref sig .tc := ⟨.hbm, 302, rfl⟩
abbrev main_v132 : Ref sig .tc := ⟨.hbm, 303, rfl⟩
abbrev main_v133 : Ref sig .tc := ⟨.hbm, 304, rfl⟩
abbrev main_v134 : Ref sig .tc := ⟨.hbm, 305, rfl⟩
abbrev main_cst_142 : Ref sig .tc := ⟨.hbm, 306, rfl⟩
abbrev main_v135 : Ref sig .tc := ⟨.hbm, 307, rfl⟩
abbrev main_c_143 : Ref sig .tc := ⟨.hbm, 308, rfl⟩
abbrev main_c_144 : Ref sig .tc := ⟨.hbm, 309, rfl⟩
abbrev main_v136 : Ref sig .tc := ⟨.hbm, 310, rfl⟩
abbrev main_c_145 : Ref sig .tc := ⟨.hbm, 311, rfl⟩
abbrev main_c_146 : Ref sig .tc := ⟨.hbm, 312, rfl⟩
abbrev main_v137 : Ref sig .tc := ⟨.hbm, 313, rfl⟩
abbrev main_c_147 : Ref sig .tc := ⟨.hbm, 314, rfl⟩
abbrev main_c_148 : Ref sig .tc := ⟨.hbm, 315, rfl⟩
abbrev main_v138 : Ref sig .tc := ⟨.hbm, 316, rfl⟩
abbrev main_c_149 : Ref sig .tc := ⟨.hbm, 317, rfl⟩
abbrev main_c_150 : Ref sig .tc := ⟨.hbm, 318, rfl⟩
abbrev main_v139 : Ref sig .tc := ⟨.hbm, 319, rfl⟩
abbrev main_v140 : Ref sig .tc := ⟨.hbm, 320, rfl⟩
abbrev main_v141 : Ref sig .tc := ⟨.hbm, 321, rfl⟩
abbrev main_v142 : Ref sig .tc := ⟨.hbm, 322, rfl⟩
abbrev main_v143 : Ref sig .tc := ⟨.hbm, 323, rfl⟩
abbrev main_v144 : Ref sig .tc := ⟨.hbm, 324, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg30_0 : Ref sig .tc := ⟨.vmem, 31, rfl⟩
abbrev cc0_stg31_0 : Ref sig .tc := ⟨.vmem, 32, rfl⟩
abbrev cc0_stg31_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem30_0 : DmaSem sig := 31
abbrev cc0_sem31_0 : DmaSem sig := 32
abbrev cc0_sem31_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x320 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x320 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S64x320 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x320 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S320x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 2 → Memref sig .tc .vmem S400x252 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]
-- ==== KernelIdeal.lean ====
variable {F : FTy → Type} [FloatOps F] [Named F]
def κ : String → Option EReal := fun
  | "inv15" => some ((15⁻¹ : ℝ) : EReal)
  | "inv3" => some ((3⁻¹ : ℝ) : EReal)
  | "inv31" => some ((31⁻¹ : ℝ) : EReal)
  | "inv7" => some ((7⁻¹ : ℝ) : EReal)
  | _ => none
-- ==== ReferenceIdeal.lean ====
abbrev S10000x32 : Shape := ⟨2, ![10000, 32]⟩
abbrev S32x32 : Shape := ⟨2, ![32, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S48x64 : Shape := ⟨2, ![48, 64]⟩
abbrev S64 : Shape := ⟨1, ![64]⟩
abbrev S64x64 : Shape := ⟨2, ![64, 64]⟩
abbrev S48x32 : Shape := ⟨2, ![48, 32]⟩
abbrev S80x80 : Shape := ⟨2, ![80, 80]⟩
abbrev S80 : Shape := ⟨1, ![80]⟩
abbrev S80x32 : Shape := ⟨2, ![80, 32]⟩
abbrev S10000x1x32 : Shape := ⟨3, ![10000, 1, 32]⟩
abbrev S1x1x32 : Shape := ⟨3, ![1, 1, 32]⟩
abbrev S_ : Shape := ⟨0, ![]⟩
abbrev S10000x1x16 : Shape := ⟨3, ![10000, 1, 16]⟩
abbrev S1x1x16 : Shape := ⟨3, ![1, 1, 16]⟩
abbrev S10000x16 : Shape := ⟨2, ![10000, 16]⟩
abbrev S1x16 : Shape := ⟨2, ![1, 16]⟩
abbrev S10000x1x48 : Shape := ⟨3, ![10000, 1, 48]⟩
abbrev S10000x1x64 : Shape := ⟨3, ![10000, 1, 64]⟩
abbrev S1x1x64 : Shape := ⟨3, ![1, 1, 64]⟩
abbrev S10000x2x32 : Shape := ⟨3, ![10000, 2, 32]⟩
abbrev S10000x1x2x32 : Shape := ⟨4, ![10000, 1, 2, 32]⟩
abbrev S10000x3x32 : Shape := ⟨3, ![10000, 3, 32]⟩
abbrev S10000x3x16 : Shape := ⟨3, ![10000, 3, 16]⟩
abbrev S10000x3x80 : Shape := ⟨3, ![10000, 3, 80]⟩
abbrev S1x1x80 : Shape := ⟨3, ![1, 1, 80]⟩
abbrev S10000x2x16 : Shape := ⟨3, ![10000, 2, 16]⟩
abbrev S10000x2x48 : Shape := ⟨3, ![10000, 2, 48]⟩
abbrev S10000x2x64 : Shape := ⟨3, ![10000, 2, 64]⟩
abbrev S10000x4x32 : Shape := ⟨3, ![10000, 4, 32]⟩
abbrev S10000x3x48 : Shape := ⟨3, ![10000, 3, 48]⟩
abbrev S10000x1x4x32 : Shape := ⟨4, ![10000, 1, 4, 32]⟩
abbrev S10000x2x2x32 : Shape := ⟨4, ![10000, 2, 2, 32]⟩
abbrev S10000x7x32 : Shape := ⟨3, ![10000, 7, 32]⟩
abbrev S10000x7x16 : Shape := ⟨3, ![10000, 7, 16]⟩
abbrev S10000x7x80 : Shape := ⟨3, ![10000, 7, 80]⟩
abbrev S10000x4x16 : Shape := ⟨3, ![10000, 4, 16]⟩
abbrev S10000x4x48 : Shape := ⟨3, ![10000, 4, 48]⟩
abbrev S10000x4x64 : Shape := ⟨3, ![10000, 4, 64]⟩
abbrev S10000x8x32 : Shape := ⟨3, ![10000, 8, 32]⟩
abbrev S10000x7x48 : Shape := ⟨3, ![10000, 7, 48]⟩
abbrev S10000x1x8x32 : Shape := ⟨4, ![10000, 1, 8, 32]⟩
abbrev S10000x2x4x32 : Shape := ⟨4, ![10000, 2, 4, 32]⟩
abbrev S10000x4x2x32 : Shape := ⟨4, ![10000, 4, 2, 32]⟩
abbrev S10000x15x32 : Shape := ⟨3, ![10000, 15, 32]⟩
abbrev S10000x15x16 : Shape := ⟨3, ![10000, 15, 16]⟩
abbrev S10000x15x80 : Shape := ⟨3, ![10000, 15, 80]⟩
abbrev S10000x8x16 : Shape := ⟨3, ![10000, 8, 16]⟩
abbrev S10000x8x48 : Shape := ⟨3, ![10000, 8, 48]⟩
abbrev S10000x8x64 : Shape := ⟨3, ![10000, 8, 64]⟩
abbrev S10000x16x32 : Shape := ⟨3, ![10000, 16, 32]⟩
abbrev S10000x15x48 : Shape := ⟨3, ![10000, 15, 48]⟩
abbrev S10000x1x16x32 : Shape := ⟨4, ![10000, 1, 16, 32]⟩
abbrev S10000x2x8x32 : Shape := ⟨4, ![10000, 2, 8, 32]⟩
abbrev S10000x4x4x32 : Shape := ⟨4, ![10000, 4, 4, 32]⟩
abbrev S10000x8x2x32 : Shape := ⟨4, ![10000, 8, 2, 32]⟩
abbrev S10000x31x32 : Shape := ⟨3, ![10000, 31, 32]⟩
abbrev S10000x31x16 : Shape := ⟨3, ![10000, 31, 16]⟩
abbrev S10000x31x80 : Shape := ⟨3, ![10000, 31, 80]⟩
abbrev S10000x16x16 : Shape := ⟨3, ![10000, 16, 16]⟩
abbrev S10000x16x48 : Shape := ⟨3, ![10000, 16, 48]⟩
abbrev S10000x16x64 : Shape := ⟨3, ![10000, 16, 64]⟩
abbrev S10000x32x32 : Shape := ⟨3, ![10000, 32, 32]⟩
abbrev S10000x31x48 : Shape := ⟨3, ![10000, 31, 48]⟩
abbrev S10000x1x32x32 : Shape := ⟨4, ![10000, 1, 32, 32]⟩
abbrev S10000x2x16x32 : Shape := ⟨4, ![10000, 2, 16, 32]⟩
abbrev S10000x4x8x32 : Shape := ⟨4, ![10000, 4, 8, 32]⟩
abbrev S10000x8x4x32 : Shape := ⟨4, ![10000, 8, 4, 32]⟩
abbrev S10000x16x2x32 : Shape := ⟨4, ![10000, 16, 2, 32]⟩
abbrev S10000x63x32 : Shape := ⟨3, ![10000, 63, 32]⟩
abbrev S10000x63x16 : Shape := ⟨3, ![10000, 63, 16]⟩
abbrev S10000x63x80 : Shape := ⟨3, ![10000, 63, 80]⟩
abbrev S10000x63x4 : Shape := ⟨3, ![10000, 63, 4]⟩
abbrev S10000x252 : Shape := ⟨2, ![10000, 252]⟩

abbrev nBuf : Space → Nat
  | .hbm => 751
  | .vmem => 0
  | .smem => 0
  | _ => 0

abbrev hbmTy0_0 (i : Nat) : BufTy := match i % 128 with
  | 0 => ⟨S10000x32, .f32⟩
  | 1 => ⟨S32x32, .f32⟩
  | 2 => ⟨S32, .f32⟩
  | 3 => ⟨S32x16, .f32⟩
  | 4 => ⟨S16, .f32⟩
  | 5 => ⟨S16x16, .f32⟩
  | 6 => ⟨S16, .f32⟩
  | 7 => ⟨S16x16, .f32⟩
  | 8 => ⟨S16, .f32⟩
  | 9 => ⟨S48x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S48x32, .f32⟩
  | 16 => ⟨S32, .f32⟩
  | 17 => ⟨S32x32, .f32⟩
  | 18 => ⟨S32, .f32⟩
  | 19 => ⟨S32x32, .f32⟩
  | 20 => ⟨S32, .f32⟩
  | 21 => ⟨S80x80, .f32⟩
  | 22 => ⟨S80, .f32⟩
  | 23 => ⟨S80x32, .f32⟩
  | 24 => ⟨S32, .f32⟩
  | 25 => ⟨S32x32, .f32⟩
  | 26 => ⟨S32, .f32⟩
  | 27 => ⟨S10000x1x32, .f32⟩
  | 28 => ⟨S10000x1x32, .f32⟩
  | 29 => ⟨S1x1x32, .f32⟩
  | 30 => ⟨S10000x1x32, .f32⟩
  | 31 => ⟨S10000x1x32, .f32⟩
  | 32 => ⟨S_, .f32⟩
  | 33 => ⟨S10000x1x32, .f32⟩
  | 34 => ⟨S10000x1x32, .f32⟩
  | 35 => ⟨S10000x1x16, .f32⟩
  | 36 => ⟨S1x1x16, .f32⟩
  | 37 => ⟨S10000x1x16, .f32⟩
  | 38 => ⟨S10000x1x16, .f32⟩
  | 39 => ⟨S_, .f32⟩
  | 40 => ⟨S10000x1x16, .f32⟩
  | 41 => ⟨S10000x1x16, .f32⟩
  | 42 => ⟨S_, .f32⟩
  | 43 => ⟨S10000x16, .f32⟩
  | 44 => ⟨S_, .f32⟩
  | 45 => ⟨S10000x16, .f32⟩
  | 46 => ⟨S10000x16, .f32⟩
  | 47 => ⟨S10000x16, .f32⟩
  | 48 => ⟨S1x16, .f32⟩
  | 49 => ⟨S10000x16, .f32⟩
  | 50 => ⟨S10000x16, .f32⟩
  | 51 => ⟨S_, .f32⟩
  | 52 => ⟨S10000x16, .f32⟩
  | 53 => ⟨S10000x16, .f32⟩
  | 54 => ⟨S10000x16, .f32⟩
  | 55 => ⟨S1x16, .f32⟩
  | 56 => ⟨S10000x16, .f32⟩
  | 57 => ⟨S10000x16, .f32⟩
  | 58 => ⟨S_, .f32⟩
  | 59 => ⟨S10000x16, .f32⟩
  | 60 => ⟨S10000x16, .f32⟩
  | 61 => ⟨S10000x1x16, .f32⟩
  | 62 => ⟨S10000x1x48, .f32⟩
  | 63 => ⟨S10000x1x64, .f32⟩
  | 64 => ⟨S1x1x64, .f32⟩
  | 65 => ⟨S10000x1x64, .f32⟩
  | 66 => ⟨S10000x1x64, .f32⟩
  | 67 => ⟨S_, .f32⟩
  | 68 => ⟨S10000x1x64, .f32⟩
  | 69 => ⟨S10000x1x64, .f32⟩
  | 70 => ⟨S10000x1x64, .f32⟩
  | 71 => ⟨S1x1x64, .f32⟩
  | 72 => ⟨S10000x1x64, .f32⟩
  | 73 => ⟨S10000x1x64, .f32⟩
  | 74 => ⟨S_, .f32⟩
  | 75 => ⟨S10000x1x64, .f32⟩
  | 76 => ⟨S10000x1x64, .f32⟩
  | 77 => ⟨S10000x1x64, .f32⟩
  | 78 => ⟨S1x1x64, .f32⟩
  | 79 => ⟨S10000x1x64, .f32⟩
  | 80 => ⟨S10000x1x64, .f32⟩
  | 81 => ⟨S_, .f32⟩
  | 82 => ⟨S10000x1x64, .f32⟩
  | 83 => ⟨S10000x1x64, .f32⟩
  | 84 => ⟨S10000x2x32, .f32⟩
  | 85 => ⟨S10000x1x16, .f32⟩
  | 86 => ⟨S10000x1x48, .f32⟩
  | 87 => ⟨S10000x1x32, .f32⟩
  | 88 => ⟨S1x1x32, .f32⟩
  | 89 => ⟨S10000x1x32, .f32⟩
  | 90 => ⟨S10000x1x32, .f32⟩
  | 91 => ⟨S_, .f32⟩
  | 92 => ⟨S10000x1x32, .f32⟩
  | 93 => ⟨S10000x1x32, .f32⟩
  | 94 => ⟨S10000x1x32, .f32⟩
  | 95 => ⟨S1x1x32, .f32⟩
  | 96 => ⟨S10000x1x32, .f32⟩
  | 97 => ⟨S10000x1x32, .f32⟩
  | 98 => ⟨S_, .f32⟩
  | 99 => ⟨S10000x1x32, .f32⟩
  | 100 => ⟨S10000x1x32, .f32⟩
  | 101 => ⟨S10000x1x32, .f32⟩
  | 102 => ⟨S1x1x32, .f32⟩
  | 103 => ⟨S10000x1x32, .f32⟩
  | 104 => ⟨S10000x1x32, .f32⟩
  | 105 => ⟨S_, .f32⟩
  | 106 => ⟨S10000x1x32, .f32⟩
  | 107 => ⟨S10000x1x32, .f32⟩
  | 108 => ⟨S_, .f32⟩
  | 109 => ⟨S10000x1x32, .f32⟩
  | 110 => ⟨S10000x1x2x32, .f32⟩
  | 111 => ⟨S10000x2x32, .f32⟩
  | 112 => ⟨S_, .f32⟩
  | 113 => ⟨S10000x2x32, .f32⟩
  | 114 => ⟨S10000x2x32, .f32⟩
  | 115 => ⟨S10000x3x32, .f32⟩
  | 116 => ⟨S10000x3x32, .f32⟩
  | 117 => ⟨S10000x1x16, .f32⟩
  | 118 => ⟨S10000x3x16, .f32⟩
  | 119 => ⟨S10000x3x80, .f32⟩
  | 120 => ⟨S10000x3x80, .f32⟩
  | 121 => ⟨S1x1x80, .f32⟩
  | 122 => ⟨S10000x3x80, .f32⟩
  | 123 => ⟨S10000x3x80, .f32⟩
  | 124 => ⟨S_, .f32⟩
  | 125 => ⟨S10000x3x80, .f32⟩
  | 126 => ⟨S10000x3x80, .f32⟩
  | 127 => ⟨S10000x3x32, .f32⟩
  | _ => ⟨S10000x32, .f32⟩

abbrev hbmTy0_1 (i : Nat) : BufTy := match i % 128 with
  | 0 => ⟨S1x1x32, .f32⟩
  | 1 => ⟨S10000x3x32, .f32⟩
  | 2 => ⟨S10000x3x32, .f32⟩
  | 3 => ⟨S_, .f32⟩
  | 4 => ⟨S10000x3x32, .f32⟩
  | 5 => ⟨S10000x3x32, .f32⟩
  | 6 => ⟨S10000x3x32, .f32⟩
  | 7 => ⟨S1x1x32, .f32⟩
  | 8 => ⟨S10000x3x32, .f32⟩
  | 9 => ⟨S10000x3x32, .f32⟩
  | 10 => ⟨S_, .f32⟩
  | 11 => ⟨S10000x3x32, .f32⟩
  | 12 => ⟨S10000x3x32, .f32⟩
  | 13 => ⟨S10000x3x32, .f32⟩
  | 14 => ⟨S1x1x32, .f32⟩
  | 15 => ⟨S10000x3x32, .f32⟩
  | 16 => ⟨S10000x3x32, .f32⟩
  | 17 => ⟨S_, .f32⟩
  | 18 => ⟨S10000x3x32, .f32⟩
  | 19 => ⟨S10000x3x32, .f32⟩
  | 20 => ⟨S10000x3x16, .f32⟩
  | 21 => ⟨S1x1x16, .f32⟩
  | 22 => ⟨S10000x3x16, .f32⟩
  | 23 => ⟨S10000x3x16, .f32⟩
  | 24 => ⟨S_, .f32⟩
  | 25 => ⟨S10000x3x16, .f32⟩
  | 26 => ⟨S10000x3x16, .f32⟩
  | 27 => ⟨S_, .f32⟩
  | 28 => ⟨S10000x16, .f32⟩
  | 29 => ⟨S_, .f32⟩
  | 30 => ⟨S10000x16, .f32⟩
  | 31 => ⟨S10000x16, .f32⟩
  | 32 => ⟨S10000x16, .f32⟩
  | 33 => ⟨S1x16, .f32⟩
  | 34 => ⟨S10000x16, .f32⟩
  | 35 => ⟨S10000x16, .f32⟩
  | 36 => ⟨S_, .f32⟩
  | 37 => ⟨S10000x16, .f32⟩
  | 38 => ⟨S10000x16, .f32⟩
  | 39 => ⟨S10000x16, .f32⟩
  | 40 => ⟨S1x16, .f32⟩
  | 41 => ⟨S10000x16, .f32⟩
  | 42 => ⟨S10000x16, .f32⟩
  | 43 => ⟨S_, .f32⟩
  | 44 => ⟨S10000x16, .f32⟩
  | 45 => ⟨S10000x16, .f32⟩
  | 46 => ⟨S10000x2x32, .f32⟩
  | 47 => ⟨S10000x1x16, .f32⟩
  | 48 => ⟨S10000x2x16, .f32⟩
  | 49 => ⟨S10000x2x48, .f32⟩
  | 50 => ⟨S10000x2x64, .f32⟩
  | 51 => ⟨S1x1x64, .f32⟩
  | 52 => ⟨S10000x2x64, .f32⟩
  | 53 => ⟨S10000x2x64, .f32⟩
  | 54 => ⟨S_, .f32⟩
  | 55 => ⟨S10000x2x64, .f32⟩
  | 56 => ⟨S10000x2x64, .f32⟩
  | 57 => ⟨S10000x2x64, .f32⟩
  | 58 => ⟨S1x1x64, .f32⟩
  | 59 => ⟨S10000x2x64, .f32⟩
  | 60 => ⟨S10000x2x64, .f32⟩
  | 61 => ⟨S_, .f32⟩
  | 62 => ⟨S10000x2x64, .f32⟩
  | 63 => ⟨S10000x2x64, .f32⟩
  | 64 => ⟨S10000x2x64, .f32⟩
  | 65 => ⟨S1x1x64, .f32⟩
  | 66 => ⟨S10000x2x64, .f32⟩
  | 67 => ⟨S10000x2x64, .f32⟩
  | 68 => ⟨S_, .f32⟩
  | 69 => ⟨S10000x2x64, .f32⟩
  | 70 => ⟨S10000x2x64, .f32⟩
  | 71 => ⟨S10000x4x32, .f32⟩
  | 72 => ⟨S10000x1x16, .f32⟩
  | 73 => ⟨S10000x3x16, .f32⟩
  | 74 => ⟨S10000x3x48, .f32⟩
  | 75 => ⟨S10000x3x32, .f32⟩
  | 76 => ⟨S1x1x32, .f32⟩
  | 77 => ⟨S10000x3x32, .f32⟩
  | 78 => ⟨S10000x3x32, .f32⟩
  | 79 => ⟨S_, .f32⟩
  | 80 => ⟨S10000x3x32, .f32⟩
  | 81 => ⟨S10000x3x32, .f32⟩
  | 82 => ⟨S10000x3x32, .f32⟩
  | 83 => ⟨S1x1x32, .f32⟩
  | 84 => ⟨S10000x3x32, .f32⟩
  | 85 => ⟨S10000x3x32, .f32⟩
  | 86 => ⟨S_, .f32⟩
  | 87 => ⟨S10000x3x32, .f32⟩
  | 88 => ⟨S10000x3x32, .f32⟩
  | 89 => ⟨S10000x3x32, .f32⟩
  | 90 => ⟨S1x1x32, .f32⟩
  | 91 => ⟨S10000x3x32, .f32⟩
  | 92 => ⟨S10000x3x32, .f32⟩
  | 93 => ⟨S_, .f32⟩
  | 94 => ⟨S10000x3x32, .f32⟩
  | 95 => ⟨S10000x3x32, .f32⟩
  | 96 => ⟨S_, .f32⟩
  | 97 => ⟨S10000x1x32, .f32⟩
  | 98 => ⟨S10000x1x32, .f32⟩
  | 99 => ⟨S10000x1x2x32, .f32⟩
  | 100 => ⟨S10000x2x32, .f32⟩
  | 101 => ⟨S_, .f32⟩
  | 102 => ⟨S10000x2x32, .f32⟩
  | 103 => ⟨S10000x2x32, .f32⟩
  | 104 => ⟨S10000x1x32, .f32⟩
  | 105 => ⟨S10000x1x4x32, .f32⟩
  | 106 => ⟨S10000x4x32, .f32⟩
  | 107 => ⟨S_, .f32⟩
  | 108 => ⟨S10000x4x32, .f32⟩
  | 109 => ⟨S10000x4x32, .f32⟩
  | 110 => ⟨S10000x2x32, .f32⟩
  | 111 => ⟨S10000x2x2x32, .f32⟩
  | 112 => ⟨S10000x4x32, .f32⟩
  | 113 => ⟨S10000x4x32, .f32⟩
  | 114 => ⟨S10000x7x32, .f32⟩
  | 115 => ⟨S10000x7x32, .f32⟩
  | 116 => ⟨S10000x1x16, .f32⟩
  | 117 => ⟨S10000x7x16, .f32⟩
  | 118 => ⟨S10000x7x80, .f32⟩
  | 119 => ⟨S10000x7x80, .f32⟩
  | 120 => ⟨S1x1x80, .f32⟩
  | 121 => ⟨S10000x7x80, .f32⟩
  | 122 => ⟨S10000x7x80, .f32⟩
  | 123 => ⟨S_, .f32⟩
  | 124 => ⟨S10000x7x80, .f32⟩
  | 125 => ⟨S10000x7x80, .f32⟩
  | 126 => ⟨S10000x7x32, .f32⟩
  | 127 => ⟨S1x1x32, .f32⟩
  | _ => ⟨S10000x32, .f32⟩

abbrev hbmTy0_2 (i : Nat) : BufTy := match i % 128 with
  | 0 => ⟨S10000x7x32, .f32⟩
  | 1 => ⟨S10000x7x32, .f32⟩
  | 2 => ⟨S_, .f32⟩
  | 3 => ⟨S10000x7x32, .f32⟩
  | 4 => ⟨S10000x7x32, .f32⟩
  | 5 => ⟨S10000x7x32, .f32⟩
  | 6 => ⟨S1x1x32, .f32⟩
  | 7 => ⟨S10000x7x32, .f32⟩
  | 8 => ⟨S10000x7x32, .f32⟩
  | 9 => ⟨S_, .f32⟩
  | 10 => ⟨S10000x7x32, .f32⟩
  | 11 => ⟨S10000x7x32, .f32⟩
  | 12 => ⟨S10000x7x32, .f32⟩
  | 13 => ⟨S1x1x32, .f32⟩
  | 14 => ⟨S10000x7x32, .f32⟩
  | 15 => ⟨S10000x7x32, .f32⟩
  | 16 => ⟨S_, .f32⟩
  | 17 => ⟨S10000x7x32, .f32⟩
  | 18 => ⟨S10000x7x32, .f32⟩
  | 19 => ⟨S10000x7x16, .f32⟩
  | 20 => ⟨S1x1x16, .f32⟩
  | 21 => ⟨S10000x7x16, .f32⟩
  | 22 => ⟨S10000x7x16, .f32⟩
  | 23 => ⟨S_, .f32⟩
  | 24 => ⟨S10000x7x16, .f32⟩
  | 25 => ⟨S10000x7x16, .f32⟩
  | 26 => ⟨S_, .f32⟩
  | 27 => ⟨S10000x16, .f32⟩
  | 28 => ⟨S_, .f32⟩
  | 29 => ⟨S10000x16, .f32⟩
  | 30 => ⟨S10000x16, .f32⟩
  | 31 => ⟨S10000x16, .f32⟩
  | 32 => ⟨S1x16, .f32⟩
  | 33 => ⟨S10000x16, .f32⟩
  | 34 => ⟨S10000x16, .f32⟩
  | 35 => ⟨S_, .f32⟩
  | 36 => ⟨S10000x16, .f32⟩
  | 37 => ⟨S10000x16, .f32⟩
  | 38 => ⟨S10000x16, .f32⟩
  | 39 => ⟨S1x16, .f32⟩
  | 40 => ⟨S10000x16, .f32⟩
  | 41 => ⟨S10000x16, .f32⟩
  | 42 => ⟨S_, .f32⟩
  | 43 => ⟨S10000x16, .f32⟩
  | 44 => ⟨S10000x16, .f32⟩
  | 45 => ⟨S10000x4x32, .f32⟩
  | 46 => ⟨S10000x1x16, .f32⟩
  | 47 => ⟨S10000x4x16, .f32⟩
  | 48 => ⟨S10000x4x48, .f32⟩
  | 49 => ⟨S10000x4x64, .f32⟩
  | 50 => ⟨S1x1x64, .f32⟩
  | 51 => ⟨S10000x4x64, .f32⟩
  | 52 => ⟨S10000x4x64, .f32⟩
  | 53 => ⟨S_, .f32⟩
  | 54 => ⟨S10000x4x64, .f32⟩
  | 55 => ⟨S10000x4x64, .f32⟩
  | 56 => ⟨S10000x4x64, .f32⟩
  | 57 => ⟨S1x1x64, .f32⟩
  | 58 => ⟨S10000x4x64, .f32⟩
  | 59 => ⟨S10000x4x64, .f32⟩
  | 60 => ⟨S_, .f32⟩
  | 61 => ⟨S10000x4x64, .f32⟩
  | 62 => ⟨S10000x4x64, .f32⟩
  | 63 => ⟨S10000x4x64, .f32⟩
  | 64 => ⟨S1x1x64, .f32⟩
  | 65 => ⟨S10000x4x64, .f32⟩
  | 66 => ⟨S10000x4x64, .f32⟩
  | 67 => ⟨S_, .f32⟩
  | 68 => ⟨S10000x4x64, .f32⟩
  | 69 => ⟨S10000x4x64, .f32⟩
  | 70 => ⟨S10000x8x32, .f32⟩
  | 71 => ⟨S10000x1x16, .f32⟩
  | 72 => ⟨S10000x7x16, .f32⟩
  | 73 => ⟨S10000x7x48, .f32⟩
  | 74 => ⟨S10000x7x32, .f32⟩
  | 75 => ⟨S1x1x32, .f32⟩
  | 76 => ⟨S10000x7x32, .f32⟩
  | 77 => ⟨S10000x7x32, .f32⟩
  | 78 => ⟨S_, .f32⟩
  | 79 => ⟨S10000x7x32, .f32⟩
  | 80 => ⟨S10000x7x32, .f32⟩
  | 81 => ⟨S10000x7x32, .f32⟩
  | 82 => ⟨S1x1x32, .f32⟩
  | 83 => ⟨S10000x7x32, .f32⟩
  | 84 => ⟨S10000x7x32, .f32⟩
  | 85 => ⟨S_, .f32⟩
  | 86 => ⟨S10000x7x32, .f32⟩
  | 87 => ⟨S10000x7x32, .f32⟩
  | 88 => ⟨S10000x7x32, .f32⟩
  | 89 => ⟨S1x1x32, .f32⟩
  | 90 => ⟨S10000x7x32, .f32⟩
  | 91 => ⟨S10000x7x32, .f32⟩
  | 92 => ⟨S_, .f32⟩
  | 93 => ⟨S10000x7x32, .f32⟩
  | 94 => ⟨S10000x7x32, .f32⟩
  | 95 => ⟨S_, .f32⟩
  | 96 => ⟨S10000x1x32, .f32⟩
  | 97 => ⟨S10000x1x32, .f32⟩
  | 98 => ⟨S10000x1x2x32, .f32⟩
  | 99 => ⟨S10000x2x32, .f32⟩
  | 100 => ⟨S_, .f32⟩
  | 101 => ⟨S10000x2x32, .f32⟩
  | 102 => ⟨S10000x2x32, .f32⟩
  | 103 => ⟨S10000x1x32, .f32⟩
  | 104 => ⟨S10000x1x4x32, .f32⟩
  | 105 => ⟨S10000x4x32, .f32⟩
  | 106 => ⟨S_, .f32⟩
  | 107 => ⟨S10000x4x32, .f32⟩
  | 108 => ⟨S10000x4x32, .f32⟩
  | 109 => ⟨S10000x2x32, .f32⟩
  | 110 => ⟨S10000x2x2x32, .f32⟩
  | 111 => ⟨S10000x4x32, .f32⟩
  | 112 => ⟨S10000x4x32, .f32⟩
  | 113 => ⟨S10000x1x32, .f32⟩
  | 114 => ⟨S10000x1x8x32, .f32⟩
  | 115 => ⟨S10000x8x32, .f32⟩
  | 116 => ⟨S_, .f32⟩
  | 117 => ⟨S10000x8x32, .f32⟩
  | 118 => ⟨S10000x8x32, .f32⟩
  | 119 => ⟨S10000x2x32, .f32⟩
  | 120 => ⟨S10000x2x4x32, .f32⟩
  | 121 => ⟨S10000x8x32, .f32⟩
  | 122 => ⟨S10000x8x32, .f32⟩
  | 123 => ⟨S10000x4x32, .f32⟩
  | 124 => ⟨S10000x4x2x32, .f32⟩
  | 125 => ⟨S10000x8x32, .f32⟩
  | 126 => ⟨S10000x8x32, .f32⟩
  | 127 => ⟨S10000x15x32, .f32⟩
  | _ => ⟨S10000x32, .f32⟩

abbrev hbmTy0_3 (i : Nat) : BufTy := match i % 128 with
  | 0 => ⟨S10000x15x32, .f32⟩
  | 1 => ⟨S10000x1x16, .f32⟩
  | 2 => ⟨S10000x15x16, .f32⟩
  | 3 => ⟨S10000x15x80, .f32⟩
  | 4 => ⟨S10000x15x80, .f32⟩
  | 5 => ⟨S1x1x80, .f32⟩
  | 6 => ⟨S10000x15x80, .f32⟩
  | 7 => ⟨S10000x15x80, .f32⟩
  | 8 => ⟨S_, .f32⟩
  | 9 => ⟨S10000x15x80, .f32⟩
  | 10 => ⟨S10000x15x80, .f32⟩
  | 11 => ⟨S10000x15x32, .f32⟩
  | 12 => ⟨S1x1x32, .f32⟩
  | 13 => ⟨S10000x15x32, .f32⟩
  | 14 => ⟨S10000x15x32, .f32⟩
  | 15 => ⟨S_, .f32⟩
  | 16 => ⟨S10000x15x32, .f32⟩
  | 17 => ⟨S10000x15x32, .f32⟩
  | 18 => ⟨S10000x15x32, .f32⟩
  | 19 => ⟨S1x1x32, .f32⟩
  | 20 => ⟨S10000x15x32, .f32⟩
  | 21 => ⟨S10000x15x32, .f32⟩
  | 22 => ⟨S_, .f32⟩
  | 23 => ⟨S10000x15x32, .f32⟩
  | 24 => ⟨S10000x15x32, .f32⟩
  | 25 => ⟨S10000x15x32, .f32⟩
  | 26 => ⟨S1x1x32, .f32⟩
  | 27 => ⟨S10000x15x32, .f32⟩
  | 28 => ⟨S10000x15x32, .f32⟩
  | 29 => ⟨S_, .f32⟩
  | 30 => ⟨S10000x15x32, .f32⟩
  | 31 => ⟨S10000x15x32, .f32⟩
  | 32 => ⟨S10000x15x16, .f32⟩
  | 33 => ⟨S1x1x16, .f32⟩
  | 34 => ⟨S10000x15x16, .f32⟩
  | 35 => ⟨S10000x15x16, .f32⟩
  | 36 => ⟨S_, .f32⟩
  | 37 => ⟨S10000x15x16, .f32⟩
  | 38 => ⟨S10000x15x16, .f32⟩
  | 39 => ⟨S_, .f32⟩
  | 40 => ⟨S10000x16, .f32⟩
  | 41 => ⟨S_, .f32⟩
  | 42 => ⟨S10000x16, .f32⟩
  | 43 => ⟨S10000x16, .f32⟩
  | 44 => ⟨S10000x16, .f32⟩
  | 45 => ⟨S1x16, .f32⟩
  | 46 => ⟨S10000x16, .f32⟩
  | 47 => ⟨S10000x16, .f32⟩
  | 48 => ⟨S_, .f32⟩
  | 49 => ⟨S10000x16, .f32⟩
  | 50 => ⟨S10000x16, .f32⟩
  | 51 => ⟨S10000x16, .f32⟩
  | 52 => ⟨S1x16, .f32⟩
  | 53 => ⟨S10000x16, .f32⟩
  | 54 => ⟨S10000x16, .f32⟩
  | 55 => ⟨S_, .f32⟩
  | 56 => ⟨S10000x16, .f32⟩
  | 57 => ⟨S10000x16, .f32⟩
  | 58 => ⟨S10000x8x32, .f32⟩
  | 59 => ⟨S10000x1x16, .f32⟩
  | 60 => ⟨S10000x8x16, .f32⟩
  | 61 => ⟨S10000x8x48, .f32⟩
  | 62 => ⟨S10000x8x64, .f32⟩
  | 63 => ⟨S1x1x64, .f32⟩
  | 64 => ⟨S10000x8x64, .f32⟩
  | 65 => ⟨S10000x8x64, .f32⟩
  | 66 => ⟨S_, .f32⟩
  | 67 => ⟨S10000x8x64, .f32⟩
  | 68 => ⟨S10000x8x64, .f32⟩
  | 69 => ⟨S10000x8x64, .f32⟩
  | 70 => ⟨S1x1x64, .f32⟩
  | 71 => ⟨S10000x8x64, .f32⟩
  | 72 => ⟨S10000x8x64, .f32⟩
  | 73 => ⟨S_, .f32⟩
  | 74 => ⟨S10000x8x64, .f32⟩
  | 75 => ⟨S10000x8x64, .f32⟩
  | 76 => ⟨S10000x8x64, .f32⟩
  | 77 => ⟨S1x1x64, .f32⟩
  | 78 => ⟨S10000x8x64, .f32⟩
  | 79 => ⟨S10000x8x64, .f32⟩
  | 80 => ⟨S_, .f32⟩
  | 81 => ⟨S10000x8x64, .f32⟩
  | 82 => ⟨S10000x8x64, .f32⟩
  | 83 => ⟨S10000x16x32, .f32⟩
  | 84 => ⟨S10000x1x16, .f32⟩
  | 85 => ⟨S10000x15x16, .f32⟩
  | 86 => ⟨S10000x15x48, .f32⟩
  | 87 => ⟨S10000x15x32, .f32⟩
  | 88 => ⟨S1x1x32, .f32⟩
  | 89 => ⟨S10000x15x32, .f32⟩
  | 90 => ⟨S10000x15x32, .f32⟩
  | 91 => ⟨S_, .f32⟩
  | 92 => ⟨S10000x15x32, .f32⟩
  | 93 => ⟨S10000x15x32, .f32⟩
  | 94 => ⟨S10000x15x32, .f32⟩
  | 95 => ⟨S1x1x32, .f32⟩
  | 96 => ⟨S10000x15x32, .f32⟩
  | 97 => ⟨S10000x15x32, .f32⟩
  | 98 => ⟨S_, .f32⟩
  | 99 => ⟨S10000x15x32, .f32⟩
  | 100 => ⟨S10000x15x32, .f32⟩
  | 101 => ⟨S10000x15x32, .f32⟩
  | 102 => ⟨S1x1x32, .f32⟩
  | 103 => ⟨S10000x15x32, .f32⟩
  | 104 => ⟨S10000x15x32, .f32⟩
  | 105 => ⟨S_, .f32⟩
  | 106 => ⟨S10000x15x32, .f32⟩
  | 107 => ⟨S10000x15x32, .f32⟩
  | 108 => ⟨S_, .f32⟩
  | 109 => ⟨S10000x1x32, .f32⟩
  | 110 => ⟨S10000x1x32, .f32⟩
  | 111 => ⟨S10000x1x2x32, .f32⟩
  | 112 => ⟨S10000x2x32, .f32⟩
  | 113 => ⟨S_, .f32⟩
  | 114 => ⟨S10000x2x32, .f32⟩
  | 115 => ⟨S10000x2x32, .f32⟩
  | 116 => ⟨S10000x1x32, .f32⟩
  | 117 => ⟨S10000x1x4x32, .f32⟩
  | 118 => ⟨S10000x4x32, .f32⟩
  | 119 => ⟨S_, .f32⟩
  | 120 => ⟨S10000x4x32, .f32⟩
  | 121 => ⟨S10000x4x32, .f32⟩
  | 122 => ⟨S10000x2x32, .f32⟩
  | 123 => ⟨S10000x2x2x32, .f32⟩
  | 124 => ⟨S10000x4x32, .f32⟩
  | 125 => ⟨S10000x4x32, .f32⟩
  | 126 => ⟨S10000x1x32, .f32⟩
  | 127 => ⟨S10000x1x8x32, .f32⟩
  | _ => ⟨S10000x32, .f32⟩

abbrev hbmTy0_4 (i : Nat) : BufTy := match i % 128 with
  | 0 => ⟨S10000x8x32, .f32⟩
  | 1 => ⟨S_, .f32⟩
  | 2 => ⟨S10000x8x32, .f32⟩
  | 3 => ⟨S10000x8x32, .f32⟩
  | 4 => ⟨S10000x2x32, .f32⟩
  | 5 => ⟨S10000x2x4x32, .f32⟩
  | 6 => ⟨S10000x8x32, .f32⟩
  | 7 => ⟨S10000x8x32, .f32⟩
  | 8 => ⟨S10000x4x32, .f32⟩
  | 9 => ⟨S10000x4x2x32, .f32⟩
  | 10 => ⟨S10000x8x32, .f32⟩
  | 11 => ⟨S10000x8x32, .f32⟩
  | 12 => ⟨S10000x1x32, .f32⟩
  | 13 => ⟨S10000x1x16x32, .f32⟩
  | 14 => ⟨S10000x16x32, .f32⟩
  | 15 => ⟨S_, .f32⟩
  | 16 => ⟨S10000x16x32, .f32⟩
  | 17 => ⟨S10000x16x32, .f32⟩
  | 18 => ⟨S10000x2x32, .f32⟩
  | 19 => ⟨S10000x2x8x32, .f32⟩
  | 20 => ⟨S10000x16x32, .f32⟩
  | 21 => ⟨S10000x16x32, .f32⟩
  | 22 => ⟨S10000x4x32, .f32⟩
  | 23 => ⟨S10000x4x4x32, .f32⟩
  | 24 => ⟨S10000x16x32, .f32⟩
  | 25 => ⟨S10000x16x32, .f32⟩
  | 26 => ⟨S10000x8x32, .f32⟩
  | 27 => ⟨S10000x8x2x32, .f32⟩
  | 28 => ⟨S10000x16x32, .f32⟩
  | 29 => ⟨S10000x16x32, .f32⟩
  | 30 => ⟨S10000x31x32, .f32⟩
  | 31 => ⟨S10000x31x32, .f32⟩
  | 32 => ⟨S10000x1x16, .f32⟩
  | 33 => ⟨S10000x31x16, .f32⟩
  | 34 => ⟨S10000x31x80, .f32⟩
  | 35 => ⟨S10000x31x80, .f32⟩
  | 36 => ⟨S1x1x80, .f32⟩
  | 37 => ⟨S10000x31x80, .f32⟩
  | 38 => ⟨S10000x31x80, .f32⟩
  | 39 => ⟨S_, .f32⟩
  | 40 => ⟨S10000x31x80, .f32⟩
  | 41 => ⟨S10000x31x80, .f32⟩
  | 42 => ⟨S10000x31x32, .f32⟩
  | 43 => ⟨S1x1x32, .f32⟩
  | 44 => ⟨S10000x31x32, .f32⟩
  | 45 => ⟨S10000x31x32, .f32⟩
  | 46 => ⟨S_, .f32⟩
  | 47 => ⟨S10000x31x32, .f32⟩
  | 48 => ⟨S10000x31x32, .f32⟩
  | 49 => ⟨S10000x31x32, .f32⟩
  | 50 => ⟨S1x1x32, .f32⟩
  | 51 => ⟨S10000x31x32, .f32⟩
  | 52 => ⟨S10000x31x32, .f32⟩
  | 53 => ⟨S_, .f32⟩
  | 54 => ⟨S10000x31x32, .f32⟩
  | 55 => ⟨S10000x31x32, .f32⟩
  | 56 => ⟨S10000x31x32, .f32⟩
  | 57 => ⟨S1x1x32, .f32⟩
  | 58 => ⟨S10000x31x32, .f32⟩
  | 59 => ⟨S10000x31x32, .f32⟩
  | 60 => ⟨S_, .f32⟩
  | 61 => ⟨S10000x31x32, .f32⟩
  | 62 => ⟨S10000x31x32, .f32⟩
  | 63 => ⟨S10000x31x16, .f32⟩
  | 64 => ⟨S1x1x16, .f32⟩
  | 65 => ⟨S10000x31x16, .f32⟩
  | 66 => ⟨S10000x31x16, .f32⟩
  | 67 => ⟨S_, .f32⟩
  | 68 => ⟨S10000x31x16, .f32⟩
  | 69 => ⟨S10000x31x16, .f32⟩
  | 70 => ⟨S_, .f32⟩
  | 71 => ⟨S10000x16, .f32⟩
  | 72 => ⟨S_, .f32⟩
  | 73 => ⟨S10000x16, .f32⟩
  | 74 => ⟨S10000x16, .f32⟩
  | 75 => ⟨S10000x16, .f32⟩
  | 76 => ⟨S1x16, .f32⟩
  | 77 => ⟨S10000x16, .f32⟩
  | 78 => ⟨S10000x16, .f32⟩
  | 79 => ⟨S_, .f32⟩
  | 80 => ⟨S10000x16, .f32⟩
  | 81 => ⟨S10000x16, .f32⟩
  | 82 => ⟨S10000x16, .f32⟩
  | 83 => ⟨S1x16, .f32⟩
  | 84 => ⟨S10000x16, .f32⟩
  | 85 => ⟨S10000x16, .f32⟩
  | 86 => ⟨S_, .f32⟩
  | 87 => ⟨S10000x16, .f32⟩
  | 88 => ⟨S10000x16, .f32⟩
  | 89 => ⟨S10000x16x32, .f32⟩
  | 90 => ⟨S10000x1x16, .f32⟩
  | 91 => ⟨S10000x16x16, .f32⟩
  | 92 => ⟨S10000x16x48, .f32⟩
  | 93 => ⟨S10000x16x64, .f32⟩
  | 94 => ⟨S1x1x64, .f32⟩
  | 95 => ⟨S10000x16x64, .f32⟩
  | 96 => ⟨S10000x16x64, .f32⟩
  | 97 => ⟨S_, .f32⟩
  | 98 => ⟨S10000x16x64, .f32⟩
  | 99 => ⟨S10000x16x64, .f32⟩
  | 100 => ⟨S10000x16x64, .f32⟩
  | 101 => ⟨S1x1x64, .f32⟩
  | 102 => ⟨S10000x16x64, .f32⟩
  | 103 => ⟨S10000x16x64, .f32⟩
  | 104 => ⟨S_, .f32⟩
  | 105 => ⟨S10000x16x64, .f32⟩
  | 106 => ⟨S10000x16x64, .f32⟩
  | 107 => ⟨S10000x16x64, .f32⟩
  | 108 => ⟨S1x1x64, .f32⟩
  | 109 => ⟨S10000x16x64, .f32⟩
  | 110 => ⟨S10000x16x64, .f32⟩
  | 111 => ⟨S_, .f32⟩
  | 112 => ⟨S10000x16x64, .f32⟩
  | 113 => ⟨S10000x16x64, .f32⟩
  | 114 => ⟨S10000x32x32, .f32⟩
  | 115 => ⟨S10000x1x16, .f32⟩
  | 116 => ⟨S10000x31x16, .f32⟩
  | 117 => ⟨S10000x31x48, .f32⟩
  | 118 => ⟨S10000x31x32, .f32⟩
  | 119 => ⟨S1x1x32, .f32⟩
  | 120 => ⟨S10000x31x32, .f32⟩
  | 121 => ⟨S10000x31x32, .f32⟩
  | 122 => ⟨S_, .f32⟩
  | 123 => ⟨S10000x31x32, .f32⟩
  | 124 => ⟨S10000x31x32, .f32⟩
  | 125 => ⟨S10000x31x32, .f32⟩
  | 126 => ⟨S1x1x32, .f32⟩
  | 127 => ⟨S10000x31x32, .f32⟩
  | _ => ⟨S10000x32, .f32⟩

abbrev hbmTy0_5 (i : Nat) : BufTy := match i % 128 with
  | 0 => ⟨S10000x31x32, .f32⟩
  | 1 => ⟨S_, .f32⟩
  | 2 => ⟨S10000x31x32, .f32⟩
  | 3 => ⟨S10000x31x32, .f32⟩
  | 4 => ⟨S10000x31x32, .f32⟩
  | 5 => ⟨S1x1x32, .f32⟩
  | 6 => ⟨S10000x31x32, .f32⟩
  | 7 => ⟨S10000x31x32, .f32⟩
  | 8 => ⟨S_, .f32⟩
  | 9 => ⟨S10000x31x32, .f32⟩
  | 10 => ⟨S10000x31x32, .f32⟩
  | 11 => ⟨S_, .f32⟩
  | 12 => ⟨S10000x1x32, .f32⟩
  | 13 => ⟨S10000x1x32, .f32⟩
  | 14 => ⟨S10000x1x2x32, .f32⟩
  | 15 => ⟨S10000x2x32, .f32⟩
  | 16 => ⟨S_, .f32⟩
  | 17 => ⟨S10000x2x32, .f32⟩
  | 18 => ⟨S10000x2x32, .f32⟩
  | 19 => ⟨S10000x1x32, .f32⟩
  | 20 => ⟨S10000x1x4x32, .f32⟩
  | 21 => ⟨S10000x4x32, .f32⟩
  | 22 => ⟨S_, .f32⟩
  | 23 => ⟨S10000x4x32, .f32⟩
  | 24 => ⟨S10000x4x32, .f32⟩
  | 25 => ⟨S10000x2x32, .f32⟩
  | 26 => ⟨S10000x2x2x32, .f32⟩
  | 27 => ⟨S10000x4x32, .f32⟩
  | 28 => ⟨S10000x4x32, .f32⟩
  | 29 => ⟨S10000x1x32, .f32⟩
  | 30 => ⟨S10000x1x8x32, .f32⟩
  | 31 => ⟨S10000x8x32, .f32⟩
  | 32 => ⟨S_, .f32⟩
  | 33 => ⟨S10000x8x32, .f32⟩
  | 34 => ⟨S10000x8x32, .f32⟩
  | 35 => ⟨S10000x2x32, .f32⟩
  | 36 => ⟨S10000x2x4x32, .f32⟩
  | 37 => ⟨S10000x8x32, .f32⟩
  | 38 => ⟨S10000x8x32, .f32⟩
  | 39 => ⟨S10000x4x32, .f32⟩
  | 40 => ⟨S10000x4x2x32, .f32⟩
  | 41 => ⟨S10000x8x32, .f32⟩
  | 42 => ⟨S10000x8x32, .f32⟩
  | 43 => ⟨S10000x1x32, .f32⟩
  | 44 => ⟨S10000x1x16x32, .f32⟩
  | 45 => ⟨S10000x16x32, .f32⟩
  | 46 => ⟨S_, .f32⟩
  | 47 => ⟨S10000x16x32, .f32⟩
  | 48 => ⟨S10000x16x32, .f32⟩
  | 49 => ⟨S10000x2x32, .f32⟩
  | 50 => ⟨S10000x2x8x32, .f32⟩
  | 51 => ⟨S10000x16x32, .f32⟩
  | 52 => ⟨S10000x16x32, .f32⟩
  | 53 => ⟨S10000x4x32, .f32⟩
  | 54 => ⟨S10000x4x4x32, .f32⟩
  | 55 => ⟨S10000x16x32, .f32⟩
  | 56 => ⟨S10000x16x32, .f32⟩
  | 57 => ⟨S10000x8x32, .f32⟩
  | 58 => ⟨S10000x8x2x32, .f32⟩
  | 59 => ⟨S10000x16x32, .f32⟩
  | 60 => ⟨S10000x16x32, .f32⟩
  | 61 => ⟨S10000x1x32, .f32⟩
  | 62 => ⟨S10000x1x32x32, .f32⟩
  | 63 => ⟨S10000x32x32, .f32⟩
  | 64 => ⟨S_, .f32⟩
  | 65 => ⟨S10000x32x32, .f32⟩
  | 66 => ⟨S10000x32x32, .f32⟩
  | 67 => ⟨S10000x2x32, .f32⟩
  | 68 => ⟨S10000x2x16x32, .f32⟩
  | 69 => ⟨S10000x32x32, .f32⟩
  | 70 => ⟨S10000x32x32, .f32⟩
  | 71 => ⟨S10000x4x32, .f32⟩
  | 72 => ⟨S10000x4x8x32, .f32⟩
  | 73 => ⟨S10000x32x32, .f32⟩
  | 74 => ⟨S10000x32x32, .f32⟩
  | 75 => ⟨S10000x8x32, .f32⟩
  | 76 => ⟨S10000x8x4x32, .f32⟩
  | 77 => ⟨S10000x32x32, .f32⟩
  | 78 => ⟨S10000x32x32, .f32⟩
  | 79 => ⟨S10000x16x32, .f32⟩
  | 80 => ⟨S10000x16x2x32, .f32⟩
  | 81 => ⟨S10000x32x32, .f32⟩
  | 82 => ⟨S10000x32x32, .f32⟩
  | 83 => ⟨S10000x63x32, .f32⟩
  | 84 => ⟨S10000x63x32, .f32⟩
  | 85 => ⟨S10000x1x16, .f32⟩
  | 86 => ⟨S10000x63x16, .f32⟩
  | 87 => ⟨S10000x63x80, .f32⟩
  | 88 => ⟨S10000x63x80, .f32⟩
  | 89 => ⟨S1x1x80, .f32⟩
  | 90 => ⟨S10000x63x80, .f32⟩
  | 91 => ⟨S10000x63x80, .f32⟩
  | 92 => ⟨S_, .f32⟩
  | 93 => ⟨S10000x63x80, .f32⟩
  | 94 => ⟨S10000x63x80, .f32⟩
  | 95 => ⟨S10000x63x32, .f32⟩
  | 96 => ⟨S1x1x32, .f32⟩
  | 97 => ⟨S10000x63x32, .f32⟩
  | 98 => ⟨S10000x63x32, .f32⟩
  | 99 => ⟨S_, .f32⟩
  | 100 => ⟨S10000x63x32, .f32⟩
  | 101 => ⟨S10000x63x32, .f32⟩
  | 102 => ⟨S10000x63x32, .f32⟩
  | 103 => ⟨S1x1x32, .f32⟩
  | 104 => ⟨S10000x63x32, .f32⟩
  | 105 => ⟨S10000x63x32, .f32⟩
  | 106 => ⟨S_, .f32⟩
  | 107 => ⟨S10000x63x32, .f32⟩
  | 108 => ⟨S10000x63x32, .f32⟩
  | 109 => ⟨S10000x63x4, .f32⟩
  | 110 => ⟨S10000x252, .f32⟩
  | _ => ⟨S10000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x32, .f32⟩

abbrev bufTy : (tb : Table) → Fin (tcTables nBuf tb) → BufTy
  | .hbm, ⟨i, _⟩ => hbmTy i
  | _, _ => ⟨S10000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_call0_cst : Ref sig .tc := ⟨.hbm, 32, rfl⟩
abbrev main_call0_v0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_call1_cst : Ref sig .tc := ⟨.hbm, 39, rfl⟩
abbrev main_call1_v0 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_cst_0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_call2_cst : Ref sig .tc := ⟨.hbm, 51, rfl⟩
abbrev main_call2_v0 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_call3_cst : Ref sig .tc := ⟨.hbm, 58, rfl⟩
abbrev main_call3_v0 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_call4_cst : Ref sig .tc := ⟨.hbm, 67, rfl⟩
abbrev main_call4_v0 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_call5_cst : Ref sig .tc := ⟨.hbm, 74, rfl⟩
abbrev main_call5_v0 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_call6_cst : Ref sig .tc := ⟨.hbm, 81, rfl⟩
abbrev main_call6_v0 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_call7_cst : Ref sig .tc := ⟨.hbm, 91, rfl⟩
abbrev main_call7_v0 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_call8_cst : Ref sig .tc := ⟨.hbm, 98, rfl⟩
abbrev main_call8_v0 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_call9_cst : Ref sig .tc := ⟨.hbm, 105, rfl⟩
abbrev main_call9_v0 : Ref sig .tc := ⟨.hbm, 106, rfl⟩
abbrev main_v58 : Ref sig .tc := ⟨.hbm, 107, rfl⟩
abbrev main_cst_1 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_2 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_call10_cst : Ref sig .tc := ⟨.hbm, 124, rfl⟩
abbrev main_call10_v0 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_call11_cst : Ref sig .tc := ⟨.hbm, 131, rfl⟩
abbrev main_call11_v0 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_call12_cst : Ref sig .tc := ⟨.hbm, 138, rfl⟩
abbrev main_call12_v0 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_call13_cst : Ref sig .tc := ⟨.hbm, 145, rfl⟩
abbrev main_call13_v0 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_call14_cst : Ref sig .tc := ⟨.hbm, 152, rfl⟩
abbrev main_call14_v0 : Ref sig .tc := ⟨.hbm, 153, rfl⟩
abbrev main_v93 : Ref sig .tc := ⟨.hbm, 154, rfl⟩
abbrev main_cst_3 : Ref sig .tc := ⟨.hbm, 155, rfl⟩
abbrev main_v94 : Ref sig .tc := ⟨.hbm, 156, rfl⟩
abbrev main_cst_4 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_call15_cst : Ref sig .tc := ⟨.hbm, 164, rfl⟩
abbrev main_call15_v0 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_call16_cst : Ref sig .tc := ⟨.hbm, 171, rfl⟩
abbrev main_call16_v0 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_call17_cst : Ref sig .tc := ⟨.hbm, 182, rfl⟩
abbrev main_call17_v0 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_call18_cst : Ref sig .tc := ⟨.hbm, 189, rfl⟩
abbrev main_call18_v0 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_call19_cst : Ref sig .tc := ⟨.hbm, 196, rfl⟩
abbrev main_call19_v0 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_call20_cst : Ref sig .tc := ⟨.hbm, 207, rfl⟩
abbrev main_call20_v0 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_call21_cst : Ref sig .tc := ⟨.hbm, 214, rfl⟩
abbrev main_call21_v0 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_call22_cst : Ref sig .tc := ⟨.hbm, 221, rfl⟩
abbrev main_call22_v0 : Ref sig .tc := ⟨.hbm, 222, rfl⟩
abbrev main_v144 : Ref sig .tc := ⟨.hbm, 223, rfl⟩
abbrev main_cst_5 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_cst_6 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_cst_7 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_call23_cst : Ref sig .tc := ⟨.hbm, 251, rfl⟩
abbrev main_call23_v0 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_call24_cst : Ref sig .tc := ⟨.hbm, 258, rfl⟩
abbrev main_call24_v0 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_call25_cst : Ref sig .tc := ⟨.hbm, 265, rfl⟩
abbrev main_call25_v0 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_call26_cst : Ref sig .tc := ⟨.hbm, 272, rfl⟩
abbrev main_call26_v0 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_call27_cst : Ref sig .tc := ⟨.hbm, 279, rfl⟩
abbrev main_call27_v0 : Ref sig .tc := ⟨.hbm, 280, rfl⟩
abbrev main_v189 : Ref sig .tc := ⟨.hbm, 281, rfl⟩
abbrev main_cst_8 : Ref sig .tc := ⟨.hbm, 282, rfl⟩
abbrev main_v190 : Ref sig .tc := ⟨.hbm, 283, rfl⟩
abbrev main_cst_9 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_call28_cst : Ref sig .tc := ⟨.hbm, 291, rfl⟩
abbrev main_call28_v0 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_call29_cst : Ref sig .tc := ⟨.hbm, 298, rfl⟩
abbrev main_call29_v0 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_call30_cst : Ref sig .tc := ⟨.hbm, 309, rfl⟩
abbrev main_call30_v0 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_call31_cst : Ref sig .tc := ⟨.hbm, 316, rfl⟩
abbrev main_call31_v0 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_call32_cst : Ref sig .tc := ⟨.hbm, 323, rfl⟩
abbrev main_call32_v0 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_call33_cst : Ref sig .tc := ⟨.hbm, 334, rfl⟩
abbrev main_call33_v0 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_call34_cst : Ref sig .tc := ⟨.hbm, 341, rfl⟩
abbrev main_call34_v0 : Ref sig .tc := ⟨.hbm, 342, rfl⟩
abbrev main_v235 : Ref sig .tc := ⟨.hbm, 343, rfl⟩
abbrev main_v236 : Ref sig .tc := ⟨.hbm, 344, rfl⟩
abbrev main_v237 : Ref sig .tc := ⟨.hbm, 345, rfl⟩
abbrev main_v238 : Ref sig .tc := ⟨.hbm, 346, rfl⟩
abbrev main_v239 : Ref sig .tc := ⟨.hbm, 347, rfl⟩
abbrev main_call35_cst : Ref sig .tc := ⟨.hbm, 348, rfl⟩
abbrev main_call35_v0 : Ref sig .tc := ⟨.hbm, 349, rfl⟩
abbrev main_v240 : Ref sig .tc := ⟨.hbm, 350, rfl⟩
abbrev main_cst_10 : Ref sig .tc := ⟨.hbm, 351, rfl⟩
abbrev main_v241 : Ref sig .tc := ⟨.hbm, 352, rfl⟩
abbrev main_v242 : Ref sig .tc := ⟨.hbm, 353, rfl⟩
abbrev main_v243 : Ref sig .tc := ⟨.hbm, 354, rfl⟩
abbrev main_v244 : Ref sig .tc := ⟨.hbm, 355, rfl⟩
abbrev main_cst_11 : Ref sig .tc := ⟨.hbm, 356, rfl⟩
abbrev main_v245 : Ref sig .tc := ⟨.hbm, 357, rfl⟩
abbrev main_v246 : Ref sig .tc := ⟨.hbm, 358, rfl⟩
abbrev main_v247 : Ref sig .tc := ⟨.hbm, 359, rfl⟩
abbrev main_v248 : Ref sig .tc := ⟨.hbm, 360, rfl⟩
abbrev main_v249 : Ref sig .tc := ⟨.hbm, 361, rfl⟩
abbrev main_cst_12 : Ref sig .tc := ⟨.hbm, 362, rfl⟩
abbrev main_v250 : Ref sig .tc := ⟨.hbm, 363, rfl⟩
abbrev main_v251 : Ref sig .tc := ⟨.hbm, 364, rfl⟩
abbrev main_v252 : Ref sig .tc := ⟨.hbm, 365, rfl⟩
abbrev main_v253 : Ref sig .tc := ⟨.hbm, 366, rfl⟩
abbrev main_v254 : Ref sig .tc := ⟨.hbm, 367, rfl⟩
abbrev main_v255 : Ref sig .tc := ⟨.hbm, 368, rfl⟩
abbrev main_v256 : Ref sig .tc := ⟨.hbm, 369, rfl⟩
abbrev main_v257 : Ref sig .tc := ⟨.hbm, 370, rfl⟩
abbrev main_v258 : Ref sig .tc := ⟨.hbm, 371, rfl⟩
abbrev main_cst_13 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_v262 : Ref sig .tc := ⟨.hbm, 376, rfl⟩
abbrev main_v263 : Ref sig .tc := ⟨.hbm, 377, rfl⟩
abbrev main_v264 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_call36_cst : Ref sig .tc := ⟨.hbm, 392, rfl⟩
abbrev main_call36_v0 : Ref sig .tc := ⟨.hbm, 393, rfl⟩
abbrev main_v278 : Ref sig .tc := ⟨.hbm, 394, rfl⟩
abbrev main_v279 : Ref sig .tc := ⟨.hbm, 395, rfl⟩
abbrev main_v280 : Ref sig .tc := ⟨.hbm, 396, rfl⟩
abbrev main_v281 : Ref sig .tc := ⟨.hbm, 397, rfl⟩
abbrev main_v282 : Ref sig .tc := ⟨.hbm, 398, rfl⟩
abbrev main_call37_cst : Ref sig .tc := ⟨.hbm, 399, rfl⟩
abbrev main_call37_v0 : Ref sig .tc := ⟨.hbm, 400, rfl⟩
abbrev main_v283 : Ref sig .tc := ⟨.hbm, 401, rfl⟩
abbrev main_v284 : Ref sig .tc := ⟨.hbm, 402, rfl⟩
abbrev main_v285 : Ref sig .tc := ⟨.hbm, 403, rfl⟩
abbrev main_v286 : Ref sig .tc := ⟨.hbm, 404, rfl⟩
abbrev main_v287 : Ref sig .tc := ⟨.hbm, 405, rfl⟩
abbrev main_call38_cst : Ref sig .tc := ⟨.hbm, 406, rfl⟩
abbrev main_call38_v0 : Ref sig .tc := ⟨.hbm, 407, rfl⟩
abbrev main_v288 : Ref sig .tc := ⟨.hbm, 408, rfl⟩
abbrev main_v289 : Ref sig .tc := ⟨.hbm, 409, rfl⟩
abbrev main_v290 : Ref sig .tc := ⟨.hbm, 410, rfl⟩
abbrev main_v291 : Ref sig .tc := ⟨.hbm, 411, rfl⟩
abbrev main_v292 : Ref sig .tc := ⟨.hbm, 412, rfl⟩
abbrev main_call39_cst : Ref sig .tc := ⟨.hbm, 413, rfl⟩
abbrev main_call39_v0 : Ref sig .tc := ⟨.hbm, 414, rfl⟩
abbrev main_v293 : Ref sig .tc := ⟨.hbm, 415, rfl⟩
abbrev main_v294 : Ref sig .tc := ⟨.hbm, 416, rfl⟩
abbrev main_v295 : Ref sig .tc := ⟨.hbm, 417, rfl⟩
abbrev main_v296 : Ref sig .tc := ⟨.hbm, 418, rfl⟩
abbrev main_v297 : Ref sig .tc := ⟨.hbm, 419, rfl⟩
abbrev main_call40_cst : Ref sig .tc := ⟨.hbm, 420, rfl⟩
abbrev main_call40_v0 : Ref sig .tc := ⟨.hbm, 421, rfl⟩
abbrev main_v298 : Ref sig .tc := ⟨.hbm, 422, rfl⟩
abbrev main_cst_14 : Ref sig .tc := ⟨.hbm, 423, rfl⟩
abbrev main_v299 : Ref sig .tc := ⟨.hbm, 424, rfl⟩
abbrev main_cst_15 : Ref sig .tc := ⟨.hbm, 425, rfl⟩
abbrev main_v300 : Ref sig .tc := ⟨.hbm, 426, rfl⟩
abbrev main_v301 : Ref sig .tc := ⟨.hbm, 427, rfl⟩
abbrev main_v302 : Ref sig .tc := ⟨.hbm, 428, rfl⟩
abbrev main_v303 : Ref sig .tc := ⟨.hbm, 429, rfl⟩
abbrev main_v304 : Ref sig .tc := ⟨.hbm, 430, rfl⟩
abbrev main_v305 : Ref sig .tc := ⟨.hbm, 431, rfl⟩
abbrev main_call41_cst : Ref sig .tc := ⟨.hbm, 432, rfl⟩
abbrev main_call41_v0 : Ref sig .tc := ⟨.hbm, 433, rfl⟩
abbrev main_v306 : Ref sig .tc := ⟨.hbm, 434, rfl⟩
abbrev main_v307 : Ref sig .tc := ⟨.hbm, 435, rfl⟩
abbrev main_v308 : Ref sig .tc := ⟨.hbm, 436, rfl⟩
abbrev main_v309 : Ref sig .tc := ⟨.hbm, 437, rfl⟩
abbrev main_v310 : Ref sig .tc := ⟨.hbm, 438, rfl⟩
abbrev main_call42_cst : Ref sig .tc := ⟨.hbm, 439, rfl⟩
abbrev main_call42_v0 : Ref sig .tc := ⟨.hbm, 440, rfl⟩
abbrev main_v311 : Ref sig .tc := ⟨.hbm, 441, rfl⟩
abbrev main_v312 : Ref sig .tc := ⟨.hbm, 442, rfl⟩
abbrev main_v313 : Ref sig .tc := ⟨.hbm, 443, rfl⟩
abbrev main_v314 : Ref sig .tc := ⟨.hbm, 444, rfl⟩
abbrev main_v315 : Ref sig .tc := ⟨.hbm, 445, rfl⟩
abbrev main_v316 : Ref sig .tc := ⟨.hbm, 446, rfl⟩
abbrev main_v317 : Ref sig .tc := ⟨.hbm, 447, rfl⟩
abbrev main_v318 : Ref sig .tc := ⟨.hbm, 448, rfl⟩
abbrev main_v319 : Ref sig .tc := ⟨.hbm, 449, rfl⟩
abbrev main_call43_cst : Ref sig .tc := ⟨.hbm, 450, rfl⟩
abbrev main_call43_v0 : Ref sig .tc := ⟨.hbm, 451, rfl⟩
abbrev main_v320 : Ref sig .tc := ⟨.hbm, 452, rfl⟩
abbrev main_v321 : Ref sig .tc := ⟨.hbm, 453, rfl⟩
abbrev main_v322 : Ref sig .tc := ⟨.hbm, 454, rfl⟩
abbrev main_v323 : Ref sig .tc := ⟨.hbm, 455, rfl⟩
abbrev main_v324 : Ref sig .tc := ⟨.hbm, 456, rfl⟩
abbrev main_call44_cst : Ref sig .tc := ⟨.hbm, 457, rfl⟩
abbrev main_call44_v0 : Ref sig .tc := ⟨.hbm, 458, rfl⟩
abbrev main_v325 : Ref sig .tc := ⟨.hbm, 459, rfl⟩
abbrev main_v326 : Ref sig .tc := ⟨.hbm, 460, rfl⟩
abbrev main_v327 : Ref sig .tc := ⟨.hbm, 461, rfl⟩
abbrev main_v328 : Ref sig .tc := ⟨.hbm, 462, rfl⟩
abbrev main_v329 : Ref sig .tc := ⟨.hbm, 463, rfl⟩
abbrev main_call45_cst : Ref sig .tc := ⟨.hbm, 464, rfl⟩
abbrev main_call45_v0 : Ref sig .tc := ⟨.hbm, 465, rfl⟩
abbrev main_v330 : Ref sig .tc := ⟨.hbm, 466, rfl⟩
abbrev main_v331 : Ref sig .tc := ⟨.hbm, 467, rfl⟩
abbrev main_v332 : Ref sig .tc := ⟨.hbm, 468, rfl⟩
abbrev main_v333 : Ref sig .tc := ⟨.hbm, 469, rfl⟩
abbrev main_v334 : Ref sig .tc := ⟨.hbm, 470, rfl⟩
abbrev main_v335 : Ref sig .tc := ⟨.hbm, 471, rfl⟩
abbrev main_v336 : Ref sig .tc := ⟨.hbm, 472, rfl⟩
abbrev main_v337 : Ref sig .tc := ⟨.hbm, 473, rfl⟩
abbrev main_v338 : Ref sig .tc := ⟨.hbm, 474, rfl⟩
abbrev main_call46_cst : Ref sig .tc := ⟨.hbm, 475, rfl⟩
abbrev main_call46_v0 : Ref sig .tc := ⟨.hbm, 476, rfl⟩
abbrev main_v339 : Ref sig .tc := ⟨.hbm, 477, rfl⟩
abbrev main_v340 : Ref sig .tc := ⟨.hbm, 478, rfl⟩
abbrev main_v341 : Ref sig .tc := ⟨.hbm, 479, rfl⟩
abbrev main_v342 : Ref sig .tc := ⟨.hbm, 480, rfl⟩
abbrev main_v343 : Ref sig .tc := ⟨.hbm, 481, rfl⟩
abbrev main_call47_cst : Ref sig .tc := ⟨.hbm, 482, rfl⟩
abbrev main_call47_v0 : Ref sig .tc := ⟨.hbm, 483, rfl⟩
abbrev main_v344 : Ref sig .tc := ⟨.hbm, 484, rfl⟩
abbrev main_v345 : Ref sig .tc := ⟨.hbm, 485, rfl⟩
abbrev main_v346 : Ref sig .tc := ⟨.hbm, 486, rfl⟩
abbrev main_v347 : Ref sig .tc := ⟨.hbm, 487, rfl⟩
abbrev main_v348 : Ref sig .tc := ⟨.hbm, 488, rfl⟩
abbrev main_call48_cst : Ref sig .tc := ⟨.hbm, 489, rfl⟩
abbrev main_call48_v0 : Ref sig .tc := ⟨.hbm, 490, rfl⟩
abbrev main_v349 : Ref sig .tc := ⟨.hbm, 491, rfl⟩
abbrev main_cst_16 : Ref sig .tc := ⟨.hbm, 492, rfl⟩
abbrev main_v350 : Ref sig .tc := ⟨.hbm, 493, rfl⟩
abbrev main_v351 : Ref sig .tc := ⟨.hbm, 494, rfl⟩
abbrev main_v352 : Ref sig .tc := ⟨.hbm, 495, rfl⟩
abbrev main_v353 : Ref sig .tc := ⟨.hbm, 496, rfl⟩
abbrev main_cst_17 : Ref sig .tc := ⟨.hbm, 497, rfl⟩
abbrev main_v354 : Ref sig .tc := ⟨.hbm, 498, rfl⟩
abbrev main_v355 : Ref sig .tc := ⟨.hbm, 499, rfl⟩
abbrev main_v356 : Ref sig .tc := ⟨.hbm, 500, rfl⟩
abbrev main_v357 : Ref sig .tc := ⟨.hbm, 501, rfl⟩
abbrev main_v358 : Ref sig .tc := ⟨.hbm, 502, rfl⟩
abbrev main_cst_18 : Ref sig .tc := ⟨.hbm, 503, rfl⟩
abbrev main_v359 : Ref sig .tc := ⟨.hbm, 504, rfl⟩
abbrev main_v360 : Ref sig .tc := ⟨.hbm, 505, rfl⟩
abbrev main_v361 : Ref sig .tc := ⟨.hbm, 506, rfl⟩
abbrev main_v362 : Ref sig .tc := ⟨.hbm, 507, rfl⟩
abbrev main_v363 : Ref sig .tc := ⟨.hbm, 508, rfl⟩
abbrev main_v364 : Ref sig .tc := ⟨.hbm, 509, rfl⟩
abbrev main_v365 : Ref sig .tc := ⟨.hbm, 510, rfl⟩
abbrev main_v366 : Ref sig .tc := ⟨.hbm, 511, rfl⟩
abbrev main_v367 : Ref sig .tc := ⟨.hbm, 512, rfl⟩
abbrev main_cst_19 : Ref sig .tc := ⟨.hbm, 513, rfl⟩
abbrev main_v368 : Ref sig .tc := ⟨.hbm, 514, rfl⟩
abbrev main_v369 : Ref sig .tc := ⟨.hbm, 515, rfl⟩
abbrev main_v370 : Ref sig .tc := ⟨.hbm, 516, rfl⟩
abbrev main_v371 : Ref sig .tc := ⟨.hbm, 517, rfl⟩
abbrev main_v372 : Ref sig .tc := ⟨.hbm, 518, rfl⟩
abbrev main_v373 : Ref sig .tc := ⟨.hbm, 519, rfl⟩
abbrev main_v374 : Ref sig .tc := ⟨.hbm, 520, rfl⟩
abbrev main_v375 : Ref sig .tc := ⟨.hbm, 521, rfl⟩
abbrev main_v376 : Ref sig .tc := ⟨.hbm, 522, rfl⟩
abbrev main_v377 : Ref sig .tc := ⟨.hbm, 523, rfl⟩
abbrev main_v378 : Ref sig .tc := ⟨.hbm, 524, rfl⟩
abbrev main_v379 : Ref sig .tc := ⟨.hbm, 525, rfl⟩
abbrev main_v380 : Ref sig .tc := ⟨.hbm, 526, rfl⟩
abbrev main_cst_20 : Ref sig .tc := ⟨.hbm, 527, rfl⟩
abbrev main_v381 : Ref sig .tc := ⟨.hbm, 528, rfl⟩
abbrev main_v382 : Ref sig .tc := ⟨.hbm, 529, rfl⟩
abbrev main_v383 : Ref sig .tc := ⟨.hbm, 530, rfl⟩
abbrev main_v384 : Ref sig .tc := ⟨.hbm, 531, rfl⟩
abbrev main_v385 : Ref sig .tc := ⟨.hbm, 532, rfl⟩
abbrev main_v386 : Ref sig .tc := ⟨.hbm, 533, rfl⟩
abbrev main_v387 : Ref sig .tc := ⟨.hbm, 534, rfl⟩
abbrev main_v388 : Ref sig .tc := ⟨.hbm, 535, rfl⟩
abbrev main_v389 : Ref sig .tc := ⟨.hbm, 536, rfl⟩
abbrev main_v390 : Ref sig .tc := ⟨.hbm, 537, rfl⟩
abbrev main_v391 : Ref sig .tc := ⟨.hbm, 538, rfl⟩
abbrev main_v392 : Ref sig .tc := ⟨.hbm, 539, rfl⟩
abbrev main_v393 : Ref sig .tc := ⟨.hbm, 540, rfl⟩
abbrev main_v394 : Ref sig .tc := ⟨.hbm, 541, rfl⟩
abbrev main_v395 : Ref sig .tc := ⟨.hbm, 542, rfl⟩
abbrev main_v396 : Ref sig .tc := ⟨.hbm, 543, rfl⟩
abbrev main_v397 : Ref sig .tc := ⟨.hbm, 544, rfl⟩
abbrev main_v398 : Ref sig .tc := ⟨.hbm, 545, rfl⟩
abbrev main_v399 : Ref sig .tc := ⟨.hbm, 546, rfl⟩
abbrev main_v400 : Ref sig .tc := ⟨.hbm, 547, rfl⟩
abbrev main_v401 : Ref sig .tc := ⟨.hbm, 548, rfl⟩
abbrev main_v402 : Ref sig .tc := ⟨.hbm, 549, rfl⟩
abbrev main_v403 : Ref sig .tc := ⟨.hbm, 550, rfl⟩
abbrev main_call49_cst : Ref sig .tc := ⟨.hbm, 551, rfl⟩
abbrev main_call49_v0 : Ref sig .tc := ⟨.hbm, 552, rfl⟩
abbrev main_v404 : Ref sig .tc := ⟨.hbm, 553, rfl⟩
abbrev main_v405 : Ref sig .tc := ⟨.hbm, 554, rfl⟩
abbrev main_v406 : Ref sig .tc := ⟨.hbm, 555, rfl⟩
abbrev main_v407 : Ref sig .tc := ⟨.hbm, 556, rfl⟩
abbrev main_v408 : Ref sig .tc := ⟨.hbm, 557, rfl⟩
abbrev main_call50_cst : Ref sig .tc := ⟨.hbm, 558, rfl⟩
abbrev main_call50_v0 : Ref sig .tc := ⟨.hbm, 559, rfl⟩
abbrev main_v409 : Ref sig .tc := ⟨.hbm, 560, rfl⟩
abbrev main_v410 : Ref sig .tc := ⟨.hbm, 561, rfl⟩
abbrev main_v411 : Ref sig .tc := ⟨.hbm, 562, rfl⟩
abbrev main_v412 : Ref sig .tc := ⟨.hbm, 563, rfl⟩
abbrev main_v413 : Ref sig .tc := ⟨.hbm, 564, rfl⟩
abbrev main_call51_cst : Ref sig .tc := ⟨.hbm, 565, rfl⟩
abbrev main_call51_v0 : Ref sig .tc := ⟨.hbm, 566, rfl⟩
abbrev main_v414 : Ref sig .tc := ⟨.hbm, 567, rfl⟩
abbrev main_v415 : Ref sig .tc := ⟨.hbm, 568, rfl⟩
abbrev main_v416 : Ref sig .tc := ⟨.hbm, 569, rfl⟩
abbrev main_v417 : Ref sig .tc := ⟨.hbm, 570, rfl⟩
abbrev main_v418 : Ref sig .tc := ⟨.hbm, 571, rfl⟩
abbrev main_call52_cst : Ref sig .tc := ⟨.hbm, 572, rfl⟩
abbrev main_call52_v0 : Ref sig .tc := ⟨.hbm, 573, rfl⟩
abbrev main_v419 : Ref sig .tc := ⟨.hbm, 574, rfl⟩
abbrev main_v420 : Ref sig .tc := ⟨.hbm, 575, rfl⟩
abbrev main_v421 : Ref sig .tc := ⟨.hbm, 576, rfl⟩
abbrev main_v422 : Ref sig .tc := ⟨.hbm, 577, rfl⟩
abbrev main_v423 : Ref sig .tc := ⟨.hbm, 578, rfl⟩
abbrev main_call53_cst : Ref sig .tc := ⟨.hbm, 579, rfl⟩
abbrev main_call53_v0 : Ref sig .tc := ⟨.hbm, 580, rfl⟩
abbrev main_v424 : Ref sig .tc := ⟨.hbm, 581, rfl⟩
abbrev main_cst_21 : Ref sig .tc := ⟨.hbm, 582, rfl⟩
abbrev main_v425 : Ref sig .tc := ⟨.hbm, 583, rfl⟩
abbrev main_cst_22 : Ref sig .tc := ⟨.hbm, 584, rfl⟩
abbrev main_v426 : Ref sig .tc := ⟨.hbm, 585, rfl⟩
abbrev main_v427 : Ref sig .tc := ⟨.hbm, 586, rfl⟩
abbrev main_v428 : Ref sig .tc := ⟨.hbm, 587, rfl⟩
abbrev main_v429 : Ref sig .tc := ⟨.hbm, 588, rfl⟩
abbrev main_v430 : Ref sig .tc := ⟨.hbm, 589, rfl⟩
abbrev main_v431 : Ref sig .tc := ⟨.hbm, 590, rfl⟩
abbrev main_call54_cst : Ref sig .tc := ⟨.hbm, 591, rfl⟩
abbrev main_call54_v0 : Ref sig .tc := ⟨.hbm, 592, rfl⟩
abbrev main_v432 : Ref sig .tc := ⟨.hbm, 593, rfl⟩
abbrev main_v433 : Ref sig .tc := ⟨.hbm, 594, rfl⟩
abbrev main_v434 : Ref sig .tc := ⟨.hbm, 595, rfl⟩
abbrev main_v435 : Ref sig .tc := ⟨.hbm, 596, rfl⟩
abbrev main_v436 : Ref sig .tc := ⟨.hbm, 597, rfl⟩
abbrev main_call55_cst : Ref sig .tc := ⟨.hbm, 598, rfl⟩
abbrev main_call55_v0 : Ref sig .tc := ⟨.hbm, 599, rfl⟩
abbrev main_v437 : Ref sig .tc := ⟨.hbm, 600, rfl⟩
abbrev main_v438 : Ref sig .tc := ⟨.hbm, 601, rfl⟩
abbrev main_v439 : Ref sig .tc := ⟨.hbm, 602, rfl⟩
abbrev main_v440 : Ref sig .tc := ⟨.hbm, 603, rfl⟩
abbrev main_v441 : Ref sig .tc := ⟨.hbm, 604, rfl⟩
abbrev main_v442 : Ref sig .tc := ⟨.hbm, 605, rfl⟩
abbrev main_v443 : Ref sig .tc := ⟨.hbm, 606, rfl⟩
abbrev main_v444 : Ref sig .tc := ⟨.hbm, 607, rfl⟩
abbrev main_v445 : Ref sig .tc := ⟨.hbm, 608, rfl⟩
abbrev main_call56_cst : Ref sig .tc := ⟨.hbm, 609, rfl⟩
abbrev main_call56_v0 : Ref sig .tc := ⟨.hbm, 610, rfl⟩
abbrev main_v446 : Ref sig .tc := ⟨.hbm, 611, rfl⟩
abbrev main_v447 : Ref sig .tc := ⟨.hbm, 612, rfl⟩
abbrev main_v448 : Ref sig .tc := ⟨.hbm, 613, rfl⟩
abbrev main_v449 : Ref sig .tc := ⟨.hbm, 614, rfl⟩
abbrev main_v450 : Ref sig .tc := ⟨.hbm, 615, rfl⟩
abbrev main_call57_cst : Ref sig .tc := ⟨.hbm, 616, rfl⟩
abbrev main_call57_v0 : Ref sig .tc := ⟨.hbm, 617, rfl⟩
abbrev main_v451 : Ref sig .tc := ⟨.hbm, 618, rfl⟩
abbrev main_v452 : Ref sig .tc := ⟨.hbm, 619, rfl⟩
abbrev main_v453 : Ref sig .tc := ⟨.hbm, 620, rfl⟩
abbrev main_v454 : Ref sig .tc := ⟨.hbm, 621, rfl⟩
abbrev main_v455 : Ref sig .tc := ⟨.hbm, 622, rfl⟩
abbrev main_call58_cst : Ref sig .tc := ⟨.hbm, 623, rfl⟩
abbrev main_call58_v0 : Ref sig .tc := ⟨.hbm, 624, rfl⟩
abbrev main_v456 : Ref sig .tc := ⟨.hbm, 625, rfl⟩
abbrev main_v457 : Ref sig .tc := ⟨.hbm, 626, rfl⟩
abbrev main_v458 : Ref sig .tc := ⟨.hbm, 627, rfl⟩
abbrev main_v459 : Ref sig .tc := ⟨.hbm, 628, rfl⟩
abbrev main_v460 : Ref sig .tc := ⟨.hbm, 629, rfl⟩
abbrev main_v461 : Ref sig .tc := ⟨.hbm, 630, rfl⟩
abbrev main_v462 : Ref sig .tc := ⟨.hbm, 631, rfl⟩
abbrev main_v463 : Ref sig .tc := ⟨.hbm, 632, rfl⟩
abbrev main_v464 : Ref sig .tc := ⟨.hbm, 633, rfl⟩
abbrev main_call59_cst : Ref sig .tc := ⟨.hbm, 634, rfl⟩
abbrev main_call59_v0 : Ref sig .tc := ⟨.hbm, 635, rfl⟩
abbrev main_v465 : Ref sig .tc := ⟨.hbm, 636, rfl⟩
abbrev main_v466 : Ref sig .tc := ⟨.hbm, 637, rfl⟩
abbrev main_v467 : Ref sig .tc := ⟨.hbm, 638, rfl⟩
abbrev main_v468 : Ref sig .tc := ⟨.hbm, 639, rfl⟩
abbrev main_v469 : Ref sig .tc := ⟨.hbm, 640, rfl⟩
abbrev main_call60_cst : Ref sig .tc := ⟨.hbm, 641, rfl⟩
abbrev main_call60_v0 : Ref sig .tc := ⟨.hbm, 642, rfl⟩
abbrev main_v470 : Ref sig .tc := ⟨.hbm, 643, rfl⟩
abbrev main_v471 : Ref sig .tc := ⟨.hbm, 644, rfl⟩
abbrev main_v472 : Ref sig .tc := ⟨.hbm, 645, rfl⟩
abbrev main_v473 : Ref sig .tc := ⟨.hbm, 646, rfl⟩
abbrev main_v474 : Ref sig .tc := ⟨.hbm, 647, rfl⟩
abbrev main_call61_cst : Ref sig .tc := ⟨.hbm, 648, rfl⟩
abbrev main_call61_v0 : Ref sig .tc := ⟨.hbm, 649, rfl⟩
abbrev main_v475 : Ref sig .tc := ⟨.hbm, 650, rfl⟩
abbrev main_cst_23 : Ref sig .tc := ⟨.hbm, 651, rfl⟩
abbrev main_v476 : Ref sig .tc := ⟨.hbm, 652, rfl⟩
abbrev main_v477 : Ref sig .tc := ⟨.hbm, 653, rfl⟩
abbrev main_v478 : Ref sig .tc := ⟨.hbm, 654, rfl⟩
abbrev main_v479 : Ref sig .tc := ⟨.hbm, 655, rfl⟩
abbrev main_cst_24 : Ref sig .tc := ⟨.hbm, 656, rfl⟩
abbrev main_v480 : Ref sig .tc := ⟨.hbm, 657, rfl⟩
abbrev main_v481 : Ref sig .tc := ⟨.hbm, 658, rfl⟩
abbrev main_v482 : Ref sig .tc := ⟨.hbm, 659, rfl⟩
abbrev main_v483 : Ref sig .tc := ⟨.hbm, 660, rfl⟩
abbrev main_v484 : Ref sig .tc := ⟨.hbm, 661, rfl⟩
abbrev main_cst_25 : Ref sig .tc := ⟨.hbm, 662, rfl⟩
abbrev main_v485 : Ref sig .tc := ⟨.hbm, 663, rfl⟩
abbrev main_v486 : Ref sig .tc := ⟨.hbm, 664, rfl⟩
abbrev main_v487 : Ref sig .tc := ⟨.hbm, 665, rfl⟩
abbrev main_v488 : Ref sig .tc := ⟨.hbm, 666, rfl⟩
abbrev main_v489 : Ref sig .tc := ⟨.hbm, 667, rfl⟩
abbrev main_v490 : Ref sig .tc := ⟨.hbm, 668, rfl⟩
abbrev main_v491 : Ref sig .tc := ⟨.hbm, 669, rfl⟩
abbrev main_v492 : Ref sig .tc := ⟨.hbm, 670, rfl⟩
abbrev main_v493 : Ref sig .tc := ⟨.hbm, 671, rfl⟩
abbrev main_cst_26 : Ref sig .tc := ⟨.hbm, 672, rfl⟩
abbrev main_v494 : Ref sig .tc := ⟨.hbm, 673, rfl⟩
abbrev main_v495 : Ref sig .tc := ⟨.hbm, 674, rfl⟩
abbrev main_v496 : Ref sig .tc := ⟨.hbm, 675, rfl⟩
abbrev main_v497 : Ref sig .tc := ⟨.hbm, 676, rfl⟩
abbrev main_v498 : Ref sig .tc := ⟨.hbm, 677, rfl⟩
abbrev main_v499 : Ref sig .tc := ⟨.hbm, 678, rfl⟩
abbrev main_v500 : Ref sig .tc := ⟨.hbm, 679, rfl⟩
abbrev main_v501 : Ref sig .tc := ⟨.hbm, 680, rfl⟩
abbrev main_v502 : Ref sig .tc := ⟨.hbm, 681, rfl⟩
abbrev main_v503 : Ref sig .tc := ⟨.hbm, 682, rfl⟩
abbrev main_v504 : Ref sig .tc := ⟨.hbm, 683, rfl⟩
abbrev main_v505 : Ref sig .tc := ⟨.hbm, 684, rfl⟩
abbrev main_v506 : Ref sig .tc := ⟨.hbm, 685, rfl⟩
abbrev main_cst_27 : Ref sig .tc := ⟨.hbm, 686, rfl⟩
abbrev main_v507 : Ref sig .tc := ⟨.hbm, 687, rfl⟩
abbrev main_v508 : Ref sig .tc := ⟨.hbm, 688, rfl⟩
abbrev main_v509 : Ref sig .tc := ⟨.hbm, 689, rfl⟩
abbrev main_v510 : Ref sig .tc := ⟨.hbm, 690, rfl⟩
abbrev main_v511 : Ref sig .tc := ⟨.hbm, 691, rfl⟩
abbrev main_v512 : Ref sig .tc := ⟨.hbm, 692, rfl⟩
abbrev main_v513 : Ref sig .tc := ⟨.hbm, 693, rfl⟩
abbrev main_v514 : Ref sig .tc := ⟨.hbm, 694, rfl⟩
abbrev main_v515 : Ref sig .tc := ⟨.hbm, 695, rfl⟩
abbrev main_v516 : Ref sig .tc := ⟨.hbm, 696, rfl⟩
abbrev main_v517 : Ref sig .tc := ⟨.hbm, 697, rfl⟩
abbrev main_v518 : Ref sig .tc := ⟨.hbm, 698, rfl⟩
abbrev main_v519 : Ref sig .tc := ⟨.hbm, 699, rfl⟩
abbrev main_v520 : Ref sig .tc := ⟨.hbm, 700, rfl⟩
abbrev main_v521 : Ref sig .tc := ⟨.hbm, 701, rfl⟩
abbrev main_v522 : Ref sig .tc := ⟨.hbm, 702, rfl⟩
abbrev main_v523 : Ref sig .tc := ⟨.hbm, 703, rfl⟩
abbrev main_cst_28 : Ref sig .tc := ⟨.hbm, 704, rfl⟩
abbrev main_v524 : Ref sig .tc := ⟨.hbm, 705, rfl⟩
abbrev main_v525 : Ref sig .tc := ⟨.hbm, 706, rfl⟩
abbrev main_v526 : Ref sig .tc := ⟨.hbm, 707, rfl⟩
abbrev main_v527 : Ref sig .tc := ⟨.hbm, 708, rfl⟩
abbrev main_v528 : Ref sig .tc := ⟨.hbm, 709, rfl⟩
abbrev main_v529 : Ref sig .tc := ⟨.hbm, 710, rfl⟩
abbrev main_v530 : Ref sig .tc := ⟨.hbm, 711, rfl⟩
abbrev main_v531 : Ref sig .tc := ⟨.hbm, 712, rfl⟩
abbrev main_v532 : Ref sig .tc := ⟨.hbm, 713, rfl⟩
abbrev main_v533 : Ref sig .tc := ⟨.hbm, 714, rfl⟩
abbrev main_v534 : Ref sig .tc := ⟨.hbm, 715, rfl⟩
abbrev main_v535 : Ref sig .tc := ⟨.hbm, 716, rfl⟩
abbrev main_v536 : Ref sig .tc := ⟨.hbm, 717, rfl⟩
abbrev main_v537 : Ref sig .tc := ⟨.hbm, 718, rfl⟩
abbrev main_v538 : Ref sig .tc := ⟨.hbm, 719, rfl⟩
abbrev main_v539 : Ref sig .tc := ⟨.hbm, 720, rfl⟩
abbrev main_v540 : Ref sig .tc := ⟨.hbm, 721, rfl⟩
abbrev main_v541 : Ref sig .tc := ⟨.hbm, 722, rfl⟩
abbrev main_v542 : Ref sig .tc := ⟨.hbm, 723, rfl⟩
abbrev main_v543 : Ref sig .tc := ⟨.hbm, 724, rfl⟩
abbrev main_v544 : Ref sig .tc := ⟨.hbm, 725, rfl⟩
abbrev main_v545 : Ref sig .tc := ⟨.hbm, 726, rfl⟩
abbrev main_v546 : Ref sig .tc := ⟨.hbm, 727, rfl⟩
abbrev main_v547 : Ref sig .tc := ⟨.hbm, 728, rfl⟩
abbrev main_v548 : Ref sig .tc := ⟨.hbm, 729, rfl⟩
abbrev main_v549 : Ref sig .tc := ⟨.hbm, 730, rfl⟩
abbrev main_v550 : Ref sig .tc := ⟨.hbm, 731, rfl⟩
abbrev main_call62_cst : Ref sig .tc := ⟨.hbm, 732, rfl⟩
abbrev main_call62_v0 : Ref sig .tc := ⟨.hbm, 733, rfl⟩
abbrev main_v551 : Ref sig .tc := ⟨.hbm, 734, rfl⟩
abbrev main_v552 : Ref sig .tc := ⟨.hbm, 735, rfl⟩
abbrev main_v553 : Ref sig .tc := ⟨.hbm, 736, rfl⟩
abbrev main_v554 : Ref sig .tc := ⟨.hbm, 737, rfl⟩
abbrev main_v555 : Ref sig .tc := ⟨.hbm, 738, rfl⟩
abbrev main_call63_cst : Ref sig .tc := ⟨.hbm, 739, rfl⟩
abbrev main_call63_v0 : Ref sig .tc := ⟨.hbm, 740, rfl⟩
abbrev main_v556 : Ref sig .tc := ⟨.hbm, 741, rfl⟩
abbrev main_v557 : Ref sig .tc := ⟨.hbm, 742, rfl⟩
abbrev main_v558 : Ref sig .tc := ⟨.hbm, 743, rfl⟩
abbrev main_v559 : Ref sig .tc := ⟨.hbm, 744, rfl⟩
abbrev main_v560 : Ref sig .tc := ⟨.hbm, 745, rfl⟩
abbrev main_call64_cst : Ref sig .tc := ⟨.hbm, 746, rfl⟩
abbrev main_call64_v0 : Ref sig .tc := ⟨.hbm, 747, rfl⟩
abbrev main_v561 : Ref sig .tc := ⟨.hbm, 748, rfl⟩
abbrev main_v562 : Ref sig .tc := ⟨.hbm, 749, rfl⟩
abbrev main_v563 : Ref sig .tc := ⟨.hbm, 750, rfl⟩

abbrev nD : Nat := 1
abbrev τ : Topo := Topo.v7x

variable {F : FTy → Type} [FloatOps F]
-- ==== Proof.Ideal.Run.lean ====
/-
  The run of the idealized kernel's body on whole staging buffers: the generated module of this content, under a larger budget.
-/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S400x32 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S128x256 .f32) (harg10 : arg10.IsWhole) (arg11 : Memref sig .tc .vmem S64x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S128x128 .f32) (harg17 : arg17.IsWhole) (arg18 : Memref sig .tc .vmem S64x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S128x320 .f32) (harg24 : arg24.IsWhole) (arg25 : Memref sig .tc .vmem S128x320 .f32) (harg25 : arg25.IsWhole) (arg26 : Memref sig .tc .vmem S64x320 .f32) (harg26 : arg26.IsWhole) (arg27 : Memref sig .tc .vmem S1x320 .f32) (harg27 : arg27.IsWhole) (arg28 : Memref sig .tc .vmem S320x128 .f32) (harg28 : arg28.IsWhole) (arg29 : Memref sig .tc .vmem S1x128 .f32) (harg29 : arg29.IsWhole) (arg30 : Memref sig .tc .vmem S128x128 .f32) (harg30 : arg30.IsWhole) (arg31 : Memref sig .tc .vmem S1x128 .f32) (harg31 : arg31.IsWhole) (arg32 : Memref sig .tc .vmem S400x252 .f32) (harg32 : arg32.IsWhole) (arg33 : Memref sig .tc .vmem S8x128 .f32) (harg33 : arg33.IsWhole)
    (x0 : Vec F S400x32 .f32) (x1 : Vec F S128x128 .f32) (x2 : Vec F S1x128 .f32) (x3 : Vec F S128x64 .f32) (x4 : Vec F S1x64 .f32) (x5 : Vec F S64x64 .f32) (x6 : Vec F S1x64 .f32) (x7 : Vec F S64x64 .f32) (x8 : Vec F S1x64 .f32) (x9 : Vec F S128x256 .f32) (x10 : Vec F S64x256 .f32) (x11 : Vec F S1x256 .f32) (x12 : Vec F S256x256 .f32) (x13 : Vec F S1x256 .f32) (x14 : Vec F S256x256 .f32) (x15 : Vec F S1x256 .f32) (x16 : Vec F S128x128 .f32) (x17 : Vec F S64x128 .f32) (x18 : Vec F S1x128 .f32) (x19 : Vec F S128x128 .f32) (x20 : Vec F S1x128 .f32) (x21 : Vec F S128x128 .f32) (x22 : Vec F S1x128 .f32) (x23 : Vec F S128x320 .f32) (x24 : Vec F S128x320 .f32) (x25 : Vec F S64x320 .f32) (x26 : Vec F S1x320 .f32) (x27 : Vec F S320x128 .f32) (x28 : Vec F S1x128 .f32) (x29 : Vec F S128x128 .f32) (x30 : Vec F S1x128 .f32) :
    { L31 : List (View.Piece (Elt F) S400x252 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ (∃ d, owns (c : Thread nD τ) arg32 fullShare d) ∗ (∃ d, owns (c : Thread nD τ) arg33 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ (∃ f, arg32.view.loc (c : Thread nD τ) ↦[arg32.view.set]{fullShare} arg32.view.writes (Elt F) f L31) ∗ (∃ d, owns (c : Thread nD τ) arg33 fullShare d)) -∗ K ⟨⟩))
          ⊢ wp frame (wpE (defs₀ (F := F)) Variants.none c none) E (cc0__tree_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, fun E K => ?run⟩
  case run =>
    simp only [cc0__tree_body_eq_skeleton]; unfold cc0__tree_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%d31, %f31, -, H31⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg31.eq_unread hf30
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]
    · iexists _; isplitr; · ipureintro; exact harg30.read_unread _
      iexact H29
    isplitl [H30]
    · iexists _; isplitr; · ipureintro; exact harg31.read_unread _
      iexact H30
    isplitl [H31]; · iexists _; iexact H31
    iexists _, _; isplitr; swap; · iexact HS0
    ipureintro; rfl

end Cert.KernelIdeal.Gen

end
-- ==== Proof.Ideal.Frame.lean ====
/-
  The frame of the idealized kernel: the generated module of this content over the body's run in `Ideal/Run.lean`.
-/
module

public import proofs.«01_k».proof.Proof.Ideal.Run
public import Idealize.ShloMosaic.Lib.Claim

@[expose] public section

set_option maxHeartbeats 4000000

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 31 tile its block (1 store of `S400x252`, checked by the kernel's evaluation: Lib/Ring.lean `Piece.tiledL`, linear in the pieces, through a loop's `@[irreducible]` trip theorem too), so they cover it. -/
theorem cover0_A_31 (c : Dev nD) (i : grid0.Coords) (arg1 : Memref sig .tc .vmem S400x32 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S128x256 .f32) (harg10 : arg10.IsWhole) (arg11 : Memref sig .tc .vmem S64x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S128x128 .f32) (harg17 : arg17.IsWhole) (arg18 : Memref sig .tc .vmem S64x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S128x320 .f32) (harg24 : arg24.IsWhole) (arg25 : Memref sig .tc .vmem S128x320 .f32) (harg25 : arg25.IsWhole) (arg26 : Memref sig .tc .vmem S64x320 .f32) (harg26 : arg26.IsWhole) (arg27 : Memref sig .tc .vmem S1x320 .f32) (harg27 : arg27.IsWhole) (arg28 : Memref sig .tc .vmem S320x128 .f32) (harg28 : arg28.IsWhole) (arg29 : Memref sig .tc .vmem S1x128 .f32) (harg29 : arg29.IsWhole) (arg30 : Memref sig .tc .vmem S128x128 .f32) (harg30 : arg30.IsWhole) (arg31 : Memref sig .tc .vmem S1x128 .f32) (harg31 : arg31.IsWhole) (arg32 : Memref sig .tc .vmem S400x252 .f32) (harg32 : arg32.IsWhole) (arg33 : Memref sig .tc .vmem S8x128 .f32) (harg33 : arg33.IsWhole)
    (x0 : Vec F S400x32 .f32) (x1 : Vec F S128x128 .f32) (x2 : Vec F S1x128 .f32) (x3 : Vec F S128x64 .f32) (x4 : Vec F S1x64 .f32) (x5 : Vec F S64x64 .f32) (x6 : Vec F S1x64 .f32) (x7 : Vec F S64x64 .f32) (x8 : Vec F S1x64 .f32) (x9 : Vec F S128x256 .f32) (x10 : Vec F S64x256 .f32) (x11 : Vec F S1x256 .f32) (x12 : Vec F S256x256 .f32) (x13 : Vec F S1x256 .f32) (x14 : Vec F S256x256 .f32) (x15 : Vec F S1x256 .f32) (x16 : Vec F S128x128 .f32) (x17 : Vec F S64x128 .f32) (x18 : Vec F S1x128 .f32) (x19 : Vec F S128x128 .f32) (x20 : Vec F S1x128 .f32) (x21 : Vec F S128x128 .f32) (x22 : Vec F S1x128 .f32) (x23 : Vec F S128x320 .f32) (x24 : Vec F S128x320 .f32) (x25 : Vec F S64x320 .f32) (x26 : Vec F S1x320 .f32) (x27 : Vec F S320x128 .f32) (x28 : Vec F S1x128 .f32) (x29 : Vec F S128x128 .f32) (x30 : Vec F S1x128 .f32) (y : S400x252.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27 x28 x29 x30).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27 x28 x29 x30).1 S400x252.size (by sl_kernel_rfl) y

/-- What the run leaves in output 31's staging buffer: its pieces read back over junk. -/
def out0_A_31 (c : Dev nD) (i : grid0.Coords) (arg1 : Memref sig .tc .vmem S400x32 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S128x256 .f32) (harg10 : arg10.IsWhole) (arg11 : Memref sig .tc .vmem S64x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S128x128 .f32) (harg17 : arg17.IsWhole) (arg18 : Memref sig .tc .vmem S64x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S128x320 .f32) (harg24 : arg24.IsWhole) (arg25 : Memref sig .tc .vmem S128x320 .f32) (harg25 : arg25.IsWhole) (arg26 : Memref sig .tc .vmem S64x320 .f32) (harg26 : arg26.IsWhole) (arg27 : Memref sig .tc .vmem S1x320 .f32) (harg27 : arg27.IsWhole) (arg28 : Memref sig .tc .vmem S320x128 .f32) (harg28 : arg28.IsWhole) (arg29 : Memref sig .tc .vmem S1x128 .f32) (harg29 : arg29.IsWhole) (arg30 : Memref sig .tc .vmem S128x128 .f32) (harg30 : arg30.IsWhole) (arg31 : Memref sig .tc .vmem S1x128 .f32) (harg31 : arg31.IsWhole) (arg32 : Memref sig .tc .vmem S400x252 .f32) (harg32 : arg32.IsWhole) (arg33 : Memref sig .tc .vmem S8x128 .f32) (harg33 : arg33.IsWhole)
    (x0 : Vec F S400x32 .f32) (x1 : Vec F S128x128 .f32) (x2 : Vec F S1x128 .f32) (x3 : Vec F S128x64 .f32) (x4 : Vec F S1x64 .f32) (x5 : Vec F S64x64 .f32) (x6 : Vec F S1x64 .f32) (x7 : Vec F S64x64 .f32) (x8 : Vec F S1x64 .f32) (x9 : Vec F S128x256 .f32) (x10 : Vec F S64x256 .f32) (x11 : Vec F S1x256 .f32) (x12 : Vec F S256x256 .f32) (x13 : Vec F S1x256 .f32) (x14 : Vec F S256x256 .f32) (x15 : Vec F S1x256 .f32) (x16 : Vec F S128x128 .f32) (x17 : Vec F S64x128 .f32) (x18 : Vec F S1x128 .f32) (x19 : Vec F S128x128 .f32) (x20 : Vec F S1x128 .f32) (x21 : Vec F S128x128 .f32) (x22 : Vec F S1x128 .f32) (x23 : Vec F S128x320 .f32) (x24 : Vec F S128x320 .f32) (x25 : Vec F S64x320 .f32) (x26 : Vec F S1x320 .f32) (x27 : Vec F S320x128 .f32) (x28 : Vec F S1x128 .f32) (x29 : Vec F S128x128 .f32) (x30 : Vec F S1x128 .f32) : Vec F S400x252 .f32 :=
  VO0_31.read (Elt F) (VO0_31.writes (Elt F) VO0_31.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27 x28 x29 x30).1)

/-! ## What the outputs hold after each point -/

/-- What the outputs' staging buffers hold after the body at point `t`: the run's contents at
    the point's memrefs and input blocks. -/
def outsAt0 (c : Dev nD) (t : Fin cfg0.N) : Vec F S400x252 .f32 :=
  out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => (outsAt0 m c t)
    | ⟨_ + 32, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t))

set_option maxHeartbeats 16000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  rw [show (dats m 0 c).Φ t.castSucc = Pipeline.ΦA spec0 c from rfl, PhiA0_eq]
  unfold outsAt0
  unfold out0_A_31
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexists _; iexact H31
  isplitl [HS0]; · iexact HS0
  iintro ⟨H0, H1, H2, H3, H4, H5, H6, H7, H8, H9, H10, H11, H12, H13, H14, H15, H16, H17, H18, H19, H20, H21, H22, H23, H24, H25, H26, H27, H28, H29, H30, ⟨%e31, H31⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  unfold owns; iexists _; isplitr
  swap; · iexact H31
  ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  θ_run_and (unchanged m ρ) ((θ_run defs _ _).mono (fun _ h => h.2) (run_main_quiescent m ρ))

end Cert.KernelIdeal.Gen

end
-- ==== Proof.Ideal.Blocks.lean ====
/-
  What each grid point writes back, and the result array block by block: the generated module of this content over
  `Ideal/Frame.lean`.
-/
module

public import proofs.«01_k».proof.Proof.Ideal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 31's array: the run's contents for that window after the body (`Gen.outsAt0`), read through the window's block. -/
theorem flushed31 (c : Dev nD) (t : Fin cfg0.N) :
    (dats m 0 c).flushed 31 t = (cfg0.win 31).cut (grid0.coords t) (outsAt0 m c t) := by
  show (cfg0.win 31).cut (grid0.coords t) ((dats m 0 c).after 31 t) = _
  rw [after0_31]

/-- … so at a point where case A runs, what its write-back would write is that case's NAMED TERM for the window (`Gen.out0_A_31`: the pieces
    its run found, read back) at the point's memrefs and input blocks, and for an output the case reads back what the point before left (`Gen.outsAt0` at `t - 1`) — the kernel's one case, `Gen.outsAt0` by definition. -/
theorem flushed31_A (c : Dev nD) (t : Fin cfg0.N) :
    (dats m 0 c).flushed 31 t = (cfg0.win 31).cut (grid0.coords t) (out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)) := by
  simp only [flushed31, outsAt0]

/-- The index map sends distinct grid points to distinct block indices (decided over the 25 points). -/
theorem idx_inj31 : ∀ t t' : Fin cfg0.N, win0_31.index t = win0_31.index t' → t = t' :=
  (by decide +kernel : ∀ t t' : Fin grid0.N, win0_31.index t = win0_31.index t' → t = t')

/-- So two flushing points' blocks share no array index (Lib/Pipeline/Cells.lean `Window.disjoint_blk`). -/
theorem disjoint31 : ∀ t t' : Fin cfg0.N, (cfg0.win 31).flush t = true → (cfg0.win 31).flush t' = true → t ≠ t' →
    Disjoint ((cfg0.win 31).blk t).view.set ((cfg0.win 31).blk t').view.set :=
  fun t t' _ _ hne => (cfg0.win 31).disjoint_blk fun h => hne (idx_inj31 t t' h)

/-- BLOCK `t` OF THE FINAL ARRAY, read back through the window, is what point `t` wrote back (`flushed31`), for every
    point that writes back: no other point's block meets it. -/
theorem blocks31 (c : Dev nD) (t : Fin cfg0.N) (hf : (cfg0.win 31).flush t = true) :
    ((cfg0.win 31).blk t).view.read (Elt F) ((dats m 0 c).arrAt 31 cfg0.N) = (dats m 0 c).flushed 31 t :=
  (dats m 0 c).read_blk_arrAt_eq_flushed 31 disjoint31 cfg0.N t t.isLt hf

/-- An index that no flushing point's block covers keeps output window 31's array contents at region entry. -/
theorem entry31 (c : Dev nD) (i : S10000x252.Idx) (h : ∀ t : Fin cfg0.N, (cfg0.win 31).flush t = true → i ∉ ((cfg0.win 31).blk t).view.set) :
    (dats m 0 c).arrAt 31 cfg0.N i = V m c (Pipeline.arrRef spec0 31) i := by
  rw [(dats m 0 c).arrAt_apply_of_forall_not_mem 31 cfg0.N i (fun t _ hf => h t hf), A_eq]

/-- After the frame run, output window 31's array is `(dats m 0 c).arrAt 31 N`. -/
theorem post31 (r : PUnit × MemSt nD τ sig (Elt F)) (h : Pipeline.FramePost cfgs (dats m) 0 (V m) r) (c : Dev nD) :
    r.2.mem ((c : Thread nD τ).loc main_v144) = (dats m 0 c).arrAt 31 cfg0.N :=
  (h c).1 31

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: no window stages it, and the run leaves the region's other buffers as they were. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- After the frame run, argument `main_arg23` is as launched: no window stages it, and the run leaves the region's other buffers as they were. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the frame run, argument `main_arg24` is as launched: no window stages it, and the run leaves the region's other buffers as they were. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)

/-- After the frame run, argument `main_arg25` is as launched: no window stages it, and the run leaves the region's other buffers as they were. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_main_arg25 m c)

/-- After the frame run, argument `main_arg26` is as launched: no window stages it, and the run leaves the region's other buffers as they were. -/
theorem kept_main_arg26 (r : PUnit × MemSt nD τ sig (Elt F)) (h : Pipeline.FramePost cfgs (dats m) 0 (V m) r) (c : Dev nD) :
    r.2.mem ((c : Thread nD τ).loc main_arg26) = m ((c : Thread nD τ).loc main_arg26) :=
  ((h c).2 main_arg26 (Pipeline.mem_restRefs_of main_arg26 (by decide) (by decide))).trans (V_main_arg26 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v144) = (dats m 0 c).arrAt 31 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨post31 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c⟩)
    (run_main m ρ)

end Cert.KernelIdeal.Value

end
-- ==== Proof.Pack.lean ====
/-
  PACKED ARRAYS. The kernel keeps four chunks of 100 events side by side along the last axis and stacks the tree's
  nodes along the rows. This file says what it means for such an array to hold a family of values (one per event,
  node and feature) and shows, operation by operation, which family each operation's result holds.
-/
module

public import Idealize.ShloMosaic.Lib.Pointwise
public import Idealize.ShloMosaic.Lib.Pipeline.Value
public import Idealize.ShloMosaic.Lib.MatmulPlain
public import Mathlib.Tactic.Ring

@[expose] public section

noncomputable section

open scoped BigOperators

namespace Tree

open Idealize.ShloMosaic

/-- A family of values: event within the block, node, feature. -/
abbrev Fam := ℕ → ℕ → ℕ → EReal

/-- The array's row `v*100 + r`, lane `F*j + f` holds the value of event `j*100 + r`, node `v`, feature `f`. -/
def Pk {R L : ℕ} (a : FVec Ideal ⟨2, ![R, L]⟩ .f32) (F : ℕ) (X : Fam) : Prop :=
  ∀ (i : Fin R) (l : Fin L), a (ix2 i l) = X (l.val / F * 100 + i.val % 100) (i.val / 100) (l.val % F)

/-- The same with the nodes on an axis of their own. -/
def Pk3 {n L : ℕ} (a : FVec Ideal ⟨3, ![n, 100, L]⟩ .f32) (F : ℕ) (X : Fam) : Prop :=
  ∀ (v : Fin n) (r : Fin 100) (l : Fin L), a (ix3 v r l) = X (l.val / F * 100 + r.val) v.val (l.val % F)

/-- The same with the nodes on two axes. -/
def Pk4 {n q L : ℕ} (a : FVec Ideal ⟨4, ![n, q, 100, L]⟩ .f32) (F : ℕ) (X : ℕ → ℕ → ℕ → ℕ → EReal) : Prop :=
  ∀ (v : Fin n) (b : Fin q) (r : Fin 100) (l : Fin L),
    a (ix4 v b r l) = X (l.val / F * 100 + r.val) v.val b.val (l.val % F)

/-- A bias row repeated once per chunk. -/
def Row {L : ℕ} (a : FVec Ideal ⟨2, ![1, L]⟩ .f32) (N : ℕ) (w : ℕ → EReal) : Prop :=
  ∀ l : Fin L, a (ix2 0 l) = w (l.val % N)

/-- A weight matrix repeated once per chunk along the diagonal, zero elsewhere. -/
def Bd {P Q : ℕ} (a : FVec Ideal ⟨2, ![P, Q]⟩ .f32) (K N : ℕ) (w : ℕ → ℕ → EReal) : Prop :=
  ∀ (k : Fin P) (n : Fin Q), a (ix2 k n) = if k.val / K = n.val / N then w (k.val % K) (n.val % N) else 0

theorem Pk.congr {R L F : ℕ} {a : FVec Ideal ⟨2, ![R, L]⟩ .f32} {X Y : Fam} (h : Pk a F X)
    (hXY : ∀ e v f, v < (R + 99) / 100 → X e v f = Y e v f) : Pk a F Y := fun i l => by
  rw [h i l]; exact hXY _ _ _ (by omega)

theorem Pk3.congr {n L F : ℕ} {a : FVec Ideal ⟨3, ![n, 100, L]⟩ .f32} {X Y : Fam} (h : Pk3 a F X)
    (hXY : ∀ e v f, v < n → X e v f = Y e v f) : Pk3 a F Y := fun i r l => by
  rw [h i r l]; exact hXY _ _ _ i.isLt

/-! ## Products -/

/-- In a sum over four chunks of `K` only the chunk on the diagonal contributes. -/
theorem sum_chunk (K : ℕ) (j : ℕ) (hj : j < 4) (hK : 0 < K) (x : ℕ → ℕ → EReal) (w : ℕ → EReal) :
    (∑ k : Fin (4 * K), x (k.val / K) (k.val % K) * (if k.val / K = j then w (k.val % K) else 0))
      = ∑ k ∈ Finset.range K, x j k * w k := by
  rw [Finset.sum_range, ← Equiv.sum_comp (finProdFinEquiv (m := 4) (n := K)), Fintype.sum_prod_type,
    Finset.sum_eq_single (⟨j, hj⟩ : Fin 4)]
  · refine Finset.sum_congr rfl fun k _ => ?_
    have hd : (k.val + K * j) / K = j := by
      rw [Nat.add_mul_div_left _ _ hK, Nat.div_eq_of_lt k.isLt, Nat.zero_add]
    have hm : (k.val + K * j) % K = k.val := by
      rw [Nat.add_mul_mod_self_left, Nat.mod_eq_of_lt k.isLt]
    simp only [finProdFinEquiv_apply_val, hd, hm, if_true]
  · intro b _ hb
    refine Finset.sum_eq_zero fun k _ => ?_
    have hd : (k.val + K * b.val) / K = b.val := by
      rw [Nat.add_mul_div_left _ _ hK, Nat.div_eq_of_lt k.isLt, Nat.zero_add]
    simp only [finProdFinEquiv_apply_val, hd]
    rw [if_neg (fun h => hb (Fin.ext h)), mul_zero]
  · intro h; exact absurd (Finset.mem_univ _) h

/-- A packed array times a repeated weight matrix is the packed product. -/
theorem Pk.mm {R P Q K N : ℕ} {x : FVec Ideal ⟨2, ![R, P]⟩ .f32} {w : FVec Ideal ⟨2, ![P, Q]⟩ .f32} {X : Fam}
    {W : ℕ → ℕ → EReal} {d : DotDims ⟨2, ![R, P]⟩ ⟨2, ![P, Q]⟩ ⟨2, ![R, Q]⟩} {prec : Option ContractPrecision}
    (hx : Pk x K X) (hw : Bd w K N W) (hd : d = DotDims.plain R P Q := by rfl) (hP : P = 4 * K := by norm_num)
    (hQ : Q = 4 * N := by norm_num) (hK : 0 < K := by norm_num) :
    Pk (matmul d prec x w (constant ⟨2, ![R, Q]⟩ .f32 0x00000000#32)) N
      (fun e v n => ∑ k ∈ Finset.range K, X e v k * W k n) := by
  intro i l
  subst hd
  have hm := Ideal.matmul_plain_apply prec x w (constant ⟨2, ![R, Q]⟩ .f32 0x00000000#32) i l
  simp only [← ix2_eq_valueIdx] at hm
  refine hm.trans ?_
  have h0 : (constant (F := Ideal) ⟨2, ![R, Q]⟩ .f32 0x00000000#32) (ix2 i l) = (0 : EReal) := Ideal.ofBits_zero_f32
  rw [h0, zero_add]
  subst hP hQ
  have hN : 0 < N := by
    rcases Nat.eq_zero_or_pos N with h | h
    · subst h; exact absurd l.isLt (by omega)
    · exact h
  refine Eq.trans ?_ (sum_chunk K (l.val / N) (by rw [Nat.div_lt_iff_lt_mul hN]; exact l.isLt) hK
    (fun j k => X (j * 100 + i.val % 100) (i.val / 100) k) (fun k => W k (l.val % N)))
  exact Finset.sum_congr rfl fun k _ => by rw [hx i k, hw k l]

/-! ## Elementwise operations -/

theorem Pk.add {R L F : ℕ} {a b : FVec Ideal ⟨2, ![R, L]⟩ .f32} {X Y : Fam} (ha : Pk a F X) (hb : Pk b F Y) :
    Pk (addf a b) F (fun e v f => X e v f + Y e v f) := fun i l => by
  show a (ix2 i l) + b (ix2 i l) = _
  rw [ha i l, hb i l]

theorem Pk3.add {n L F : ℕ} {a b : FVec Ideal ⟨3, ![n, 100, L]⟩ .f32} {X Y : Fam} (ha : Pk3 a F X) (hb : Pk3 b F Y) :
    Pk3 (addf a b) F (fun e v f => X e v f + Y e v f) := fun i r l => by
  show a (ix3 i r l) + b (ix3 i r l) = _
  rw [ha i r l, hb i r l]

theorem Pk.relu {R L F : ℕ} {a : FVec Ideal ⟨2, ![R, L]⟩ .f32} {X : Fam} (ha : Pk a F X) :
    Pk (maximumf a (broadcast ⟨2, ![R, L]⟩ (Scalar.ofBits (F := Ideal) .f32 0x00000000#32))) F
      (fun e v f => max (X e v f) 0) := fun i l => by
  show max (a (ix2 i l)) (Ideal.ofBits .f32 0x00000000#32) = _
  rw [ha i l, Ideal.ofBits_zero_f32]

theorem Pk3.relu {n L F : ℕ} {a : FVec Ideal ⟨3, ![n, 100, L]⟩ .f32} {X : Fam} (ha : Pk3 a F X) :
    Pk3 (maximumf a (broadcast ⟨3, ![n, 100, L]⟩ (Scalar.ofBits (F := Ideal) .f32 0x00000000#32))) F
      (fun e v f => max (X e v f) 0) := fun i r l => by
  show max (a (ix3 i r l)) (Ideal.ofBits .f32 0x00000000#32) = _
  rw [ha i r l, Ideal.ofBits_zero_f32]

theorem Pk.scale {R L F : ℕ} {a : FVec Ideal ⟨2, ![R, L]⟩ .f32} {X : Fam} {c : EReal} (ha : Pk a F X) :
    Pk (mulf a (broadcast ⟨2, ![R, L]⟩ (c : Ideal .f32))) F (fun e v f => X e v f * c) := fun i l => by
  show a (ix2 i l) * c = _
  rw [ha i l]

/-- The bias row added to every row. -/
theorem Row.bcast {R L N : ℕ} {b : FVec Ideal ⟨2, ![1, L]⟩ .f32} {w : ℕ → EReal}
    {h : (⟨2, ![1, L]⟩ : Shape).Broadcasts ⟨2, ![R, L]⟩} (hb : Row b N w) :
    Pk (broadcastTo ⟨2, ![R, L]⟩ b h) N (fun _ _ n => w n) := fun i l => by
  rw [broadcastTo_apply b h (ix2 i l) (ix2 0 l), hb l]
  intro a
  match a with
  | ⟨0, _⟩ => rfl
  | ⟨1, _⟩ =>
    show l.val = if L = 1 then 0 else l.val
    split_ifs with h1
    · subst h1; omega
    · rfl

theorem Pk3.bcast {n L F : ℕ} {a : FVec Ideal ⟨3, ![1, 100, L]⟩ .f32} {X : Fam}
    {h : (⟨3, ![1, 100, L]⟩ : Shape).Broadcasts ⟨3, ![n, 100, L]⟩} (ha : Pk3 a F X) :
    Pk3 (broadcastTo ⟨3, ![n, 100, L]⟩ a h) F (fun e _ f => X e 0 f) := fun v r l => by
  rw [broadcastTo_apply a h (ix3 v r l) (ix3 0 r l), ha 0 r l]
  · rfl
  intro d
  match d with
  | ⟨0, _⟩ => rfl
  | ⟨1, _⟩ => rfl
  | ⟨2, _⟩ =>
    show l.val = if L = 1 then 0 else l.val
    split_ifs with h1
    · subst h1; omega
    · rfl

/-- The zero array. -/
theorem Pk3.zero {n L F : ℕ} :
    Pk3 (broadcast ⟨3, ![n, 100, L]⟩ (Scalar.ofBits (F := Ideal) .f32 0x00000000#32)) F (fun _ _ _ => 0) :=
  fun _ _ _ => Ideal.ofBits_zero_f32

/-! ## Changes of shape -/

theorem Pk.to3 {R n L F : ℕ} {a : FVec Ideal ⟨2, ![R, L]⟩ .f32} {X : Fam}
    {h : (⟨2, ![R, L]⟩ : Shape).ShapeCasts ⟨3, ![n, 100, L]⟩} (ha : Pk a F X) (hR : R = n * 100 := by norm_num) :
    Pk3 (shapeCast ⟨3, ![n, 100, L]⟩ a h) F X := fun v r l => by
  have hlt : v.val * 100 + r.val < R := by have := v.isLt; have := r.isLt; omega
  rw [shapeCast_apply a h (ix3 v r l) (ix2 ⟨v.val * 100 + r.val, hlt⟩ l), ha]
  · have := r.isLt
    show X (_ * 100 + (v.val * 100 + r.val) % 100) ((v.val * 100 + r.val) / 100) _ = _
    rw [show (v.val * 100 + r.val) % 100 = r.val by omega, show (v.val * 100 + r.val) / 100 = v.val by omega]
  · rw [Shape.rowMajor_val_two, Shape.rowMajor_val_three]; rfl

theorem Pk3.to2 {R n L F : ℕ} {a : FVec Ideal ⟨3, ![n, 100, L]⟩ .f32} {X : Fam}
    {h : (⟨3, ![n, 100, L]⟩ : Shape).ShapeCasts ⟨2, ![R, L]⟩} (ha : Pk3 a F X) (hR : R = n * 100 := by norm_num) :
    Pk (shapeCast ⟨2, ![R, L]⟩ a h) F X := fun i l => by
  have hv : i.val / 100 < n := by have := i.isLt; omega
  rw [shapeCast_apply a h (ix2 i l) (ix3 ⟨i.val / 100, hv⟩ ⟨i.val % 100, by omega⟩ l), ha]
  rw [Shape.rowMajor_val_two, Shape.rowMajor_val_three]
  show (i.val / 100 * 100 + i.val % 100) * L + l.val = i.val * L + l.val
  rw [show i.val / 100 * 100 + i.val % 100 = i.val by omega]

theorem Pk3.to4 {n L F : ℕ} {a : FVec Ideal ⟨3, ![n, 100, L]⟩ .f32} {X : Fam}
    {h : (⟨3, ![n, 100, L]⟩ : Shape).ShapeCasts ⟨4, ![n, 1, 100, L]⟩} (ha : Pk3 a F X) :
    Pk4 (shapeCast ⟨4, ![n, 1, 100, L]⟩ a h) F (fun e v _ f => X e v f) := fun v b r l => by
  rw [shapeCast_apply a h (ix4 v b r l) (ix3 v r l), ha]
  rw [Shape.rowMajor_val_three, Shape.rowMajor_val_four]
  show (v.val * 100 + r.val) * L + l.val = ((v.val * 1 + b.val) * 100 + r.val) * L + l.val
  have : b.val = 0 := by omega
  rw [this, Nat.mul_one, Nat.add_zero]

theorem Pk4.bcast {n q L F : ℕ} {a : FVec Ideal ⟨4, ![n, 1, 100, L]⟩ .f32} {X : ℕ → ℕ → ℕ → ℕ → EReal}
    {h : (⟨4, ![n, 1, 100, L]⟩ : Shape).Broadcasts ⟨4, ![n, q, 100, L]⟩} (ha : Pk4 a F X) :
    Pk4 (broadcastTo ⟨4, ![n, q, 100, L]⟩ a h) F (fun e v _ f => X e v 0 f) := fun v b r l => by
  rw [broadcastTo_apply a h (ix4 v b r l) (ix4 v 0 r l), ha v 0 r l]
  · rfl
  intro d
  match d with
  | ⟨0, _⟩ =>
    show v.val = if n = 1 then 0 else v.val
    split_ifs with h1
    · subst h1; omega
    · rfl
  | ⟨1, _⟩ => rfl
  | ⟨2, _⟩ => rfl
  | ⟨3, _⟩ =>
    show l.val = if L = 1 then 0 else l.val
    split_ifs with h1
    · subst h1; omega
    · rfl

theorem Pk4.to3 {n m L F : ℕ} {a : FVec Ideal ⟨4, ![n, 2, 100, L]⟩ .f32} {X : ℕ → ℕ → ℕ → ℕ → EReal}
    {h : (⟨4, ![n, 2, 100, L]⟩ : Shape).ShapeCasts ⟨3, ![m, 100, L]⟩} (ha : Pk4 a F X) (hm : m = n * 2 := by norm_num) :
    Pk3 (shapeCast ⟨3, ![m, 100, L]⟩ a h) F (fun e v f => X e (v / 2) (v % 2) f) := fun v r l => by
  have hv : v.val / 2 < n := by have := v.isLt; omega
  rw [shapeCast_apply a h (ix3 v r l) (ix4 ⟨v.val / 2, hv⟩ ⟨v.val % 2, by omega⟩ r l), ha]
  rw [Shape.rowMajor_val_three, Shape.rowMajor_val_four]
  show ((v.val / 2 * 2 + v.val % 2) * 100 + r.val) * L + l.val = (v.val * 100 + r.val) * L + l.val
  rw [show v.val / 2 * 2 + v.val % 2 = v.val by omega]

/-- Every node's values repeated twice. -/
theorem Pk3.rep {n m L F : ℕ} {a : FVec Ideal ⟨3, ![n, 100, L]⟩ .f32} {X : Fam}
    {h1 : (⟨3, ![n, 100, L]⟩ : Shape).ShapeCasts ⟨4, ![n, 1, 100, L]⟩}
    {h2 : (⟨4, ![n, 1, 100, L]⟩ : Shape).Broadcasts ⟨4, ![n, 2, 100, L]⟩}
    {h3 : (⟨4, ![n, 2, 100, L]⟩ : Shape).ShapeCasts ⟨3, ![m, 100, L]⟩} (ha : Pk3 a F X) (hm : m = n * 2 := by norm_num) :
    Pk3 (shapeCast ⟨3, ![m, 100, L]⟩ (broadcastTo ⟨4, ![n, 2, 100, L]⟩ (shapeCast ⟨4, ![n, 1, 100, L]⟩ a h1) h2) h3) F
      (fun e v f => X e (v / 2) f) :=
  Pk4.to3 (Pk4.bcast (Pk3.to4 ha)) hm

/-! ## The sum over the nodes -/

theorem Pk3.sum {n L F : ℕ} {a : FVec Ideal ⟨3, ![n, 100, L]⟩ .f32} {X : Fam}
    {h : (⟨3, ![n, 100, L]⟩ : Shape).Reduces [0] ⟨2, ![100, L]⟩} {hφ : FKind.Formats .f32}
    {hacc : (0x00000000#32 : BitVec 32) = FKind.add.neutral .f32 hφ} (ha : Pk3 a F X) :
    Pk (multiReduction (F := Ideal) .add [0] ⟨2, ![100, L]⟩ a 0x00000000#32 h hφ hacc) F
      (fun e _ f => ∑ v ∈ Finset.range n, X e v f) := fun r l => by
  rw [multiReduction_add_apply, Ideal.reduceAdd_def, Ideal.reduceAdd_r3_a0]
  refine Eq.trans ?_ (Finset.sum_range (fun v => X (l.val / F * 100 + r.val % 100) v (l.val % F))).symm
  refine Finset.sum_congr rfl fun v _ => ?_
  have h1 := ha v r l
  rw [show r.val % 100 = r.val from Nat.mod_eq_of_lt r.isLt]
  exact h1

/-! ## Slices -/

theorem Pk3.slice {n m L F o : ℕ} {a : FVec Ideal ⟨3, ![n, 100, L]⟩ .f32} {X : Fam}
    {h : (⟨3, ![n, 100, L]⟩ : Shape).Slices ![o, 0, 0] ⟨3, ![m, 100, L]⟩} (ha : Pk3 a F X) :
    Pk3 (extractStridedSlice ⟨3, ![m, 100, L]⟩ ![o, 0, 0] a h) F (fun e v f => X e (o + v) f) := fun v r l => by
  have hlt : o + v.val < n := Nat.lt_of_lt_of_le (Nat.add_lt_add_left v.isLt o) (h.2 0)
  rw [extractStridedSlice_apply _ a h (ix3 v r l) (ix3 ⟨o + v.val, hlt⟩ r l), ha]
  intro d
  match d with
  | ⟨0, _⟩ => rfl
  | ⟨1, _⟩ => show r.val = 0 + r.val; omega
  | ⟨2, _⟩ => show l.val = 0 + l.val; omega

theorem Pk.slice {R M L F q : ℕ} (o : ℕ) {a : FVec Ideal ⟨2, ![R, L]⟩ .f32} {X : Fam}
    {h : (⟨2, ![R, L]⟩ : Shape).Slices ![q, 0] ⟨2, ![M, L]⟩} (ha : Pk a F X) (hq : q = o * 100 := by norm_num) :
    Pk (extractStridedSlice ⟨2, ![M, L]⟩ ![q, 0] a h) F (fun e v f => X e (o + v) f) := fun i l => by
  have hlt : q + i.val < R := Nat.lt_of_lt_of_le (Nat.add_lt_add_left i.isLt q) (h.2 0)
  rw [extractStridedSlice_apply _ a h (ix2 i l) (ix2 ⟨q + i.val, hlt⟩ l), ha]
  · subst hq
    show X (_ * 100 + (o * 100 + i.val) % 100) ((o * 100 + i.val) / 100) _ = _
    rw [show (o * 100 + i.val) % 100 = i.val % 100 by omega, show (o * 100 + i.val) / 100 = o + i.val / 100 by omega]
  intro d
  match d with
  | ⟨0, _⟩ => rfl
  | ⟨1, _⟩ => show l.val = 0 + l.val; omega

/-! ## Concatenations -/

/-- The pieces `xs`, laid from position `o` on along axis `a`, agree with `g`. -/
def Cat (t : Shape) (a : Fin t.rank) (g : t.Idx → EReal) : ℕ → List ((s : Shape) × (s.Idx → EReal)) → Prop
  | _, [] => True
  | o, ⟨s, x⟩ :: xs =>
    (∀ (hr : s.rank = t.rank) (i : s.Idx) (j : t.Idx), (∀ b, b.cast hr ≠ a → (i b).val = (j (b.cast hr)).val) →
      o + (i (a.cast hr.symm)).val = (j a).val → x i = g j) ∧
    ∀ hr : s.rank = t.rank, Cat t a g (o + s.size (a.cast hr.symm)) xs

theorem Cat.at {t : Shape} {a : Fin t.rank} {g : t.Idx → EReal} (j : t.Idx) :
    ∀ (xs : List ((s : Shape) × (s.Idx → EReal))) (o : ℕ) (hs : ∀ s ∈ xs.map (·.1), s.FitsOff t a) (c : ℕ)
      (hc : c < (axisSizes t a xs).sum), Cat t a g o xs → o + c = (j a).val → concatenateAt t a j xs hs c hc = g j
  | [], _, _, _, hc, _, _ => absurd hc (Nat.not_lt_zero _)
  | [⟨s, x⟩], o, hs, c, hc, hcat, hoc => by
    rw [concatenateAt_singleton]
    refine hcat.1 (hs s List.mem_cons_self).rank_eq _ j (fun b hb => ?_) ?_
    · rw [Shape.Idx.norm_def]
      have : ¬ b.val = a.val := fun h => hb (Fin.ext h)
      simp only [if_neg this]
    · rw [Shape.Idx.norm_def]
      simp only [Fin.val_cast, if_true]
      exact hoc
  | ⟨s, x⟩ :: q :: xs, o, hs, c, hc, hcat, hoc => by
    rw [concatenateAt_cons]
    split_ifs with hlt
    · refine hcat.1 (hs s List.mem_cons_self).rank_eq _ j (fun b hb => ?_) ?_
      · rw [Shape.Idx.norm_def]
        have : ¬ b.val = a.val := fun h => hb (Fin.ext h)
        simp only [if_neg this]
      · rw [Shape.Idx.norm_def]
        simp only [Fin.val_cast, if_true]
        exact hoc
    · exact Cat.at j (q :: xs) _ _ _ _ (hcat.2 (hs s List.mem_cons_self).rank_eq) (by omega)

theorem Cat.apply {t : Shape} {a : Fin t.rank} {g : t.Idx → EReal} {xs : List ((s : Shape) × (s.Idx → EReal))}
    {h : Shape.Concatenates (xs.map (·.1)) t a} (hx : Cat t a g 0 xs) (j : t.Idx) : concatenate t a xs h j = g j := by
  rw [concatenate_apply]
  exact Cat.at j xs 0 _ _ _ hx (Nat.zero_add _)

/-- The family read at a position of the packed array. -/
def at2 (R L F : ℕ) (X : Fam) : (⟨2, ![R, L]⟩ : Shape).Idx → EReal :=
  fun i => X ((i 1).val / F * 100 + (i 0).val % 100) ((i 0).val / 100) ((i 1).val % F)

/-- The family read at a position of the packed array with a node axis. -/
def at3 (n L F : ℕ) (X : Fam) : (⟨3, ![n, 100, L]⟩ : Shape).Idx → EReal :=
  fun i => X ((i 2).val / F * 100 + (i 1).val) (i 0).val ((i 2).val % F)

theorem Cat.nil {t : Shape} {a : Fin t.rank} {g : t.Idx → EReal} {o : ℕ} : Cat t a g o [] := trivial

/-- One more stack of rows: nodes `o`, `o + 1`, … -/
theorem Cat.cons2 {R M L F : ℕ} (o : ℕ) {q q' : ℕ} {a : FVec Ideal ⟨2, ![M, L]⟩ .f32} {X : Fam}
    {xs : List ((s : Shape) × (s.Idx → EReal))} (ha : Pk a F (fun e v f => X e (o + v) f))
    (hx : Cat ⟨2, ![R, L]⟩ 0 (at2 R L F X) q' xs) (hq : q = o * 100 := by norm_num) (hq' : q' = q + M := by norm_num) :
    Cat ⟨2, ![R, L]⟩ 0 (at2 R L F X) q (⟨⟨2, ![M, L]⟩, a⟩ :: xs) := by
  refine ⟨fun hr i j hb hj => ?_, fun hr => ?_⟩
  · have h1 : (i 1).val = (j 1).val := hb 1 (fun h => by have := congrArg Fin.val h; simp at this)
    have h0 : q + (i 0).val = (j 0).val := hj
    refine (congrArg a (eq_ix2 i)).trans ((ha (i 0) (i 1)).trans ?_)
    show X _ _ _ = X _ _ _
    subst hq
    rw [← h1, ← h0, show (o * 100 + (i 0).val) % 100 = (i 0).val % 100 by omega,
      show (o * 100 + (i 0).val) / 100 = o + (i 0).val / 100 by omega]
  · rw [hq'] at hx; exact hx

/-- One more stack of nodes. -/
theorem Cat.cons3 {n m L F o o' : ℕ} {a : FVec Ideal ⟨3, ![m, 100, L]⟩ .f32} {X : Fam}
    {xs : List ((s : Shape) × (s.Idx → EReal))} (ha : Pk3 a F (fun e v f => X e (o + v) f))
    (hx : Cat ⟨3, ![n, 100, L]⟩ 0 (at3 n L F X) o' xs) (ho' : o' = o + m := by norm_num) :
    Cat ⟨3, ![n, 100, L]⟩ 0 (at3 n L F X) o (⟨⟨3, ![m, 100, L]⟩, a⟩ :: xs) := by
  refine ⟨fun hr i j hb hj => ?_, fun hr => ?_⟩
  · have h1 : (i 1).val = (j 1).val := hb 1 (fun h => by have := congrArg Fin.val h; simp at this)
    have h2 : (i 2).val = (j 2).val := hb 2 (fun h => by have := congrArg Fin.val h; simp at this)
    have h0 : o + (i 0).val = (j 0).val := hj
    refine (congrArg a (eq_ix3 i)).trans ((ha (i 0) (i 1) (i 2)).trans ?_)
    show X _ _ _ = X _ _ _
    rw [← h1, ← h2, ← h0]
  · rw [ho'] at hx; exact hx

theorem Cat.pk {R L F : ℕ} {X : Fam} {xs : List ((s : Shape) × (s.Idx → EReal))}
    {h : Shape.Concatenates (xs.map (·.1)) ⟨2, ![R, L]⟩ 0} (hx : Cat ⟨2, ![R, L]⟩ 0 (at2 R L F X) 0 xs) :
    Pk (concatenate ⟨2, ![R, L]⟩ 0 xs h) F X := fun i l => Cat.apply hx (ix2 i l)

theorem Cat.pk3 {n L F : ℕ} {X : Fam} {xs : List ((s : Shape) × (s.Idx → EReal))}
    {h : Shape.Concatenates (xs.map (·.1)) ⟨3, ![n, 100, L]⟩ 0} (hx : Cat ⟨3, ![n, 100, L]⟩ 0 (at3 n L F X) 0 xs) :
    Pk3 (concatenate ⟨3, ![n, 100, L]⟩ 0 xs h) F X := fun v r l => Cat.apply hx (ix3 v r l)

end Tree
-- ==== Proof.Spec.lean ====
/-
  WHAT THE TREE GENERATOR COMPUTES, event by event. Nodes are numbered breadth first: node `v > 0` has the parent
  `(v - 1) / 2`. One step takes the features of `na` nodes to those of `2 * na + 1` nodes.
-/
module

public import Idealize.ShloMosaic.Lib.Pointwise
public import Mathlib.Tactic.Ring

@[expose] public section

noncomputable section

open scoped BigOperators

namespace Tree

/-- A vector of features. -/
abbrev Ft := ℕ → EReal

/-- The weights of the five networks. -/
structure Wts where
  (pw0 : ℕ → ℕ → EReal) (pb0 : Ft) (pw1 : ℕ → ℕ → EReal) (pb1 : Ft)
  (qw0 : ℕ → ℕ → EReal) (qb0 : Ft) (qw1 : ℕ → ℕ → EReal) (qb1 : Ft)
  (bw0 : ℕ → ℕ → EReal) (bb0 : Ft) (bw1 : ℕ → ℕ → EReal) (bb1 : Ft) (bw2 : ℕ → ℕ → EReal) (bb2 : Ft)
  (mw0 : ℕ → ℕ → EReal) (mb0 : Ft) (mw1 : ℕ → ℕ → EReal) (mb1 : Ft) (mw2 : ℕ → ℕ → EReal) (mb2 : Ft)
  (uw0 : ℕ → ℕ → EReal) (ub0 : Ft) (uw1 : ℕ → ℕ → EReal) (ub1 : Ft) (uw2 : ℕ → ℕ → EReal) (ub2 : Ft)

/-- One layer: `max (x · w + b) 0`. -/
def lay (K : ℕ) (w : ℕ → ℕ → EReal) (b x : Ft) : Ft := fun n => max (∑ k ∈ Finset.range K, x k * w k n + b n) 0

/-- A layer whose input is 32 features of a node and 16 global ones. -/
def lay2 (w : ℕ → ℕ → EReal) (b x g : Ft) : Ft := fun n =>
  max (∑ k ∈ Finset.range 32, x k * w k n + (∑ k ∈ Finset.range 16, g k * w (32 + k) n + b n)) 0

/-- A layer whose input is 32 features of a node, 32 aggregated ones and 16 global ones. -/
def lay3 (w : ℕ → ℕ → EReal) (b x a g : Ft) : Ft := fun n =>
  max ((∑ k ∈ Finset.range 32, x k * w k n + ∑ k ∈ Finset.range 32, a k * w (32 + k) n)
    + (∑ k ∈ Finset.range 16, g k * w (64 + k) n + b n)) 0

/-- The network before the mean over the nodes. -/
def pre (W : Wts) (x : Ft) : Ft := lay 32 W.pw1 W.pb1 (lay 32 W.pw0 W.pb0 x)

/-- The network after the mean over the nodes. -/
def post (W : Wts) (x : Ft) : Ft := lay 16 W.qw1 W.qb1 (lay 16 W.qw0 W.qb0 x)

/-- The branching network: both children's features. -/
def br (W : Wts) (x g : Ft) : Ft := lay 64 W.bw2 W.bb2 (lay 64 W.bw1 W.bb1 (lay2 W.bw0 W.bb0 x g))

/-- The message of a node. -/
def msg (W : Wts) (x g : Ft) : Ft := lay 32 W.mw2 W.mb2 (lay 32 W.mw1 W.mb1 (lay2 W.mw0 W.mb0 x g))

/-- The update of a node. -/
def upd (W : Wts) (x a g : Ft) : Ft := lay 32 W.uw2 W.ub2 (lay 80 W.uw1 W.ub1 (lay3 W.uw0 W.ub0 x a g))

/-- The global features: the mean over the first `na` nodes between two networks. -/
def glob (W : Wts) (na : ℕ) (c : EReal) (X : ℕ → Ft) : Ft :=
  post W fun f => (∑ v ∈ Finset.range na, pre W (X v) f) * c

/-- The nodes after branching: the old ones, then the children of the last level. -/
def kids (W : Wts) (na : ℕ) (X : ℕ → Ft) (g : Ft) (v : ℕ) : Ft := fun f =>
  if v < na then X v f else br W (X ((v - 1) / 2)) g (32 * ((v + 1) % 2) + f)

/-- The sum of the messages of a node's ancestors. -/
def agg (m : ℕ → EReal) (v : ℕ) : EReal := if h : v = 0 then 0 else agg m ((v - 1) / 2) + m ((v - 1) / 2)
termination_by v
decreasing_by omega

/-- The sum of the messages of a node and its ancestors. -/
def acc (m : ℕ → EReal) (v : ℕ) : EReal := agg m v + m v

theorem agg_zero (m : ℕ → EReal) : agg m 0 = 0 := by rw [agg, dif_pos rfl]

theorem agg_pos (m : ℕ → EReal) {v : ℕ} (h : v ≠ 0) : agg m v = acc m ((v - 1) / 2) := by
  rw [agg, dif_neg h, acc]

theorem acc_zero (m : ℕ → EReal) : acc m 0 = m 0 := by rw [acc, agg_zero, zero_add]

theorem acc_pos (m : ℕ → EReal) {v : ℕ} (h : v ≠ 0) : acc m v = acc m ((v - 1) / 2) + m v := by
  rw [acc, agg_pos m h]

/-- Only the messages of the ancestors count. -/
theorem agg_congr {m m' : ℕ → EReal} {v : ℕ} (h : ∀ u < v, m u = m' u) : agg m v = agg m' v := by
  induction v using Nat.strong_induction_on with
  | _ v ih =>
    by_cases h0 : v = 0
    · subst h0; rw [agg_zero, agg_zero]
    · have hlt : (v - 1) / 2 < v := by omega
      rw [agg_pos m h0, agg_pos m' h0, acc, acc, ih _ hlt fun u hu => h u (hu.trans hlt), h _ hlt]

/-- One step of the generator. -/
def step (W : Wts) (na : ℕ) (c : EReal) (X : ℕ → Ft) (v : ℕ) : Ft :=
  upd W (kids W na X (glob W na c X) v) (fun f => agg (fun u => msg W (X u) (glob W na c X) f) v) (glob W na c X)

/-- The features of all nodes after five steps from the root's, the means taken with the factors `c`. -/
def tree (W : Wts) (c : ℕ → EReal) (x : Ft) : ℕ → ℕ → Ft
  | 0 => fun _ => x
  | n + 1 => step W (2 ^ (n + 1) - 1) (c n) (tree W c x n)

end Tree
-- ==== Proof.Nets.lean ====
/-
  THE NETWORKS ON PACKED ARRAYS. What the layers, the pooling, the branching and the ancestor sums of `Spec.lean` are
  on the arrays of `Pack.lean`.
-/
module

public import proofs.«01_k».proof.Proof.Pack
public import proofs.«01_k».proof.Proof.Spec

@[expose] public section

noncomputable section

open scoped BigOperators

namespace Tree

open Idealize.ShloMosaic

/-- The arrays of weights that the kernel's body reads. -/
structure Arr where
  (v1 : FVec Ideal ⟨2, ![128, 128]⟩ .f32) (v3 : FVec Ideal ⟨2, ![1, 128]⟩ .f32)
  (v5 : FVec Ideal ⟨2, ![128, 64]⟩ .f32) (v7 : FVec Ideal ⟨2, ![1, 64]⟩ .f32)
  (v9 : FVec Ideal ⟨2, ![64, 64]⟩ .f32) (v11 : FVec Ideal ⟨2, ![1, 64]⟩ .f32)
  (v13 : FVec Ideal ⟨2, ![64, 64]⟩ .f32) (v15 : FVec Ideal ⟨2, ![1, 64]⟩ .f32)
  (v17 : FVec Ideal ⟨2, ![128, 256]⟩ .f32) (v19 : FVec Ideal ⟨2, ![64, 256]⟩ .f32)
  (v21 : FVec Ideal ⟨2, ![1, 256]⟩ .f32)
  (v23 : FVec Ideal ⟨2, ![256, 256]⟩ .f32) (v25 : FVec Ideal ⟨2, ![1, 256]⟩ .f32)
  (v27 : FVec Ideal ⟨2, ![256, 256]⟩ .f32) (v29 : FVec Ideal ⟨2, ![1, 256]⟩ .f32)
  (v31 : FVec Ideal ⟨2, ![128, 128]⟩ .f32) (v33 : FVec Ideal ⟨2, ![64, 128]⟩ .f32)
  (v35 : FVec Ideal ⟨2, ![1, 128]⟩ .f32)
  (v37 : FVec Ideal ⟨2, ![128, 128]⟩ .f32) (v39 : FVec Ideal ⟨2, ![1, 128]⟩ .f32)
  (v41 : FVec Ideal ⟨2, ![128, 128]⟩ .f32) (v43 : FVec Ideal ⟨2, ![1, 128]⟩ .f32)
  (v45 : FVec Ideal ⟨2, ![128, 320]⟩ .f32) (v47 : FVec Ideal ⟨2, ![128, 320]⟩ .f32)
  (v49 : FVec Ideal ⟨2, ![64, 320]⟩ .f32) (v51 : FVec Ideal ⟨2, ![1, 320]⟩ .f32)
  (v53 : FVec Ideal ⟨2, ![320, 128]⟩ .f32) (v55 : FVec Ideal ⟨2, ![1, 128]⟩ .f32)
  (v57 : FVec Ideal ⟨2, ![128, 128]⟩ .f32) (v59 : FVec Ideal ⟨2, ![1, 128]⟩ .f32)

/-- The arrays hold the weights `W`, each repeated for the four chunks. -/
structure Good (A : Arr) (W : Wts) : Prop where
  v1 : Bd A.v1 32 32 W.pw0
  v3 : Row A.v3 32 W.pb0
  v5 : Bd A.v5 32 16 W.pw1
  v7 : Row A.v7 16 W.pb1
  v9 : Bd A.v9 16 16 W.qw0
  v11 : Row A.v11 16 W.qb0
  v13 : Bd A.v13 16 16 W.qw1
  v15 : Row A.v15 16 W.qb1
  v17 : Bd A.v17 32 64 W.bw0
  v19 : Bd A.v19 16 64 fun k n => W.bw0 (32 + k) n
  v21 : Row A.v21 64 W.bb0
  v23 : Bd A.v23 64 64 W.bw1
  v25 : Row A.v25 64 W.bb1
  v27 : Bd A.v27 64 64 W.bw2
  v29 : Row A.v29 64 W.bb2
  v31 : Bd A.v31 32 32 W.mw0
  v33 : Bd A.v33 16 32 fun k n => W.mw0 (32 + k) n
  v35 : Row A.v35 32 W.mb0
  v37 : Bd A.v37 32 32 W.mw1
  v39 : Row A.v39 32 W.mb1
  v41 : Bd A.v41 32 32 W.mw2
  v43 : Row A.v43 32 W.mb2
  v45 : Bd A.v45 32 80 W.uw0
  v47 : Bd A.v47 32 80 fun k n => W.uw0 (32 + k) n
  v49 : Bd A.v49 16 80 fun k n => W.uw0 (64 + k) n
  v51 : Row A.v51 80 W.ub0
  v53 : Bd A.v53 80 32 W.uw1
  v55 : Row A.v55 32 W.ub1
  v57 : Bd A.v57 32 32 W.uw2
  v59 : Row A.v59 32 W.ub2

/-! ## Layers -/

theorem Pk.lay {R P Q K N : ℕ} {x : FVec Ideal ⟨2, ![R, P]⟩ .f32} {w : FVec Ideal ⟨2, ![P, Q]⟩ .f32}
    {b : FVec Ideal ⟨2, ![1, Q]⟩ .f32} {X : Fam} {W : ℕ → ℕ → EReal} {B : Ft}
    {d : DotDims ⟨2, ![R, P]⟩ ⟨2, ![P, Q]⟩ ⟨2, ![R, Q]⟩} {prec : Option ContractPrecision}
    {h : (⟨2, ![1, Q]⟩ : Shape).Broadcasts ⟨2, ![R, Q]⟩} (hx : Pk x K X) (hw : Bd w K N W) (hb : Row b N B)
    (hd : d = DotDims.plain R P Q := by rfl) (hP : P = 4 * K := by norm_num) (hQ : Q = 4 * N := by norm_num)
    (hK : 0 < K := by norm_num) :
    Pk (maximumf (addf (matmul d prec x w (constant ⟨2, ![R, Q]⟩ .f32 0x00000000#32)) (broadcastTo ⟨2, ![R, Q]⟩ b h))
      (broadcast ⟨2, ![R, Q]⟩ (Scalar.ofBits (F := Ideal) .f32 0x00000000#32))) N (fun e v => Tree.lay K W B (X e v)) :=
  Pk.relu (Pk.add (Pk.mm hx hw hd hP hQ hK) (Row.bcast hb))

/-- The global features' share of a layer, with the bias. -/
theorem Pk.gc {P Q N : ℕ} {g : FVec Ideal ⟨2, ![100, P]⟩ .f32} {w : FVec Ideal ⟨2, ![P, Q]⟩ .f32}
    {b : FVec Ideal ⟨2, ![1, Q]⟩ .f32} {G : ℕ → Ft} {W : ℕ → ℕ → EReal} {B : Ft}
    {d : DotDims ⟨2, ![100, P]⟩ ⟨2, ![P, Q]⟩ ⟨2, ![100, Q]⟩} {prec : Option ContractPrecision}
    {h : (⟨2, ![1, Q]⟩ : Shape).Broadcasts ⟨2, ![100, Q]⟩} (hg : Pk g 16 (fun e _ => G e)) (hw : Bd w 16 N W)
    (hb : Row b N B) (hd : d = DotDims.plain 100 P Q := by rfl) (hP : P = 4 * 16 := by norm_num)
    (hQ : Q = 4 * N := by norm_num) :
    Pk (addf (matmul d prec g w (constant ⟨2, ![100, Q]⟩ .f32 0x00000000#32)) (broadcastTo ⟨2, ![100, Q]⟩ b h)) N
      (fun e _ n => ∑ k ∈ Finset.range 16, G e k * W k n + B n) :=
  Pk.add (Pk.mm hg hw hd hP hQ) (Row.bcast hb)

variable {A : Arr} {W : Wts}

/-- The first layer of the branching or message network, before it is flattened. -/
theorem Pk3.lay2 {n R Q N : ℕ} {x : FVec Ideal ⟨2, ![R, 128]⟩ .f32} {w : FVec Ideal ⟨2, ![128, Q]⟩ .f32}
    {c : FVec Ideal ⟨3, ![1, 100, Q]⟩ .f32} {X : Fam} {G : ℕ → Ft} {V : ℕ → ℕ → EReal} {B : Ft}
    {d : DotDims ⟨2, ![R, 128]⟩ ⟨2, ![128, Q]⟩ ⟨2, ![R, Q]⟩} {prec : Option ContractPrecision}
    {h : (⟨2, ![R, Q]⟩ : Shape).ShapeCasts ⟨3, ![n, 100, Q]⟩}
    {h' : (⟨3, ![1, 100, Q]⟩ : Shape).Broadcasts ⟨3, ![n, 100, Q]⟩} (hx : Pk x 32 X) (hw : Bd w 32 N V)
    (hc : Pk3 c N (fun e _ n => ∑ k ∈ Finset.range 16, G e k * V (32 + k) n + B n))
    (hd : d = DotDims.plain R 128 Q := by rfl)
    (hQ : Q = 4 * N := by norm_num) (hR : R = n * 100 := by norm_num) :
    Pk3 (maximumf (addf (shapeCast ⟨3, ![n, 100, Q]⟩ (matmul d prec x w (constant ⟨2, ![R, Q]⟩ .f32 0x00000000#32)) h)
        (broadcastTo ⟨3, ![n, 100, Q]⟩ c h'))
      (broadcast ⟨3, ![n, 100, Q]⟩ (Scalar.ofBits (F := Ideal) .f32 0x00000000#32))) N
      (fun e v => Tree.lay2 V B (X e v) (G e)) :=
  Pk3.relu (Pk3.add (Pk.to3 (Pk.mm hx hw hd (by norm_num) hQ (by norm_num)) hR) (Pk3.bcast hc))

/-! ## The whole networks, over arrays of the weights `W` -/

section
variable {R : ℕ} {X : Fam} {G : ℕ → Ft} {d0 : DotDims ⟨2, ![R, 128]⟩ ⟨2, ![128, 128]⟩ ⟨2, ![R, 128]⟩}
  {d1 : DotDims ⟨2, ![R, 128]⟩ ⟨2, ![128, 64]⟩ ⟨2, ![R, 64]⟩} {p0 p1 : Option ContractPrecision}

theorem Pk.pre {x : FVec Ideal ⟨2, ![R, 128]⟩ .f32}
    {h0 : (⟨2, ![1, 128]⟩ : Shape).Broadcasts ⟨2, ![R, 128]⟩} {h1 : (⟨2, ![1, 64]⟩ : Shape).Broadcasts ⟨2, ![R, 64]⟩}
    (hA : Good A W) (hx : Pk x 32 X) (hd0 : d0 = DotDims.plain R 128 128 := by rfl)
    (hd1 : d1 = DotDims.plain R 128 64 := by rfl) :
    Pk (maximumf (addf (matmul d1 p1 (maximumf (addf (matmul d0 p0 x A.v1 (constant ⟨2, ![R, 128]⟩ .f32 0x00000000#32))
        (broadcastTo ⟨2, ![R, 128]⟩ A.v3 h0)) (broadcast ⟨2, ![R, 128]⟩ (Scalar.ofBits (F := Ideal) .f32 0x00000000#32)))
        A.v5 (constant ⟨2, ![R, 64]⟩ .f32 0x00000000#32)) (broadcastTo ⟨2, ![R, 64]⟩ A.v7 h1))
        (broadcast ⟨2, ![R, 64]⟩ (Scalar.ofBits (F := Ideal) .f32 0x00000000#32))) 16 (fun e v => Tree.pre W (X e v)) :=
  Pk.lay (Pk.lay hx hA.v1 hA.v3 hd0) hA.v5 hA.v7 hd1

theorem Pk.post {x : FVec Ideal ⟨2, ![100, 64]⟩ .f32} {Y : ℕ → Ft}
    {d0 d1 : DotDims ⟨2, ![100, 64]⟩ ⟨2, ![64, 64]⟩ ⟨2, ![100, 64]⟩}
    {h0 h1 : (⟨2, ![1, 64]⟩ : Shape).Broadcasts ⟨2, ![100, 64]⟩}
    (hA : Good A W) (hx : Pk x 16 (fun e _ => Y e)) (hd0 : d0 = DotDims.plain 100 64 64 := by rfl)
    (hd1 : d1 = DotDims.plain 100 64 64 := by rfl) :
    Pk (maximumf (addf (matmul d1 p1 (maximumf (addf (matmul d0 p0 x A.v9 (constant ⟨2, ![100, 64]⟩ .f32 0x00000000#32))
        (broadcastTo ⟨2, ![100, 64]⟩ A.v11 h0)) (broadcast ⟨2, ![100, 64]⟩ (Scalar.ofBits (F := Ideal) .f32 0x00000000#32)))
        A.v13 (constant ⟨2, ![100, 64]⟩ .f32 0x00000000#32)) (broadcastTo ⟨2, ![100, 64]⟩ A.v15 h1))
        (broadcast ⟨2, ![100, 64]⟩ (Scalar.ofBits (F := Ideal) .f32 0x00000000#32))) 16 (fun e _ => Tree.post W (Y e)) :=
  Pk.lay (Pk.lay hx hA.v9 hA.v11 hd0) hA.v13 hA.v15 hd1

/-- The mean over the nodes, scaled by `c`. -/
theorem Pk3.pool {n : ℕ} {a : FVec Ideal ⟨3, ![n, 100, 64]⟩ .f32} {c : EReal}
    {h : (⟨3, ![n, 100, 64]⟩ : Shape).Reduces [0] ⟨2, ![100, 64]⟩} {hφ : FKind.Formats .f32}
    {hacc : (0x00000000#32 : BitVec 32) = FKind.add.neutral .f32 hφ} (ha : Pk3 a 16 (fun e v => Tree.pre W (X e v))) :
    Pk (mulf (multiReduction (F := Ideal) .add [0] ⟨2, ![100, 64]⟩ a 0x00000000#32 h hφ hacc)
      (broadcast ⟨2, ![100, 64]⟩ (c : Ideal .f32))) 16
      (fun e _ f => (∑ v ∈ Finset.range n, Tree.pre W (X e v) f) * c) :=
  Pk.scale (Pk3.sum ha)

/-- The rest of the branching network. -/
theorem Pk.br {x : FVec Ideal ⟨2, ![R, 256]⟩ .f32} {d0 d1 : DotDims ⟨2, ![R, 256]⟩ ⟨2, ![256, 256]⟩ ⟨2, ![R, 256]⟩}
    {h0 h1 : (⟨2, ![1, 256]⟩ : Shape).Broadcasts ⟨2, ![R, 256]⟩}
    (hA : Good A W) (hx : Pk x 64 (fun e v => Tree.lay2 W.bw0 W.bb0 (X e v) (G e)))
    (hd0 : d0 = DotDims.plain R 256 256 := by rfl) (hd1 : d1 = DotDims.plain R 256 256 := by rfl) :
    Pk (maximumf (addf (matmul d1 p1 (maximumf (addf (matmul d0 p0 x A.v23 (constant ⟨2, ![R, 256]⟩ .f32 0x00000000#32))
        (broadcastTo ⟨2, ![R, 256]⟩ A.v25 h0)) (broadcast ⟨2, ![R, 256]⟩ (Scalar.ofBits (F := Ideal) .f32 0x00000000#32)))
        A.v27 (constant ⟨2, ![R, 256]⟩ .f32 0x00000000#32)) (broadcastTo ⟨2, ![R, 256]⟩ A.v29 h1))
        (broadcast ⟨2, ![R, 256]⟩ (Scalar.ofBits (F := Ideal) .f32 0x00000000#32))) 64
      (fun e v => Tree.br W (X e v) (G e)) :=
  Pk.lay (Pk.lay hx hA.v23 hA.v25 hd0) hA.v27 hA.v29 hd1

/-- The rest of the message network. -/
theorem Pk.msg {x : FVec Ideal ⟨2, ![R, 128]⟩ .f32} {d0 d1 : DotDims ⟨2, ![R, 128]⟩ ⟨2, ![128, 128]⟩ ⟨2, ![R, 128]⟩}
    {h0 h1 : (⟨2, ![1, 128]⟩ : Shape).Broadcasts ⟨2, ![R, 128]⟩}
    (hA : Good A W) (hx : Pk x 32 (fun e v => Tree.lay2 W.mw0 W.mb0 (X e v) (G e)))
    (hd0 : d0 = DotDims.plain R 128 128 := by rfl) (hd1 : d1 = DotDims.plain R 128 128 := by rfl) :
    Pk (maximumf (addf (matmul d1 p1 (maximumf (addf (matmul d0 p0 x A.v37 (constant ⟨2, ![R, 128]⟩ .f32 0x00000000#32))
        (broadcastTo ⟨2, ![R, 128]⟩ A.v39 h0)) (broadcast ⟨2, ![R, 128]⟩ (Scalar.ofBits (F := Ideal) .f32 0x00000000#32)))
        A.v41 (constant ⟨2, ![R, 128]⟩ .f32 0x00000000#32)) (broadcastTo ⟨2, ![R, 128]⟩ A.v43 h1))
        (broadcast ⟨2, ![R, 128]⟩ (Scalar.ofBits (F := Ideal) .f32 0x00000000#32))) 32
      (fun e v => Tree.msg W (X e v) (G e)) :=
  Pk.lay (Pk.lay hx hA.v37 hA.v39 hd0) hA.v41 hA.v43 hd1

/-- The rest of the update network. -/
theorem Pk.upd {x : FVec Ideal ⟨2, ![R, 320]⟩ .f32} {S : Fam} {d2 : DotDims ⟨2, ![R, 320]⟩ ⟨2, ![320, 128]⟩ ⟨2, ![R, 128]⟩}
    {h0 h1 : (⟨2, ![1, 128]⟩ : Shape).Broadcasts ⟨2, ![R, 128]⟩}
    (hA : Good A W) (hx : Pk x 80 (fun e v => Tree.lay3 W.uw0 W.ub0 (X e v) (S e v) (G e)))
    (hd2 : d2 = DotDims.plain R 320 128 := by rfl) (hd0 : d0 = DotDims.plain R 128 128 := by rfl) :
    Pk (maximumf (addf (matmul d0 p1 (maximumf (addf (matmul d2 p0 x A.v53 (constant ⟨2, ![R, 128]⟩ .f32 0x00000000#32))
        (broadcastTo ⟨2, ![R, 128]⟩ A.v55 h0)) (broadcast ⟨2, ![R, 128]⟩ (Scalar.ofBits (F := Ideal) .f32 0x00000000#32)))
        A.v57 (constant ⟨2, ![R, 128]⟩ .f32 0x00000000#32)) (broadcastTo ⟨2, ![R, 128]⟩ A.v59 h1))
        (broadcast ⟨2, ![R, 128]⟩ (Scalar.ofBits (F := Ideal) .f32 0x00000000#32))) 32
      (fun e v => Tree.upd W (X e v) (S e v) (G e)) :=
  Pk.lay (Pk.lay hx hA.v53 hA.v55 hd2) hA.v57 hA.v59 hd0

end

/-! ## Ancestor sums -/

/-- The sums over a node and its ancestors, as a family. -/
def accF (M : Fam) : Fam := fun e v f => acc (fun u => M e u f) v

/-- The sums over the ancestors, as a family. -/
def aggF (M : Fam) : Fam := fun e v f => agg (fun u => M e u f) v

/-- The root's level of the sums: the message itself. -/
theorem Pk3.acc0 {n L F : ℕ} {a : FVec Ideal ⟨3, ![n, 100, L]⟩ .f32} {M : Fam}
    {h : (⟨3, ![n, 100, L]⟩ : Shape).Slices ![0, 0, 0] ⟨3, ![1, 100, L]⟩} (ha : Pk3 a F M) :
    Pk3 (extractStridedSlice ⟨3, ![1, 100, L]⟩ ![0, 0, 0] a h) F (fun e v => accF M e (0 + v)) :=
  (Pk3.slice ha).congr fun e v f hv => by
    have : v = 0 := by omega
    subst this
    exact (acc_zero fun u => M e u f).symm

/-- A level of the sums from the level before, every node's value twice. -/
theorem Pk3.accS {n m L F o' : ℕ} (o : ℕ) {a : FVec Ideal ⟨3, ![n, 100, L]⟩ .f32} {s : FVec Ideal ⟨3, ![m, 100, L]⟩ .f32}
    {M : Fam} {h : (⟨3, ![n, 100, L]⟩ : Shape).Slices ![o, 0, 0] ⟨3, ![m, 100, L]⟩}
    (hs : Pk3 s F (fun e v => accF M e (o' + v / 2))) (ha : Pk3 a F M) (ho : o = 2 * o' + 1 := by norm_num) :
    Pk3 (addf s (extractStridedSlice ⟨3, ![m, 100, L]⟩ ![o, 0, 0] a h)) F (fun e v => accF M e (o + v)) :=
  (Pk3.add hs (Pk3.slice ha)).congr fun e v f _ => by
    show acc _ (o' + v / 2) + M e (o + v) f = acc _ (o + v)
    rw [acc_pos (v := o + v) _ (by omega), show (o + v - 1) / 2 = o' + v / 2 by omega]

/-- What the ancestor sums add to the update's first layer: nothing at the root, the parent's share elsewhere. -/
def fromParent (S : Fam) : Fam := fun e v n => if v = 0 then 0 else S e ((v - 1) / 2) n

theorem Pk3.par0 {L F : ℕ} {S : Fam} :
    Pk3 (broadcast ⟨3, ![1, 100, L]⟩ (Scalar.ofBits (F := Ideal) .f32 0x00000000#32)) F
      (fun e v => fromParent S e (0 + v)) :=
  Pk3.zero.congr fun e v f hv => by
    have : v = 0 := by omega
    subst this
    exact (if_pos rfl).symm

/-- A level of them: the level above, every node's value twice. -/
theorem Pk3.parS {m L F : ℕ} (o' o : ℕ) {s : FVec Ideal ⟨3, ![m, 100, L]⟩ .f32} {S : Fam}
    (hs : Pk3 s F (fun e v => S e (o' + v / 2))) (ho : o = 2 * o' + 1 := by norm_num) :
    Pk3 s F (fun e v => fromParent S e (o + v)) :=
  hs.congr fun e v f _ => by
    show S e (o' + v / 2) f = if o + v = 0 then 0 else S e ((o + v - 1) / 2) f
    rw [if_neg (by omega), show (o + v - 1) / 2 = o' + v / 2 by omega]

/-- The parent's share of the sums is the product with the ancestors' sums. -/
theorem fromParent_mul (M : Fam) (V : ℕ → ℕ → EReal) (e v n : ℕ) :
    fromParent (fun e v n => ∑ k ∈ Finset.range 32, accF M e v k * V k n) e v n
      = ∑ k ∈ Finset.range 32, aggF M e v k * V k n := by
  unfold fromParent aggF accF
  split_ifs with h
  · subst h
    exact (Finset.sum_eq_zero fun k _ => by rw [agg_zero, zero_mul]).symm
  · exact Finset.sum_congr rfl fun k _ => by rw [agg_pos _ h]

/-- The update's first layer from its three shares. -/
theorem Pk3.lay3 {n Q N : ℕ} {a b c : FVec Ideal ⟨3, ![n, 100, Q]⟩ .f32} {Y M : Fam} {G : ℕ → Ft} {V : ℕ → ℕ → EReal}
    {B : Ft} (ha : Pk3 a N (fun e v n => ∑ k ∈ Finset.range 32, Y e v k * V k n))
    (hb : Pk3 b N (fromParent fun e v n => ∑ k ∈ Finset.range 32, accF M e v k * V (32 + k) n))
    (hc : Pk3 c N (fun e _ n => ∑ k ∈ Finset.range 16, G e k * V (64 + k) n + B n)) :
    Pk3 (maximumf (addf (addf a b) c) (broadcast ⟨3, ![n, 100, Q]⟩ (Scalar.ofBits (F := Ideal) .f32 0x00000000#32))) N
      (fun e v => Tree.lay3 V B (Y e v) (aggF M e v) (G e)) :=
  (Pk3.relu (Pk3.add (Pk3.add ha hb) hc)).congr fun e v f _ => by
    show max (_ + fromParent _ e v f + _) 0 = _
    rw [fromParent_mul M (fun k n => V (32 + k) n)]; rfl

/-! ## Branching -/

/-- One more group of 32 lanes, taken at `q` in its chunk of 64. -/
theorem Cat.half {n q p : ℕ} (o : ℕ) {a : FVec Ideal ⟨3, ![n, 100, 256]⟩ .f32} {B : Fam}
    {xs : List ((s : Shape) × (s.Idx → EReal))} {o' : ℕ}
    {h : (⟨3, ![n, 100, 256]⟩ : Shape).Slices ![0, 0, p] ⟨3, ![n, 100, 32]⟩} (hq : q ≤ 32) (ha : Pk3 a 64 B)
    (hx : Cat ⟨3, ![n, 100, 128]⟩ 2 (at3 n 128 32 fun e v f => B e v (q + f)) o' xs) (hp : p = 2 * o + q)
    (ho : o % 32 = 0 := by norm_num) (ho' : o' = o + 32 := by norm_num) :
    Cat ⟨3, ![n, 100, 128]⟩ 2 (at3 n 128 32 fun e v f => B e v (q + f)) o
      (⟨⟨3, ![n, 100, 32]⟩, extractStridedSlice ⟨3, ![n, 100, 32]⟩ ![0, 0, p] a h⟩ :: xs) := by
  refine ⟨fun hr i k hb hj => ?_, fun hr => ?_⟩
  · have h0 : (i 0).val = (k 0).val := hb 0 (fun h => by have := congrArg Fin.val h; simp at this)
    have h1 : (i 1).val = (k 1).val := hb 1 (fun h => by have := congrArg Fin.val h; simp at this)
    have h2 : o + (i 2).val = (k 2).val := hj
    have hi : (i 2).val < 32 := (i 2).isLt
    have hlt : p + (i 2).val < 256 := Nat.lt_of_lt_of_le (Nat.add_lt_add_left (i 2).isLt p) (h.2 2)
    refine (extractStridedSlice_apply _ a h i (ix3 (i 0) (i 1) ⟨p + (i 2).val, hlt⟩) ?_).trans
      ((ha (i 0) (i 1) ⟨p + (i 2).val, hlt⟩).trans ?_)
    rotate_left
    · show B ((p + (i 2).val) / 64 * 100 + (i 1).val) (i 0).val ((p + (i 2).val) % 64)
        = B ((k 2).val / 32 * 100 + (k 1).val) (k 0).val (q + (k 2).val % 32)
      rw [← h0, ← h1, ← h2, show (p + (i 2).val) / 64 = (o + (i 2).val) / 32 by omega,
        show (p + (i 2).val) % 64 = q + (o + (i 2).val) % 32 by omega]
    · intro d
      match d with
      | ⟨0, _⟩ => show (i 0).val = 0 + (i 0).val; omega
      | ⟨1, _⟩ => show (i 1).val = 0 + (i 1).val; omega
      | ⟨2, _⟩ => rfl
  · rw [ho'] at hx; exact hx

/-- One child's features: the half of every 64-wide chunk that starts at `q`. -/
theorem Pk3.half {n q p0 p1 p2 p3 : ℕ} {a : FVec Ideal ⟨3, ![n, 100, 256]⟩ .f32} {B : Fam}
    {h0 : (⟨3, ![n, 100, 256]⟩ : Shape).Slices ![0, 0, p0] ⟨3, ![n, 100, 32]⟩}
    {h1 : (⟨3, ![n, 100, 256]⟩ : Shape).Slices ![0, 0, p1] ⟨3, ![n, 100, 32]⟩}
    {h2 : (⟨3, ![n, 100, 256]⟩ : Shape).Slices ![0, 0, p2] ⟨3, ![n, 100, 32]⟩}
    {h3 : (⟨3, ![n, 100, 256]⟩ : Shape).Slices ![0, 0, p3] ⟨3, ![n, 100, 32]⟩}
    {h : Shape.Concatenates [⟨3, ![n, 100, 32]⟩, ⟨3, ![n, 100, 32]⟩, ⟨3, ![n, 100, 32]⟩, ⟨3, ![n, 100, 32]⟩]
      ⟨3, ![n, 100, 128]⟩ 2} (ha : Pk3 a 64 B)
    (hp0 : p0 = q := by rfl) (hp1 : p1 = 64 + q := by rfl) (hp2 : p2 = 128 + q := by rfl) (hp3 : p3 = 192 + q := by rfl)
    (hq : q ≤ 32 := by norm_num) :
    Pk3 (concatenate ⟨3, ![n, 100, 128]⟩ 2
      [⟨⟨3, ![n, 100, 32]⟩, extractStridedSlice ⟨3, ![n, 100, 32]⟩ ![0, 0, p0] a h0⟩,
       ⟨⟨3, ![n, 100, 32]⟩, extractStridedSlice ⟨3, ![n, 100, 32]⟩ ![0, 0, p1] a h1⟩,
       ⟨⟨3, ![n, 100, 32]⟩, extractStridedSlice ⟨3, ![n, 100, 32]⟩ ![0, 0, p2] a h2⟩,
       ⟨⟨3, ![n, 100, 32]⟩, extractStridedSlice ⟨3, ![n, 100, 32]⟩ ![0, 0, p3] a h3⟩] h) 32
      (fun e v f => B e v (q + f)) := fun v r l =>
  Cat.apply (g := at3 n 128 32 fun e v f => B e v (q + f))
    (Cat.half 0 (o' := 32) hq ha (Cat.half 32 (o' := 64) hq ha (Cat.half 64 (o' := 96) hq ha
      (Cat.half 96 (o' := 128) hq ha Cat.nil (by omega)) (by omega)) (by omega)) (by omega)) (ix3 v r l)

/-- The two children's features side by side on an axis of their own. -/
theorem Pk4.pair {n : ℕ} {a b : FVec Ideal ⟨4, ![n, 1, 100, 128]⟩ .f32} {X Y : Fam}
    {h : Shape.Concatenates [⟨4, ![n, 1, 100, 128]⟩, ⟨4, ![n, 1, 100, 128]⟩] ⟨4, ![n, 2, 100, 128]⟩ 1}
    (ha : Pk4 a 32 (fun e v _ => X e v)) (hb : Pk4 b 32 (fun e v _ => Y e v)) :
    Pk4 (concatenate ⟨4, ![n, 2, 100, 128]⟩ 1
      [⟨⟨4, ![n, 1, 100, 128]⟩, a⟩, ⟨⟨4, ![n, 1, 100, 128]⟩, b⟩] h) 32
      (fun e v c f => if c = 0 then X e v f else Y e v f) := fun v c r l => by
  refine Cat.apply (g := fun i => if (i 1).val = 0 then X ((i 3).val / 32 * 100 + (i 2).val) (i 0).val ((i 3).val % 32)
    else Y ((i 3).val / 32 * 100 + (i 2).val) (i 0).val ((i 3).val % 32)) ?_ (ix4 v c r l)
  refine ⟨fun hr i k hb' hj => ?_, fun hr => ⟨fun hr i k hb' hj => ?_, fun _ => trivial⟩⟩
  all_goals
    have h0 : (i 0).val = (k 0).val := hb' 0 (fun h => by have := congrArg Fin.val h; simp at this)
    have h2 : (i 2).val = (k 2).val := hb' 2 (fun h => by have := congrArg Fin.val h; simp at this)
    have h3 : (i 3).val = (k 3).val := hb' 3 (fun h => by have := congrArg Fin.val h; simp at this)
    have hi : (i 1).val < 1 := (i 1).isLt
  · have h1 : 0 + (i 1).val = (k 1).val := hj
    refine (congrArg a (eq_ix4 i)).trans ((ha (i 0) (i 1) (i 2) (i 3)).trans ?_)
    show X ((i 3).val / 32 * 100 + (i 2).val) (i 0).val ((i 3).val % 32)
      = if (k 1).val = 0 then X ((k 3).val / 32 * 100 + (k 2).val) (k 0).val ((k 3).val % 32) else _
    rw [if_pos (by rw [← h1, Nat.lt_one_iff.mp hi]), ← h0, ← h2, ← h3]
  · have h1 : 0 + 1 + (i 1).val = (k 1).val := hj
    refine (congrArg b (eq_ix4 i)).trans ((hb (i 0) (i 1) (i 2) (i 3)).trans ?_)
    show Y ((i 3).val / 32 * 100 + (i 2).val) (i 0).val ((i 3).val % 32)
      = if (k 1).val = 0 then _ else Y ((k 3).val / 32 * 100 + (k 2).val) (k 0).val ((k 3).val % 32)
    rw [if_neg (by rw [← h1, Nat.lt_one_iff.mp hi]; exact one_ne_zero), ← h0, ← h2, ← h3]

/-- Branching, as a family: the old nodes, then the children. -/
def kidsF (W : Wts) (na : ℕ) (X : Fam) (G : ℕ → Ft) : Fam := fun e => kids W na (X e) (G e)

/-- A level of old nodes. -/
theorem Pk3.old {n L F o na : ℕ} {a : FVec Ideal ⟨3, ![n, 100, L]⟩ .f32} {X : Fam} {G : ℕ → Ft}
    (ha : Pk3 a F (fun e v => X e (o + v))) (h : o + n ≤ na := by norm_num) :
    Pk3 a F (fun e v => kidsF W na X G e (o + v)) :=
  ha.congr fun e v f hv => (if_pos (by omega)).symm

/-- The level of the children. -/
theorem Pk3.new {n m o na : ℕ} {a b : FVec Ideal ⟨4, ![n, 1, 100, 128]⟩ .f32} {X : Fam} {G : ℕ → Ft}
    {h : Shape.Concatenates [⟨4, ![n, 1, 100, 128]⟩, ⟨4, ![n, 1, 100, 128]⟩] ⟨4, ![n, 2, 100, 128]⟩ 1}
    {h' : (⟨4, ![n, 2, 100, 128]⟩ : Shape).ShapeCasts ⟨3, ![m, 100, 128]⟩}
    (ha : Pk4 a 32 (fun e v _ f => br W (X e (o + v)) (G e) (0 + f)))
    (hb : Pk4 b 32 (fun e v _ f => br W (X e (o + v)) (G e) (32 + f)))
    (hm : m = n * 2 := by norm_num) (hna : na = 2 * o + 1 := by norm_num) :
    Pk3 (shapeCast ⟨3, ![m, 100, 128]⟩ (concatenate ⟨4, ![n, 2, 100, 128]⟩ 1
      [⟨⟨4, ![n, 1, 100, 128]⟩, a⟩, ⟨⟨4, ![n, 1, 100, 128]⟩, b⟩] h) h') 32 (fun e v => kidsF W na X G e (na + v)) :=
  (Pk4.to3 (Pk4.pair ha hb) hm).congr fun e v f _ => by
    show (if v % 2 = 0 then _ else _) = if na + v < na then _ else br W (X e ((na + v - 1) / 2)) (G e) (32 * ((na + v + 1) % 2) + f)
    rw [if_neg (show ¬na + v < na by omega), show (na + v - 1) / 2 = o + v / 2 by omega]
    split_ifs with h2
    · rw [show (na + v + 1) % 2 = 0 by omega]
    · rw [show (na + v + 1) % 2 = 1 by omega]

/-- Branching and the ancestor sums put together are the specification's step. -/
theorem step_eq (na : ℕ) (c : EReal) (X : Fam) (e v : ℕ) :
    upd W (kidsF W na X (fun e => glob W na c (X e)) e v)
      (aggF (fun e v => msg W (X e v) (glob W na c (X e))) e v) (glob W na c (X e)) = step W na c (X e) v := rfl

end Tree
-- ==== Proof.Early.lean ====
/-
  THE BODY'S FIRST THREE ITERATIONS. What each payload of the body holds, from what the payloads it reads hold: `X` the
  nodes before the iteration, `G` their global features, `Y` the nodes after branching, `M` the messages.
-/
module

public import proofs.«01_k».proof.Proof.Nets
public import proofs.«01_k».proof.Proof.Gen.KernelIdeal.Skeleton

@[expose] public section

set_option maxHeartbeats 1000000
set_option maxRecDepth 4000

noncomputable section

open scoped BigOperators

namespace Tree

open Idealize.ShloMosaic Cert.KernelIdeal Cert.KernelIdeal.Gen

abbrev T2 (R L : ℕ) : Type := FVec Ideal ⟨2, ![R, L]⟩ .f32
abbrev T3 (n L : ℕ) : Type := FVec Ideal ⟨3, ![n, 100, L]⟩ .f32
abbrev T4 (n q L : ℕ) : Type := FVec Ideal ⟨4, ![n, q, 100, L]⟩ .f32

/-- The factors of the means, as the kernel spells them. -/
def kc : ℕ → EReal
  | 0 => Scalar.ofBits (F := Ideal) .f32 0x3F800000#32
  | 1 => (Named.named κ "inv3" 0x3EAAAAAB#32 : Ideal .f32)
  | 2 => (Named.named κ "inv7" 0x3E124925#32 : Ideal .f32)
  | 3 => (Named.named κ "inv15" 0x3D888889#32 : Ideal .f32)
  | _ => (Named.named κ "inv31" 0x3D042108#32 : Ideal .f32)

/-- Zeros that a payload is handed as the start of a product. -/
abbrev zeros (R L : ℕ) : T2 R L := constant (F := Ideal) ⟨2, ![R, L]⟩ .f32 0x00000000#32

/-- The features of the block's events, one row each. -/
def Root (a : FVec Ideal ⟨2, ![400, 32]⟩ .f32) (x : ℕ → Ft) : Prop :=
  ∀ (e : Fin 400) (f : Fin 32), a (ix2 e f) = x e.val f.val

/-- One more chunk of a hundred events, laid along the lanes. -/
theorem Cat.root {q o' : ℕ} (o : ℕ) {a : FVec Ideal ⟨2, ![400, 32]⟩ .f32} {x : ℕ → Ft}
    {xs : List ((s : Shape) × (s.Idx → EReal))} {h : (⟨2, ![400, 32]⟩ : Shape).Slices ![q, 0] ⟨2, ![100, 32]⟩}
    (ha : Root a x) (hx : Cat ⟨2, ![100, 128]⟩ 1 (at2 100 128 32 fun e _ => x e) o' xs)
    (ho : o = q / 100 * 32 := by norm_num) (ho' : o' = o + 32 := by norm_num) (hq : q % 100 = 0 := by norm_num) :
    Cat ⟨2, ![100, 128]⟩ 1 (at2 100 128 32 fun e _ => x e) o
      (⟨⟨2, ![100, 32]⟩, extractStridedSlice ⟨2, ![100, 32]⟩ ![q, 0] a h⟩ :: xs) := by
  refine ⟨fun hr i k hb hj => ?_, fun hr => ?_⟩
  · have h0 : (i 0).val = (k 0).val := hb 0 (fun h => by have := congrArg Fin.val h; simp at this)
    have h1 : o + (i 1).val = (k 1).val := hj
    have hi : (i 1).val < 32 := (i 1).isLt
    have hi0 : (i 0).val < 100 := (i 0).isLt
    have hlt : q + (i 0).val < 400 := Nat.lt_of_lt_of_le (Nat.add_lt_add_left (i 0).isLt q) (h.2 0)
    refine (extractStridedSlice_apply _ a h i (ix2 ⟨q + (i 0).val, hlt⟩ (i 1)) ?_).trans
      ((ha ⟨q + (i 0).val, hlt⟩ (i 1)).trans ?_)
    · intro d
      match d with
      | ⟨0, _⟩ => rfl
      | ⟨1, _⟩ => show (i 1).val = 0 + (i 1).val; omega
    · show x (q + (i 0).val) (i 1).val = x ((k 1).val / 32 * 100 + (k 0).val % 100) ((k 1).val % 32)
      rw [← h0, ← h1, show (o + (i 1).val) / 32 * 100 + (i 0).val % 100 = q + (i 0).val by omega,
        show (o + (i 1).val) % 32 = (i 1).val by omega]
  · rw [ho'] at hx; exact hx

/-- A level of the nodes, cut out of all of them. -/
theorem Pk.lev {R M m q : ℕ} (o : ℕ) {a : T2 R 128} {Y : Fam} {h : (⟨2, ![R, 128]⟩ : Shape).Slices ![q, 0] ⟨2, ![M, 128]⟩}
    {h' : (⟨2, ![M, 128]⟩ : Shape).ShapeCasts ⟨3, ![m, 100, 128]⟩} (ha : Pk a 32 Y) (hq : q = o * 100 := by norm_num)
    (hm : M = m * 100 := by norm_num) :
    Pk3 (shapeCast ⟨3, ![m, 100, 128]⟩ (extractStridedSlice ⟨2, ![M, 128]⟩ ![q, 0] a h) h') 32 (fun e v => Y e (o + v)) :=
  Pk.to3 (Pk.slice o ha hq) hm

/-- With the root alone the sums are the message. -/
theorem Pk.acc0 {L F : ℕ} {a : T2 100 L} {M : Fam} (ha : Pk a F M) : Pk a F (fun e v => accF M e (0 + v)) :=
  ha.congr fun e v f hv => by
    have : v = 0 := by omega
    subst this
    exact (acc_zero fun u => M e u f).symm

/-- The next level's sums, every node's value twice. -/
theorem Pk3.repA {n m L F o : ℕ} {a : T3 n L} {S : Fam}
    {h1 : (⟨3, ![n, 100, L]⟩ : Shape).ShapeCasts ⟨4, ![n, 1, 100, L]⟩}
    {h2 : (⟨4, ![n, 1, 100, L]⟩ : Shape).Broadcasts ⟨4, ![n, 2, 100, L]⟩}
    {h3 : (⟨4, ![n, 2, 100, L]⟩ : Shape).ShapeCasts ⟨3, ![m, 100, L]⟩} (ha : Pk3 a F (fun e v => S e (o + v)))
    (hm : m = n * 2 := by norm_num) :
    Pk3 (shapeCast ⟨3, ![m, 100, L]⟩ (broadcastTo ⟨4, ![n, 2, 100, L]⟩ (shapeCast ⟨4, ![n, 1, 100, L]⟩ a h1) h2) h3) F
      (fun e v => S e (o + v / 2)) :=
  Pk3.rep (X := fun e v => S e (o + v)) ha hm

/-! ## Stacks of two to six levels -/

theorem Cat.pk_2 {R L F : ℕ} {X : Fam} {s0 s1 : Shape} {a : s0.Idx → EReal} {b : s1.Idx → EReal}
    {h : Shape.Concatenates [s0, s1] ⟨2, ![R, L]⟩ 0}
    (hx : Cat ⟨2, ![R, L]⟩ 0 (at2 R L F X) 0 [⟨s0, a⟩, ⟨s1, b⟩]) :
    Pk (concatenate ⟨2, ![R, L]⟩ 0 [⟨s0, a⟩, ⟨s1, b⟩] h) F X := Cat.pk hx

theorem Cat.pk3_2 {R L F : ℕ} {X : Fam} {s0 s1 : Shape} {a : s0.Idx → EReal} {b : s1.Idx → EReal}
    {h : Shape.Concatenates [s0, s1] ⟨3, ![R, 100, L]⟩ 0}
    (hx : Cat ⟨3, ![R, 100, L]⟩ 0 (at3 R L F X) 0 [⟨s0, a⟩, ⟨s1, b⟩]) :
    Pk3 (concatenate ⟨3, ![R, 100, L]⟩ 0 [⟨s0, a⟩, ⟨s1, b⟩] h) F X := Cat.pk3 hx

theorem Cat.pk_3 {R L F : ℕ} {X : Fam} {s0 s1 s2 : Shape} {a : s0.Idx → EReal} {b : s1.Idx → EReal} {c : s2.Idx → EReal}
    {h : Shape.Concatenates [s0, s1, s2] ⟨2, ![R, L]⟩ 0}
    (hx : Cat ⟨2, ![R, L]⟩ 0 (at2 R L F X) 0 [⟨s0, a⟩, ⟨s1, b⟩, ⟨s2, c⟩]) :
    Pk (concatenate ⟨2, ![R, L]⟩ 0 [⟨s0, a⟩, ⟨s1, b⟩, ⟨s2, c⟩] h) F X := Cat.pk hx

theorem Cat.pk3_3 {R L F : ℕ} {X : Fam} {s0 s1 s2 : Shape} {a : s0.Idx → EReal} {b : s1.Idx → EReal} {c : s2.Idx → EReal}
    {h : Shape.Concatenates [s0, s1, s2] ⟨3, ![R, 100, L]⟩ 0}
    (hx : Cat ⟨3, ![R, 100, L]⟩ 0 (at3 R L F X) 0 [⟨s0, a⟩, ⟨s1, b⟩, ⟨s2, c⟩]) :
    Pk3 (concatenate ⟨3, ![R, 100, L]⟩ 0 [⟨s0, a⟩, ⟨s1, b⟩, ⟨s2, c⟩] h) F X := Cat.pk3 hx

theorem Cat.pk_4 {R L F : ℕ} {X : Fam} {s0 s1 s2 s3 : Shape} {a : s0.Idx → EReal} {b : s1.Idx → EReal} {c : s2.Idx → EReal} {d : s3.Idx → EReal}
    {h : Shape.Concatenates [s0, s1, s2, s3] ⟨2, ![R, L]⟩ 0}
    (hx : Cat ⟨2, ![R, L]⟩ 0 (at2 R L F X) 0 [⟨s0, a⟩, ⟨s1, b⟩, ⟨s2, c⟩, ⟨s3, d⟩]) :
    Pk (concatenate ⟨2, ![R, L]⟩ 0 [⟨s0, a⟩, ⟨s1, b⟩, ⟨s2, c⟩, ⟨s3, d⟩] h) F X := Cat.pk hx

theorem Cat.pk3_4 {R L F : ℕ} {X : Fam} {s0 s1 s2 s3 : Shape} {a : s0.Idx → EReal} {b : s1.Idx → EReal} {c : s2.Idx → EReal} {d : s3.Idx → EReal}
    {h : Shape.Concatenates [s0, s1, s2, s3] ⟨3, ![R, 100, L]⟩ 0}
    (hx : Cat ⟨3, ![R, 100, L]⟩ 0 (at3 R L F X) 0 [⟨s0, a⟩, ⟨s1, b⟩, ⟨s2, c⟩, ⟨s3, d⟩]) :
    Pk3 (concatenate ⟨3, ![R, 100, L]⟩ 0 [⟨s0, a⟩, ⟨s1, b⟩, ⟨s2, c⟩, ⟨s3, d⟩] h) F X := Cat.pk3 hx

theorem Cat.pk_5 {R L F : ℕ} {X : Fam} {s0 s1 s2 s3 s4 : Shape} {a : s0.Idx → EReal} {b : s1.Idx → EReal} {c : s2.Idx → EReal} {d : s3.Idx → EReal} {e : s4.Idx → EReal}
    {h : Shape.Concatenates [s0, s1, s2, s3, s4] ⟨2, ![R, L]⟩ 0}
    (hx : Cat ⟨2, ![R, L]⟩ 0 (at2 R L F X) 0 [⟨s0, a⟩, ⟨s1, b⟩, ⟨s2, c⟩, ⟨s3, d⟩, ⟨s4, e⟩]) :
    Pk (concatenate ⟨2, ![R, L]⟩ 0 [⟨s0, a⟩, ⟨s1, b⟩, ⟨s2, c⟩, ⟨s3, d⟩, ⟨s4, e⟩] h) F X := Cat.pk hx

theorem Cat.pk3_5 {R L F : ℕ} {X : Fam} {s0 s1 s2 s3 s4 : Shape} {a : s0.Idx → EReal} {b : s1.Idx → EReal} {c : s2.Idx → EReal} {d : s3.Idx → EReal} {e : s4.Idx → EReal}
    {h : Shape.Concatenates [s0, s1, s2, s3, s4] ⟨3, ![R, 100, L]⟩ 0}
    (hx : Cat ⟨3, ![R, 100, L]⟩ 0 (at3 R L F X) 0 [⟨s0, a⟩, ⟨s1, b⟩, ⟨s2, c⟩, ⟨s3, d⟩, ⟨s4, e⟩]) :
    Pk3 (concatenate ⟨3, ![R, 100, L]⟩ 0 [⟨s0, a⟩, ⟨s1, b⟩, ⟨s2, c⟩, ⟨s3, d⟩, ⟨s4, e⟩] h) F X := Cat.pk3 hx

theorem Cat.pk_6 {R L F : ℕ} {X : Fam} {s0 s1 s2 s3 s4 s5 : Shape} {a : s0.Idx → EReal} {b : s1.Idx → EReal} {c : s2.Idx → EReal} {d : s3.Idx → EReal} {e : s4.Idx → EReal} {f : s5.Idx → EReal}
    {h : Shape.Concatenates [s0, s1, s2, s3, s4, s5] ⟨2, ![R, L]⟩ 0}
    (hx : Cat ⟨2, ![R, L]⟩ 0 (at2 R L F X) 0 [⟨s0, a⟩, ⟨s1, b⟩, ⟨s2, c⟩, ⟨s3, d⟩, ⟨s4, e⟩, ⟨s5, f⟩]) :
    Pk (concatenate ⟨2, ![R, L]⟩ 0 [⟨s0, a⟩, ⟨s1, b⟩, ⟨s2, c⟩, ⟨s3, d⟩, ⟨s4, e⟩, ⟨s5, f⟩] h) F X := Cat.pk hx

theorem Cat.pk3_6 {R L F : ℕ} {X : Fam} {s0 s1 s2 s3 s4 s5 : Shape} {a : s0.Idx → EReal} {b : s1.Idx → EReal} {c : s2.Idx → EReal} {d : s3.Idx → EReal} {e : s4.Idx → EReal} {f : s5.Idx → EReal}
    {h : Shape.Concatenates [s0, s1, s2, s3, s4, s5] ⟨3, ![R, 100, L]⟩ 0}
    (hx : Cat ⟨3, ![R, 100, L]⟩ 0 (at3 R L F X) 0 [⟨s0, a⟩, ⟨s1, b⟩, ⟨s2, c⟩, ⟨s3, d⟩, ⟨s4, e⟩, ⟨s5, f⟩]) :
    Pk3 (concatenate ⟨3, ![R, 100, L]⟩ 0 [⟨s0, a⟩, ⟨s1, b⟩, ⟨s2, c⟩, ⟨s3, d⟩, ⟨s4, e⟩, ⟨s5, f⟩] h) F X := Cat.pk3 hx

variable {A : Arr} {W : Wts} {X Y M : Fam} {G : ℕ → Ft} {x : ℕ → Ft}

/-- The share of the ancestor sums in the update's first layer. -/
def shareF (W : Wts) (M : Fam) : Fam := fun e v n => ∑ k ∈ Finset.range 32, accF M e v k * W.uw0 (32 + k) n

/-- The global features, the messages and the updated nodes, as families. -/
def gF (W : Wts) (na : ℕ) (c : EReal) (X : Fam) : ℕ → Ft := fun e => glob W na c (X e)
def msgF (W : Wts) (X : Fam) (G : ℕ → Ft) : Fam := fun e v => msg W (X e v) (G e)
def updF (W : Wts) (Y M : Fam) (G : ℕ → Ft) : Fam := fun e v => upd W (Y e v) (aggF M e v) (G e)

/-- The share of the ancestor sums from the sums. -/
theorem Pk.share {R n : ℕ} {s : T2 R 128} {d : DotDims ⟨2, ![R, 128]⟩ ⟨2, ![128, 320]⟩ ⟨2, ![R, 320]⟩}
    {prec : Option ContractPrecision} {h : (⟨2, ![R, 320]⟩ : Shape).ShapeCasts ⟨3, ![n, 100, 320]⟩} {o : ℕ}
    (hA : Good A W) (hs : Pk s 32 (fun e v => accF M e (o + v))) (hd : d = DotDims.plain R 128 320 := by rfl)
    (hR : R = n * 100 := by norm_num) :
    Pk3 (shapeCast ⟨3, ![n, 100, 320]⟩ (matmul d prec s A.v47 (constant ⟨2, ![R, 320]⟩ .f32 0x00000000#32)) h) 80
      (fun e v => shareF W M e (o + v)) :=
  Pk.to3 (Pk.mm hs hA.v47 hd) hR

theorem Pk.shareAll {R n : ℕ} {s : T2 R 128} {d : DotDims ⟨2, ![R, 128]⟩ ⟨2, ![128, 320]⟩ ⟨2, ![R, 320]⟩}
    {prec : Option ContractPrecision} {h : (⟨2, ![R, 320]⟩ : Shape).ShapeCasts ⟨3, ![n, 100, 320]⟩}
    (hA : Good A W) (hs : Pk s 32 (accF M)) (hd : d = DotDims.plain R 128 320 := by rfl)
    (hR : R = n * 100 := by norm_num) :
    Pk3 (shapeCast ⟨3, ![n, 100, 320]⟩ (matmul d prec s A.v47 (constant ⟨2, ![R, 320]⟩ .f32 0x00000000#32)) h) 80
      (shareF W M) :=
  Pk.to3 (Pk.mm hs hA.v47 hd) hR

/-! ## One node -/

section
variable {v60 : T2 400 32} {v66 : T3 1 128} {v102 : T2 100 256} {v67 v152 : T2 100 128} {v91 : T2 100 64}
  {v151 : T2 300 128}

/-- The block's events, packed. -/
theorem pay33 (h : Root v60 x) : Pk3 (k0_pay33 (F := Ideal) v60) 32 (fun e _ => x e) :=
  Pk.to3 (fun i l => Cat.apply (g := at2 100 128 32 fun e _ => x e)
    (Cat.root 0 (o' := 32) h (Cat.root 32 (o' := 64) h (Cat.root 64 (o' := 96) h (Cat.root 96 (o' := 128) h Cat.nil))))
    (ix2 i l))

theorem pay34 (h : Root v60 x) : Pk (k0_pay34 (F := Ideal) v60) 32 (fun e _ => x e) := Pk3.to2 (pay33 h)

/-- The global features. -/
theorem pay35 (hA : Good A W) (h : Root v60 x) :
    Pk (k0_pay35 (F := Ideal) A.v1 A.v3 A.v5 A.v7 A.v9 A.v11 A.v13 A.v15 v60) 16
      (fun e _ => glob W 1 (kc 0) fun _ => x e) :=
  Pk.post hA (Pk3.pool (Pk.to3 (Pk.pre hA (pay34 h))))

/-- The branching network's first layer. -/
theorem pay36 (hA : Good A W) (h : Root v60 x) :
    Pk (k0_pay36 (F := Ideal) A.v1 A.v3 A.v5 A.v7 A.v9 A.v11 A.v13 A.v15 A.v17 A.v19 A.v21 v60) 64
      (fun e _ => lay2 W.bw0 W.bb0 (x e) (glob W 1 (kc 0) fun _ => x e)) :=
  Pk3.to2 (Pk3.relu (Pk3.add (Pk.to3 (Pk.mm (Pk3.to2 (pay33 h)) hA.v17)) (Pk.to3 (Pk.gc (pay35 hA h) hA.v19 hA.v21))))

/-- The nodes after branching. -/
theorem pay37 (hA : Good A W) (hx : Pk3 v66 32 (fun e v => X e (0 + v)))
    (hc : Pk v102 64 (fun e v => lay2 W.bw0 W.bb0 (X e (0 + v)) (G e))) :
    Pk (k0_pay37 (F := Ideal) A.v23 A.v25 A.v27 A.v29 v66 v102 (zeros 100 256)) 32 (kidsF W 1 X G) := by
  refine Cat.pk_2 (h := concatenates_S100x128_S200x128_S300x128_d0) ?_
  refine (Cat.cons2 0 (q' := 100) (Pk3.to2 (Pk3.old hx)) ?_)
  refine (Cat.cons2 1 (q' := 300) (Pk3.to2 ?_) Cat.nil)
  exact Pk3.new (o := 0) (Pk3.to4 (Pk3.half (Pk.to3 (Pk.br hA hc)))) (Pk3.to4 (Pk3.half (Pk.to3 (Pk.br hA hc))))

/-- The message. -/
theorem pay38 (hA : Good A W) (hx : Pk v67 32 X) (hg : Pk v91 16 (fun e _ => G e)) :
    Pk (k0_pay38 (F := Ideal) A.v31 A.v33 A.v35 A.v37 A.v39 A.v41 A.v43 v67 v91) 32 (msgF W X G) :=
  Pk3.to2 (Pk.to3 (Pk.msg hA (Pk3.to2 (Pk3.relu (Pk3.add (Pk.to3 (Pk.mm hx hA.v31)) (Pk.to3 (Pk.gc hg hA.v33 hA.v35)))))))

/-- The nodes after the update. -/
theorem pay39 (hA : Good A W) (hg : Pk v91 16 (fun e _ => G e)) (hy : Pk v151 32 Y) (hm : Pk v152 32 M) :
    Pk (k0_pay39 (F := Ideal) A.v45 A.v47 A.v49 A.v51 A.v53 A.v55 A.v57 A.v59 v91 v151 v152) 32 (updF W Y M G) :=
  Pk.upd hA (Pk3.to2 (Pk3.lay3 (Pk.to3 (Pk.mm hy hA.v45))
    (Cat.pk3_2 (h := concatenates_S1x100x320_S2x100x320_S3x100x320_d0) (Cat.cons3 (o' := 1) Pk3.par0
      (Cat.cons3 (o' := 3) (Pk3.parS 0 1 (Pk3.repA (Pk.share hA (Pk.acc0 hm)))) Cat.nil)))
    (Pk3.bcast (Pk.to3 (Pk.gc hg hA.v49 hA.v51)))))

variable {v45 v47 : T2 128 320} {v49 : T2 64 320} {v51 : T2 1 320} {v53 : T2 320 128} {v55 : T2 1 128} {v57 : T2 128 128}
  {v59 : T2 1 128}

theorem pay40 (h : Pk (k0_pay39 (F := Ideal) v45 v47 v49 v51 v53 v55 v57 v59 v91 v151 v152) 32 Y) :
    Pk3 (k0_pay40 (F := Ideal) v45 v47 v49 v51 v53 v55 v57 v59 v91 v151 v152) 32 (fun e v => Y e (0 + v)) := Pk.lev 0 h

theorem pay41 (h : Pk (k0_pay39 (F := Ideal) v45 v47 v49 v51 v53 v55 v57 v59 v91 v151 v152) 32 Y) :
    Pk3 (k0_pay41 (F := Ideal) v45 v47 v49 v51 v53 v55 v57 v59 v91 v151 v152) 32 (fun e v => Y e (1 + v)) := Pk.lev 1 h

theorem pay42 (h : Pk (k0_pay39 (F := Ideal) v45 v47 v49 v51 v53 v55 v57 v59 v91 v151 v152) 32 Y) :
    Pk (k0_pay42 (F := Ideal) v45 v47 v49 v51 v53 v55 v57 v59 v91 v151 v152) 32 Y :=
  Cat.pk_2 (h := concatenates_S100x128_S200x128_S300x128_d0) (Cat.cons2 0 (q' := 100) (Pk3.to2 (pay40 h))
    (Cat.cons2 1 (q' := 300) (Pk3.to2 (pay41 h)) Cat.nil))

end

/-! ## Three nodes -/

section
variable {v45 v47 : T2 128 320} {v49 : T2 64 320} {v51 : T2 1 320} {v53 : T2 320 128} {v55 : T2 1 128} {v57 : T2 128 128}
  {v59 : T2 1 128} {v91 v212 : T2 100 64} {v151 v188 : T2 300 128} {v152 : T2 100 128} {v199 : T3 3 64} {v183 : T3 1 128}
  {v185 v246 : T3 2 128} {v241 : T4 2 1 128} {v281 : T2 700 128} {v296 : T3 7 320} {c : T2 100 320}

/-- The nodes' features before they are pooled. -/
theorem pay43 (hA : Good A W) (h : Pk (k0_pay39 (F := Ideal) v45 v47 v49 v51 v53 v55 v57 v59 v91 v151 v152) 32 X) :
    Pk3 (k0_pay43 (F := Ideal) A.v1 A.v3 A.v5 A.v7 v45 v47 v49 v51 v53 v55 v57 v59 v91 v151 v152) 16
      (fun e v => pre W (X e v)) :=
  Pk.to3 (Pk.pre hA (pay42 h))

/-- The global features. -/
theorem pay44 (hA : Good A W) (h : Pk3 v199 16 (fun e v => pre W (X e v))) :
    Pk (k0_pay44 (F := Ideal) A.v9 A.v11 A.v13 A.v15 v199) 16 (fun e _ => gF W 3 (kc 1) X e) :=
  Pk.post hA (Pk3.pool h)

/-- The branching network on the last level. -/
theorem pay45 (hA : Good A W) (h : Pk3 v199 16 (fun e v => pre W (X e v))) (hl : Pk3 v185 32 (fun e v => X e (1 + v))) :
    Pk3 (k0_pay45 (F := Ideal) A.v9 A.v11 A.v13 A.v15 A.v17 A.v19 A.v21 A.v23 A.v25 A.v27 A.v29 v185 v199) 64
      (fun e v => br W (X e (1 + v)) (gF W 3 (kc 1) X e)) :=
  Pk.to3 (Pk.br hA (Pk3.to2 (Pk3.lay2 (Pk3.to2 hl) hA.v17 (Pk.to3 (Pk.gc (pay44 hA h) hA.v19 hA.v21)))))

theorem pay46 (hA : Good A W) (h : Pk3 v199 16 (fun e v => pre W (X e v))) (hl : Pk3 v185 32 (fun e v => X e (1 + v))) :
    Pk4 (k0_pay46 (F := Ideal) A.v9 A.v11 A.v13 A.v15 A.v17 A.v19 A.v21 A.v23 A.v25 A.v27 A.v29 v185 v199) 32
      (fun e v _ f => br W (X e (1 + v)) (gF W 3 (kc 1) X e) (0 + f)) :=
  Pk3.to4 (Pk3.half (q := 0) (pay45 hA h hl))

theorem pay47 (hA : Good A W) (h : Pk3 v199 16 (fun e v => pre W (X e v))) (hl : Pk3 v185 32 (fun e v => X e (1 + v))) :
    Pk3 (k0_pay47 (F := Ideal) A.v9 A.v11 A.v13 A.v15 A.v17 A.v19 A.v21 A.v23 A.v25 A.v27 A.v29 v185 v199) 32
      (fun e v f => br W (X e (1 + v)) (gF W 3 (kc 1) X e) (32 + f)) :=
  Pk3.half (q := 32)
    (h := concatenates_S2x100x32_S2x100x32_S2x100x32_S2x100x32_S2x100x128_d2) (pay45 hA h hl)

/-- The nodes after branching. -/
theorem pay48 (h0 : Pk3 v183 32 (fun e v => X e (0 + v))) (h1 : Pk3 v185 32 (fun e v => X e (1 + v)))
    (ha : Pk4 v241 32 (fun e v _ f => br W (X e (1 + v)) (G e) (0 + f)))
    (hb : Pk3 v246 32 (fun e v f => br W (X e (1 + v)) (G e) (32 + f))) :
    Pk (k0_pay48 (F := Ideal) v183 v185 v241 v246) 32 (kidsF W 3 X G) :=
  Cat.pk_3 (h := concatenates_S100x128_S200x128_S400x128_S700x128_d0) (Cat.cons2 0 (q' := 100) (Pk3.to2 (Pk3.old h0))
    (Cat.cons2 1 (q' := 300) (Pk3.to2 (Pk3.old h1))
      (Cat.cons2 3 (q' := 700) (Pk3.to2 (Pk3.new (o := 1) ha (Pk3.to4 hb))) Cat.nil)))

/-- The ancestor sums' share of the update's first layer. -/
theorem pay49 (hA : Good A W) (hx : Pk v188 32 X) (hg : Pk v212 16 (fun e _ => G e)) :
    Pk3 (k0_pay49 (F := Ideal) A.v31 A.v33 A.v35 A.v37 A.v39 A.v41 A.v43 A.v47 v188 v212) 80
      (fromParent (shareF W (msgF W X G))) := by
  refine Cat.pk3_3 (h := concatenates_S1x100x320_S2x100x320_S4x100x320_S7x100x320_d0) (Cat.cons3 (o' := 1) Pk3.par0
    (Cat.cons3 (o' := 3) (Pk3.parS 0 1 (Pk3.repA (Pk3.slice ?_)))
      (Cat.cons3 (o' := 7) (Pk3.parS 1 3 (Pk3.repA (Pk3.slice ?_))) Cat.nil)))
  all_goals
    refine Pk.shareAll hA (Cat.pk_2 (h := concatenates_S100x128_S200x128_S300x128_d0)
      (Cat.cons2 0 (q' := 100) (Pk3.to2 (Pk3.acc0 ?_))
        (Cat.cons2 1 (q' := 300) (Pk3.to2 (Pk3.accS 1 (Pk3.repA (Pk3.acc0 ?_)) ?_)) Cat.nil)))
  all_goals
    exact Pk.to3 (Pk.msg hA (Pk3.to2 (Pk3.lay2 hx hA.v31 (Pk.to3 (Pk.gc hg hA.v33 hA.v35)))))

/-- The nodes after the update. -/
theorem pay50 (hA : Good A W) (hg : Pk v212 16 (fun e _ => G e)) (hy : Pk v281 32 Y)
    (hs : Pk3 v296 80 (fromParent (shareF W M))) :
    Pk (k0_pay50 (F := Ideal) A.v45 A.v49 A.v51 A.v53 A.v55 A.v57 A.v59 v212 v281 v296 (zeros 100 320)) 32
      (updF W Y M G) :=
  Pk.upd hA (Pk3.to2 (Pk3.lay3 (Pk.to3 (Pk.mm hy hA.v45)) hs (Pk3.bcast (Pk.to3 (Pk.gc hg hA.v49 hA.v51)))))

theorem pay51 (h : Pk (k0_pay50 (F := Ideal) v45 v49 v51 v53 v55 v57 v59 v212 v281 v296 c) 32 Y) :
    Pk3 (k0_pay51 (F := Ideal) v45 v49 v51 v53 v55 v57 v59 v212 v281 v296 c) 32 (fun e v => Y e (0 + v)) := Pk.lev 0 h

theorem pay52 (h : Pk (k0_pay50 (F := Ideal) v45 v49 v51 v53 v55 v57 v59 v212 v281 v296 c) 32 Y) :
    Pk3 (k0_pay52 (F := Ideal) v45 v49 v51 v53 v55 v57 v59 v212 v281 v296 c) 32 (fun e v => Y e (1 + v)) := Pk.lev 1 h

theorem pay53 (h : Pk (k0_pay50 (F := Ideal) v45 v49 v51 v53 v55 v57 v59 v212 v281 v296 c) 32 Y) :
    Pk3 (k0_pay53 (F := Ideal) v45 v49 v51 v53 v55 v57 v59 v212 v281 v296 c) 32 (fun e v => Y e (3 + v)) := Pk.lev 3 h

theorem pay54 (h : Pk (k0_pay50 (F := Ideal) v45 v49 v51 v53 v55 v57 v59 v212 v281 v296 c) 32 Y) :
    Pk (k0_pay54 (F := Ideal) v45 v49 v51 v53 v55 v57 v59 v212 v281 v296 c) 32 Y :=
  Cat.pk_3 (h := concatenates_S100x128_S200x128_S400x128_S700x128_d0) (Cat.cons2 0 (q' := 100) (Pk3.to2 (pay51 h))
    (Cat.cons2 1 (q' := 300) (Pk3.to2 (pay52 h)) (Cat.cons2 3 (q' := 700) (Pk3.to2 (pay53 h)) Cat.nil)))

end

/-! ## Seven nodes -/

section
variable {v45 : T2 128 320} {v49 : T2 64 320} {v51 : T2 1 320} {v53 : T2 320 128} {v55 : T2 1 128} {v57 : T2 128 128}
  {v59 : T2 1 128} {v212 v343 v352 : T2 100 64} {v281 v328 : T2 700 128} {v296 : T3 7 320} {c : T2 100 320}
  {v320 : T3 1 128} {v322 : T3 2 128} {v324 : T3 4 128} {v389 : T3 8 128} {v392 : T2 100 128} {v427 : T2 1500 128}
  {v434 : T3 1 320} {v438 : T3 2 320} {v442 : T3 4 320} {v444 : T4 4 1 320}

/-- The pooled features' product with the first weights of the global network. -/
theorem pay55 (hA : Good A W) (h : Pk (k0_pay50 (F := Ideal) v45 v49 v51 v53 v55 v57 v59 v212 v281 v296 c) 32 X) :
    Pk (k0_pay55 (F := Ideal) A.v1 A.v3 A.v5 A.v7 A.v9 v45 v49 v51 v53 v55 v57 v59 v212 v281 v296 c) 16
      (fun e _ n => ∑ k ∈ Finset.range 16,
        ((∑ v ∈ Finset.range 7, pre W (X e v) k) * kc 2) * W.qw0 k n) :=
  Pk.mm (Pk3.pool (Pk.to3 (Pk.pre hA (pay54 h)))) hA.v9

/-- The global features. -/
theorem pay56 (hA : Good A W) (h : Pk v343 16 (fun e _ n => ∑ k ∈ Finset.range 16,
    ((∑ v ∈ Finset.range 7, pre W (X e v) k) * kc 2) * W.qw0 k n)) :
    Pk (k0_pay56 (F := Ideal) A.v11 A.v13 A.v15 v343) 16 (fun e _ => gF W 7 (kc 2) X e) :=
  Pk.lay (Pk.relu (Pk.add h (Row.bcast hA.v11))) hA.v13 hA.v15

/-- The children. -/
theorem pay57 (hA : Good A W) (h : Pk v343 16 (fun e _ n => ∑ k ∈ Finset.range 16,
    ((∑ v ∈ Finset.range 7, pre W (X e v) k) * kc 2) * W.qw0 k n)) (hl : Pk3 v324 32 (fun e v => X e (3 + v))) :
    Pk3 (k0_pay57 (F := Ideal) A.v11 A.v13 A.v15 A.v17 A.v19 A.v21 A.v23 A.v25 A.v27 A.v29 v324 v343) 32
      (fun e v => kidsF W 7 X (gF W 7 (kc 2) X) e (7 + v)) := by
  refine Pk3.new (o := 3) (Pk3.to4 (Pk3.half ?_)) (Pk3.to4 (Pk3.half ?_))
  all_goals
    exact Pk.to3 (Pk.br hA (Pk3.to2 (Pk3.lay2 (Pk3.to2 hl) hA.v17 (Pk.to3 (Pk.gc (pay56 hA h) hA.v19 hA.v21)))))

/-- The global features' share of the message network's first layer. -/
theorem pay58 (hA : Good A W) (h : Pk v343 16 (fun e _ n => ∑ k ∈ Finset.range 16,
    ((∑ v ∈ Finset.range 7, pre W (X e v) k) * kc 2) * W.qw0 k n)) :
    Pk (k0_pay58 (F := Ideal) A.v11 A.v13 A.v15 A.v33 A.v35 v343) 32
      (fun e _ n => ∑ k ∈ Finset.range 16, gF W 7 (kc 2) X e k * W.mw0 (32 + k) n + W.mb0 n) :=
  Pk.gc (pay56 hA h) hA.v33 hA.v35

/-- The nodes after branching. -/
theorem pay59 (h0 : Pk3 v320 32 (fun e v => X e (0 + v))) (h1 : Pk3 v322 32 (fun e v => X e (1 + v)))
    (h2 : Pk3 v324 32 (fun e v => X e (3 + v))) (h3 : Pk3 v389 32 (fun e v => kidsF W 7 X G e (7 + v))) :
    Pk (k0_pay59 (F := Ideal) v320 v322 v324 v389) 32 (kidsF W 7 X G) :=
  Cat.pk_4 (h := concatenates_S100x128_S200x128_S400x128_S800x128_S1500x128_d0)
    (Cat.cons2 0 (q' := 100) (Pk3.to2 (Pk3.old h0)) (Cat.cons2 1 (q' := 300) (Pk3.to2 (Pk3.old h1))
      (Cat.cons2 3 (q' := 700) (Pk3.to2 (Pk3.old h2)) (Cat.cons2 7 (q' := 1500) (Pk3.to2 h3) Cat.nil))))

/-- The sums' share of the update's first layer. -/
theorem pay60 (hA : Good A W) (hx : Pk v328 32 X)
    (hc : Pk v392 32 (fun e _ n => ∑ k ∈ Finset.range 16, G e k * W.mw0 (32 + k) n + W.mb0 n)) :
    Pk3 (k0_pay60 (F := Ideal) A.v31 A.v37 A.v39 A.v41 A.v43 A.v47 v328 v392) 80 (shareF W (msgF W X G)) := by
  refine Pk.shareAll hA (Cat.pk_3 (h := concatenates_S100x128_S200x128_S400x128_S700x128_d0)
      (Cat.cons2 0 (q' := 100) (Pk3.to2 (Pk3.acc0 ?_))
        (Cat.cons2 1 (q' := 300) (Pk3.to2 (Pk3.accS 1 (Pk3.repA (Pk3.acc0 ?_)) ?_))
          (Cat.cons2 3 (q' := 700) (Pk3.to2 (Pk3.accS 3 (Pk3.repA (Pk3.accS 1 (Pk3.repA (Pk3.acc0 ?_)) ?_)) ?_))
            Cat.nil))))
  all_goals
    exact Pk.to3 (Pk.msg hA (Pk3.to2 (Pk3.lay2 hx hA.v31 (Pk.to3 hc))))

theorem pay61 : Pk3 (k0_pay61 (F := Ideal)) 80 (fun e v => fromParent (shareF W M) e (0 + v)) := Pk3.par0

theorem pay62 {v31 v37 v41 : T2 128 128} {v39 v43 : T2 1 128} {v47 : T2 128 320}
    (h : Pk3 (k0_pay60 (F := Ideal) v31 v37 v39 v41 v43 v47 v328 v392) 80 (shareF W M)) :
    Pk3 (k0_pay62 (F := Ideal) v31 v37 v39 v41 v43 v47 v328 v392) 80 (fun e v => fromParent (shareF W M) e (1 + v)) := by
  unfold k0_pay62
  exact Pk3.parS 0 1 (Pk3.repA (S := shareF W M) (o := 0) (Pk3.slice h))

theorem pay63 {v31 v37 v41 : T2 128 128} {v39 v43 : T2 1 128} {v47 : T2 128 320}
    (h : Pk3 (k0_pay60 (F := Ideal) v31 v37 v39 v41 v43 v47 v328 v392) 80 (shareF W M)) :
    Pk3 (k0_pay63 (F := Ideal) v31 v37 v39 v41 v43 v47 v328 v392) 80 (fun e v => fromParent (shareF W M) e (3 + v)) := by
  unfold k0_pay63
  exact Pk3.parS 1 3 (Pk3.repA (S := shareF W M) (o := 1) (Pk3.slice h))

theorem pay64 {v31 v37 v41 : T2 128 128} {v39 v43 : T2 1 128} {v47 : T2 128 320}
    (h : Pk3 (k0_pay60 (F := Ideal) v31 v37 v39 v41 v43 v47 v328 v392) 80 (shareF W M)) :
    Pk4 (k0_pay64 (F := Ideal) v31 v37 v39 v41 v43 v47 v328 v392) 80 (fun e v _ f => shareF W M e (3 + v) f) :=
  Pk3.to4 (Pk3.slice h)

/-- The nodes after the update. -/
theorem pay65 (hA : Good A W) (hg : Pk v352 16 (fun e _ => G e)) (hy : Pk v427 32 Y)
    (h0 : Pk3 v434 80 (fun e v => fromParent (shareF W M) e (0 + v)))
    (h1 : Pk3 v438 80 (fun e v => fromParent (shareF W M) e (1 + v)))
    (h2 : Pk3 v442 80 (fun e v => fromParent (shareF W M) e (3 + v)))
    (h3 : Pk4 v444 80 (fun e v _ f => shareF W M e (3 + v) f)) :
    Pk (k0_pay65 (F := Ideal) A.v45 A.v49 A.v51 A.v53 A.v55 A.v57 A.v59 v352 v427 v434 v438 v442 v444) 32
      (updF W Y M G) :=
  Pk.upd hA (Pk3.to2 (Pk3.lay3 (Pk.to3 (Pk.mm hy hA.v45))
    (Cat.pk3_4 (h := concatenates_S1x100x320_S2x100x320_S4x100x320_S8x100x320_S15x100x320_d0)
      (Cat.cons3 (o' := 1) h0 (Cat.cons3 (o' := 3) h1 (Cat.cons3 (o' := 7) h2 (Cat.cons3 (o' := 15)
        (Pk3.parS 3 7 (Pk4.to3 (X := fun e v _ f => shareF W M e (3 + v) f) (Pk4.bcast h3))) Cat.nil)))))
    (Pk3.bcast (Pk.to3 (Pk.gc hg hA.v49 hA.v51)))))

theorem pay66 (h : Pk (k0_pay65 (F := Ideal) v45 v49 v51 v53 v55 v57 v59 v352 v427 v434 v438 v442 v444) 32 Y) :
    Pk3 (k0_pay66 (F := Ideal) v45 v49 v51 v53 v55 v57 v59 v352 v427 v434 v438 v442 v444) 32
      (fun e v => Y e (0 + v)) := Pk.lev 0 h

theorem pay67 (h : Pk (k0_pay65 (F := Ideal) v45 v49 v51 v53 v55 v57 v59 v352 v427 v434 v438 v442 v444) 32 Y) :
    Pk3 (k0_pay67 (F := Ideal) v45 v49 v51 v53 v55 v57 v59 v352 v427 v434 v438 v442 v444) 32
      (fun e v => Y e (1 + v)) := Pk.lev 1 h

theorem pay68 (h : Pk (k0_pay65 (F := Ideal) v45 v49 v51 v53 v55 v57 v59 v352 v427 v434 v438 v442 v444) 32 Y) :
    Pk3 (k0_pay68 (F := Ideal) v45 v49 v51 v53 v55 v57 v59 v352 v427 v434 v438 v442 v444) 32
      (fun e v => Y e (3 + v)) := Pk.lev 3 h

theorem pay69 (h : Pk (k0_pay65 (F := Ideal) v45 v49 v51 v53 v55 v57 v59 v352 v427 v434 v438 v442 v444) 32 Y) :
    Pk3 (k0_pay69 (F := Ideal) v45 v49 v51 v53 v55 v57 v59 v352 v427 v434 v438 v442 v444) 32
      (fun e v => Y e (7 + v)) := Pk.lev 7 h

theorem pay70 (h : Pk (k0_pay65 (F := Ideal) v45 v49 v51 v53 v55 v57 v59 v352 v427 v434 v438 v442 v444) 32 Y) :
    Pk (k0_pay70 (F := Ideal) v45 v49 v51 v53 v55 v57 v59 v352 v427 v434 v438 v442 v444) 32 Y :=
  Cat.pk_4 (h := concatenates_S100x128_S200x128_S400x128_S800x128_S1500x128_d0)
    (Cat.cons2 0 (q' := 100) (Pk3.to2 (pay66 h)) (Cat.cons2 1 (q' := 300) (Pk3.to2 (pay67 h))
      (Cat.cons2 3 (q' := 700) (Pk3.to2 (pay68 h)) (Cat.cons2 7 (q' := 1500) (Pk3.to2 (pay69 h)) Cat.nil))))

end

end Tree
-- ==== Proof.Late.lean ====
/-
  THE BODY'S LAST TWO ITERATIONS, payload by payload: as in `Early.lean`.
-/
module

public import proofs.«01_k».proof.Proof.Early

@[expose] public section

set_option maxHeartbeats 1000000
set_option maxRecDepth 4000

noncomputable section

open scoped BigOperators

namespace Tree

open Idealize.ShloMosaic Cert.KernelIdeal Cert.KernelIdeal.Gen

variable {A : Arr} {W : Wts} {X Y M : Fam} {G : ℕ → Ft}

/-! ## Fifteen nodes -/

section
variable {v45 v47 : T2 128 320} {v49 : T2 64 320} {v51 : T2 1 320} {v53 : T2 320 128} {v55 : T2 1 128} {v57 : T2 128 128}
  {v59 : T2 1 128} {v352 v506 : T2 100 64} {v427 v482 v592 : T2 1500 128} {v434 : T3 1 320} {v438 : T3 2 320}
  {v442 : T3 4 320} {v444 : T4 4 1 320} {v493 : T3 15 64} {v471 : T3 1 128} {v473 : T3 2 128} {v475 : T3 4 128}
  {v477 v540 : T3 8 128} {v535 : T4 8 1 128} {v587 : T2 3100 128} {c : T2 1500 320}

/-- The nodes' features before they are pooled. -/
theorem pay71 (hA : Good A W)
    (h : Pk (k0_pay65 (F := Ideal) v45 v49 v51 v53 v55 v57 v59 v352 v427 v434 v438 v442 v444) 32 X) :
    Pk3 (k0_pay71 (F := Ideal) A.v1 A.v3 A.v5 A.v7 v45 v49 v51 v53 v55 v57 v59 v352 v427 v434 v438 v442 v444) 16
      (fun e v => pre W (X e v)) :=
  Pk.to3 (Pk.pre hA (pay70 h))

/-- The global features. -/
theorem pay72 (hA : Good A W) (h : Pk3 v493 16 (fun e v => pre W (X e v))) :
    Pk (k0_pay72 (F := Ideal) A.v9 A.v11 A.v13 A.v15 v493) 16 (fun e _ => gF W 15 (kc 3) X e) :=
  Pk.post hA (Pk3.pool h)

/-- The branching network on the last level. -/
theorem pay73 (hA : Good A W) (h : Pk3 v493 16 (fun e v => pre W (X e v))) (hl : Pk3 v477 32 (fun e v => X e (7 + v))) :
    Pk3 (k0_pay73 (F := Ideal) A.v9 A.v11 A.v13 A.v15 A.v17 A.v19 A.v21 A.v23 A.v25 A.v27 A.v29 v477 v493) 64
      (fun e v => br W (X e (7 + v)) (gF W 15 (kc 3) X e)) :=
  Pk.to3 (Pk.br hA (Pk3.to2 (Pk3.lay2 (Pk3.to2 hl) hA.v17 (Pk.to3 (Pk.gc (pay72 hA h) hA.v19 hA.v21)))))

theorem pay74 (hA : Good A W) (h : Pk3 v493 16 (fun e v => pre W (X e v))) (hl : Pk3 v477 32 (fun e v => X e (7 + v))) :
    Pk4 (k0_pay74 (F := Ideal) A.v9 A.v11 A.v13 A.v15 A.v17 A.v19 A.v21 A.v23 A.v25 A.v27 A.v29 v477 v493) 32
      (fun e v _ f => br W (X e (7 + v)) (gF W 15 (kc 3) X e) (0 + f)) :=
  Pk3.to4 (Pk3.half (q := 0) (pay73 hA h hl))

theorem pay75 (hA : Good A W) (h : Pk3 v493 16 (fun e v => pre W (X e v))) (hl : Pk3 v477 32 (fun e v => X e (7 + v))) :
    Pk3 (k0_pay75 (F := Ideal) A.v9 A.v11 A.v13 A.v15 A.v17 A.v19 A.v21 A.v23 A.v25 A.v27 A.v29 v477 v493) 32
      (fun e v f => br W (X e (7 + v)) (gF W 15 (kc 3) X e) (32 + f)) :=
  Pk3.half (q := 32) (h := concatenates_S8x100x32_S8x100x32_S8x100x32_S8x100x32_S8x100x128_d2) (pay73 hA h hl)

/-- The nodes after branching. -/
theorem pay76 (h0 : Pk3 v471 32 (fun e v => X e (0 + v))) (h1 : Pk3 v473 32 (fun e v => X e (1 + v)))
    (h2 : Pk3 v475 32 (fun e v => X e (3 + v))) (h3 : Pk3 v477 32 (fun e v => X e (7 + v)))
    (ha : Pk4 v535 32 (fun e v _ f => br W (X e (7 + v)) (G e) (0 + f)))
    (hb : Pk3 v540 32 (fun e v f => br W (X e (7 + v)) (G e) (32 + f))) :
    Pk (k0_pay76 (F := Ideal) v471 v473 v475 v477 v535 v540) 32 (kidsF W 15 X G) :=
  Cat.pk_5 (h := concatenates_S100x128_S200x128_S400x128_S800x128_S1600x128_S3100x128_d0)
    (Cat.cons2 0 (q' := 100) (Pk3.to2 (Pk3.old h0)) (Cat.cons2 1 (q' := 300) (Pk3.to2 (Pk3.old h1))
      (Cat.cons2 3 (q' := 700) (Pk3.to2 (Pk3.old h2)) (Cat.cons2 7 (q' := 1500) (Pk3.to2 (Pk3.old h3))
        (Cat.cons2 15 (q' := 3100) (Pk3.to2 (Pk3.new (o := 7) ha (Pk3.to4 hb))) Cat.nil)))))

/-- The sums over a node and its ancestors. -/
theorem pay77 (hA : Good A W) (hx : Pk v482 32 X) (hg : Pk v506 16 (fun e _ => G e)) :
    Pk (k0_pay77 (F := Ideal) A.v31 A.v33 A.v35 A.v37 A.v39 A.v41 A.v43 v482 v506) 32 (accF (msgF W X G)) := by
  refine Cat.pk_4 (h := concatenates_S100x128_S200x128_S400x128_S800x128_S1500x128_d0)
    (Cat.cons2 0 (q' := 100) (Pk3.to2 (Pk3.acc0 ?_))
      (Cat.cons2 1 (q' := 300) (Pk3.to2 (Pk3.accS 1 (Pk3.repA (Pk3.acc0 ?_)) ?_))
        (Cat.cons2 3 (q' := 700) (Pk3.to2 (Pk3.accS 3 (Pk3.repA (Pk3.accS 1 (Pk3.repA (Pk3.acc0 ?_)) ?_)) ?_))
          (Cat.cons2 7 (q' := 1500) (Pk3.to2 (Pk3.accS 7 (Pk3.repA (Pk3.accS 3 (Pk3.repA
            (Pk3.accS 1 (Pk3.repA (Pk3.acc0 ?_)) ?_)) ?_)) ?_)) Cat.nil))))
  all_goals
    exact Pk.to3 (Pk.msg hA (Pk3.to2 (Pk3.lay2 hx hA.v31 (Pk.to3 (Pk.gc hg hA.v33 hA.v35)))))

/-- The nodes after the update. -/
theorem pay78 (hA : Good A W) (hg : Pk v506 16 (fun e _ => G e)) (hy : Pk v587 32 Y) (hs : Pk v592 32 (accF M)) :
    Pk (k0_pay78 (F := Ideal) A.v45 A.v47 A.v49 A.v51 A.v53 A.v55 A.v57 A.v59 v506 v587 v592 (zeros 1500 320)) 32
      (updF W Y M G) := by
  refine Pk.upd hA (Pk3.to2 (Pk3.lay3 (Pk.to3 (Pk.mm hy hA.v45)) ?_ (Pk3.bcast (Pk.to3 (Pk.gc hg hA.v49 hA.v51)))))
  refine Cat.pk3_5 (h := concatenates_S1x100x320_S2x100x320_S4x100x320_S8x100x320_S16x100x320_S31x100x320_d0) ?_
  refine Cat.cons3 (o' := 1) Pk3.par0 ?_
  refine Cat.cons3 (o' := 3) (Pk3.parS 0 1 (Pk3.repA (S := shareF W M) (o := 0) ?_)) ?_
  on_goal 2 => refine Cat.cons3 (o' := 7) (Pk3.parS 1 3 (Pk3.repA (S := shareF W M) (o := 1) ?_)) ?_
  on_goal 3 => refine Cat.cons3 (o' := 15) (Pk3.parS 3 7 (Pk3.repA (S := shareF W M) (o := 3) ?_)) ?_
  on_goal 4 => refine Cat.cons3 (o' := 31) (Pk3.parS 7 15 (Pk3.repA (S := shareF W M) (o := 7) ?_)) Cat.nil
  all_goals refine Pk3.slice ?_
  all_goals exact Pk.shareAll hA hs

theorem pay79 (h : Pk (k0_pay78 (F := Ideal) v45 v47 v49 v51 v53 v55 v57 v59 v506 v587 v592 c) 32 Y) :
    Pk3 (k0_pay79 (F := Ideal) v45 v47 v49 v51 v53 v55 v57 v59 v506 v587 v592 c) 32 (fun e v => Y e (0 + v)) := Pk.lev 0 h

theorem pay80 (h : Pk (k0_pay78 (F := Ideal) v45 v47 v49 v51 v53 v55 v57 v59 v506 v587 v592 c) 32 Y) :
    Pk3 (k0_pay80 (F := Ideal) v45 v47 v49 v51 v53 v55 v57 v59 v506 v587 v592 c) 32 (fun e v => Y e (1 + v)) := Pk.lev 1 h

theorem pay81 (h : Pk (k0_pay78 (F := Ideal) v45 v47 v49 v51 v53 v55 v57 v59 v506 v587 v592 c) 32 Y) :
    Pk3 (k0_pay81 (F := Ideal) v45 v47 v49 v51 v53 v55 v57 v59 v506 v587 v592 c) 32 (fun e v => Y e (3 + v)) := Pk.lev 3 h

theorem pay82 (h : Pk (k0_pay78 (F := Ideal) v45 v47 v49 v51 v53 v55 v57 v59 v506 v587 v592 c) 32 Y) :
    Pk3 (k0_pay82 (F := Ideal) v45 v47 v49 v51 v53 v55 v57 v59 v506 v587 v592 c) 32 (fun e v => Y e (7 + v)) := Pk.lev 7 h

theorem pay83 (h : Pk (k0_pay78 (F := Ideal) v45 v47 v49 v51 v53 v55 v57 v59 v506 v587 v592 c) 32 Y) :
    Pk3 (k0_pay83 (F := Ideal) v45 v47 v49 v51 v53 v55 v57 v59 v506 v587 v592 c) 32 (fun e v => Y e (15 + v)) := Pk.lev 15 h

end

/-! ## Thirty-one nodes -/

section
variable {v636 : T3 1 128} {v638 : T3 2 128} {v640 : T3 4 128} {v642 : T3 8 128} {v644 : T3 16 128} {v689 : T2 1600 256}
  {v650 : T2 3100 128} {v674 : T2 100 64} {v711 : T3 32 128} {v733 : T3 31 128} {v734 : T3 1 128} {v739 : T3 2 128}
  {v740 : T4 2 1 128} {v791 : T3 63 320} {v795 : T3 1 320} {v796 : T2 6300 320} {v53 : T2 320 128} {v55 : T2 1 128}
  {v57 : T2 128 128} {v59 : T2 1 128}

/-- The five levels stacked. -/
theorem pay84 (h0 : Pk3 v636 32 (fun e v => X e (0 + v))) (h1 : Pk3 v638 32 (fun e v => X e (1 + v)))
    (h2 : Pk3 v640 32 (fun e v => X e (3 + v))) (h3 : Pk3 v642 32 (fun e v => X e (7 + v)))
    (h4 : Pk3 v644 32 (fun e v => X e (15 + v))) :
    Pk (k0_pay84 (F := Ideal) v636 v638 v640 v642 v644) 32 X :=
  Cat.pk_5 (h := concatenates_S100x128_S200x128_S400x128_S800x128_S1600x128_S3100x128_d0)
    (Cat.cons2 0 (q' := 100) (Pk3.to2 h0) (Cat.cons2 1 (q' := 300) (Pk3.to2 h1) (Cat.cons2 3 (q' := 700) (Pk3.to2 h2)
      (Cat.cons2 7 (q' := 1500) (Pk3.to2 h3) (Cat.cons2 15 (q' := 3100) (Pk3.to2 h4) Cat.nil)))))

/-- The global features. -/
theorem pay85 (hA : Good A W) (h : Pk (k0_pay84 (F := Ideal) v636 v638 v640 v642 v644) 32 X) :
    Pk (k0_pay85 (F := Ideal) A.v1 A.v3 A.v5 A.v7 A.v9 A.v11 A.v13 A.v15 v636 v638 v640 v642 v644) 16
      (fun e _ => gF W 31 (kc 4) X e) :=
  Pk.post hA (Pk3.pool (Pk.to3 (Pk.pre hA h)))

/-- The branching network's second layer, before its rectifier. -/
theorem pay86 (hA : Good A W) (h : Pk (k0_pay84 (F := Ideal) v636 v638 v640 v642 v644) 32 X)
    (h4 : Pk3 v644 32 (fun e v => X e (15 + v))) :
    Pk (k0_pay86 (F := Ideal) A.v1 A.v3 A.v5 A.v7 A.v9 A.v11 A.v13 A.v15 A.v17 A.v19 A.v21 A.v23 A.v25 v636 v638 v640
      v642 v644) 64 (fun e v n => ∑ k ∈ Finset.range 64,
        lay2 W.bw0 W.bb0 (X e (15 + v)) (gF W 31 (kc 4) X e) k * W.bw1 k n + W.bb1 n) :=
  Pk.add (Pk.mm (Pk3.to2 (Pk3.lay2 (Pk3.to2 h4) hA.v17 (Pk.to3 (Pk.gc (pay85 hA h) hA.v19 hA.v21)))) hA.v23)
    (Row.bcast hA.v25)

/-- The children. -/
theorem pay87 (hA : Good A W) (h : Pk v689 64 (fun e v n => ∑ k ∈ Finset.range 64,
    lay2 W.bw0 W.bb0 (X e (15 + v)) (G e) k * W.bw1 k n + W.bb1 n)) :
    Pk3 (k0_pay87 (F := Ideal) A.v27 A.v29 v689 (Scalar.ofBits (F := Ideal) .f32 0x00000000#32)) 32
      (fun e v => kidsF W 31 X G e (31 + v)) := by
  have hb : Pk3 _ 64 (fun e v => br W (X e (15 + v)) (G e)) :=
    Pk.to3 (n := 16) (h := shapeCasts_S1600x256_S16x100x256) (Pk.lay (prec := none) (h := broadcasts_S1x256_S1600x256)
      (Pk.relu h) hA.v27 hA.v29)
  exact Pk3.new (o := 15) (Pk3.to4 (Pk3.half hb)) (Pk3.to4 (Pk3.half hb))

/-- The messages. -/
theorem pay88 (hA : Good A W) (hx : Pk v650 32 X) (hg : Pk v674 16 (fun e _ => G e)) :
    Pk3 (k0_pay88 (F := Ideal) A.v31 A.v33 A.v35 A.v37 A.v39 A.v41 A.v43 v650 v674) 32 (msgF W X G) :=
  Pk.to3 (Pk.msg hA (Pk3.to2 (Pk3.lay2 hx hA.v31 (Pk.to3 (Pk.gc hg hA.v33 hA.v35)))))

theorem pay89 (hA : Good A W) (hx : Pk v650 32 X) (hg : Pk v674 16 (fun e _ => G e)) :
    Pk3 (k0_pay89 (F := Ideal) A.v31 A.v33 A.v35 A.v37 A.v39 A.v41 A.v43 v650 v674) 32
      (fun e v => accF (msgF W X G) e (0 + v)) :=
  Pk3.acc0 (h := slices_S31x100x128_o0_0_0_S1x100x128) (pay88 hA hx hg)

theorem pay90 (hA : Good A W) (hx : Pk v650 32 X) (hg : Pk v674 16 (fun e _ => G e)) :
    Pk3 (k0_pay90 (F := Ideal) A.v31 A.v33 A.v35 A.v37 A.v39 A.v41 A.v43 v650 v674) 32
      (fun e v => accF (msgF W X G) e (1 + v)) :=
  Pk3.accS 1 (Pk3.repA (pay89 hA hx hg)) (pay88 hA hx hg)

theorem pay91 (hA : Good A W) (hx : Pk v650 32 X) (hg : Pk v674 16 (fun e _ => G e)) :
    Pk4 (k0_pay91 (F := Ideal) A.v31 A.v33 A.v35 A.v37 A.v39 A.v41 A.v43 v650 v674) 32
      (fun e v _ f => accF (msgF W X G) e (1 + v) f) :=
  Pk3.to4 (pay90 hA hx hg)

/-- The ancestor sums' share of the update's first layer. -/
theorem pay92 (hA : Good A W) (hm : Pk3 v733 32 M) (h0 : Pk3 v734 32 (fun e v => accF M e (0 + v)))
    (h1 : Pk3 v739 32 (fun e v => accF M e (1 + v))) (h2 : Pk4 v740 32 (fun e v _ f => accF M e (1 + v) f)) :
    Pk3 (k0_pay92 (F := Ideal) A.v47 v733 v734 v739 v740) 80 (fromParent (shareF W M)) := by
  have s2 := Pk3.accS 3 (h := slices_S31x100x128_o3_0_0_S4x100x128) (Pk4.to3 (m := 4) (h := shapeCasts_S2x2x100x128_S4x100x128)
    (X := fun e v _ f => accF M e (1 + v) f) (Pk4.bcast (h := broadcasts_S2x1x100x128_S2x2x100x128) h2)) hm
  have s3 := Pk3.accS 7 (h := slices_S31x100x128_o7_0_0_S8x100x128) (Pk3.repA (m := 8)
    (h1 := shapeCasts_S4x100x128_S4x1x100x128) (h2 := broadcasts_S4x1x100x128_S4x2x100x128)
    (h3 := shapeCasts_S4x2x100x128_S8x100x128) s2) hm
  have s4 := Pk3.accS 15 (h := slices_S31x100x128_o15_0_0_S16x100x128) (Pk3.repA (m := 16)
    (h1 := shapeCasts_S8x100x128_S8x1x100x128) (h2 := broadcasts_S8x1x100x128_S8x2x100x128)
    (h3 := shapeCasts_S8x2x100x128_S16x100x128) s3) hm
  have hs := Pk.shareAll (n := 31) (prec := none) (h := shapeCasts_S3100x320_S31x100x320) hA
    (Cat.pk_5 (h := concatenates_S100x128_S200x128_S400x128_S800x128_S1600x128_S3100x128_d0)
      (Cat.cons2 0 (q' := 100) (Pk3.to2 (h := shapeCasts_S1x100x128_S100x128) h0)
        (Cat.cons2 1 (q' := 300) (Pk3.to2 (h := shapeCasts_S2x100x128_S200x128) h1)
          (Cat.cons2 3 (q' := 700) (Pk3.to2 (h := shapeCasts_S4x100x128_S400x128) s2)
            (Cat.cons2 7 (q' := 1500) (Pk3.to2 (h := shapeCasts_S8x100x128_S800x128) s3)
              (Cat.cons2 15 (q' := 3100) (Pk3.to2 (h := shapeCasts_S16x100x128_S1600x128) s4) Cat.nil))))))
  exact Cat.pk3_6 (h := concatenates_S1x100x320_S2x100x320_S4x100x320_S8x100x320_S16x100x320_S32x100x320_S63x100x320_d0)
    (Cat.cons3 (o' := 1) Pk3.par0 (Cat.cons3 (o' := 3) (Pk3.parS 0 1 (Pk3.repA (Pk3.slice hs)))
      (Cat.cons3 (o' := 7) (Pk3.parS 1 3 (Pk3.repA (Pk3.slice hs)))
        (Cat.cons3 (o' := 15) (Pk3.parS 3 7 (Pk3.repA (Pk3.slice hs)))
          (Cat.cons3 (o' := 31) (Pk3.parS 7 15 (Pk3.repA (Pk3.slice hs)))
            (Cat.cons3 (o' := 63) (Pk3.parS 15 31 (Pk3.repA (Pk3.slice hs))) Cat.nil))))))

/-- The global features' share. -/
theorem pay93 (hA : Good A W) (hg : Pk v674 16 (fun e _ => G e)) :
    Pk3 (k0_pay93 (F := Ideal) A.v49 A.v51 v674) 80
      (fun e _ n => ∑ k ∈ Finset.range 16, G e k * W.uw0 (64 + k) n + W.ub0 n) :=
  Pk.to3 (Pk.gc hg hA.v49 hA.v51)

/-- The nodes' own share. -/
theorem pay94 (hA : Good A W) (h0 : Pk3 v636 32 (fun e v => X e (0 + v))) (h1 : Pk3 v638 32 (fun e v => X e (1 + v)))
    (h2 : Pk3 v640 32 (fun e v => X e (3 + v))) (h3 : Pk3 v642 32 (fun e v => X e (7 + v)))
    (h4 : Pk3 v644 32 (fun e v => X e (15 + v))) (h5 : Pk3 v711 32 (fun e v => kidsF W 31 X G e (31 + v))) :
    Pk (k0_pay94 (F := Ideal) A.v45 v636 v638 v640 v642 v644 v711) 80
      (fun e v n => ∑ k ∈ Finset.range 32, kidsF W 31 X G e v k * W.uw0 k n) :=
  Pk.mm (Cat.pk_6 (h := concatenates_S100x128_S200x128_S400x128_S800x128_S1600x128_S3200x128_S6300x128_d0)
    (Cat.cons2 0 (q' := 100) (Pk3.to2 (Pk3.old h0)) (Cat.cons2 1 (q' := 300) (Pk3.to2 (Pk3.old h1))
      (Cat.cons2 3 (q' := 700) (Pk3.to2 (Pk3.old h2)) (Cat.cons2 7 (q' := 1500) (Pk3.to2 (Pk3.old h3))
        (Cat.cons2 15 (q' := 3100) (Pk3.to2 (Pk3.old h4)) (Cat.cons2 31 (q' := 6300) (Pk3.to2 h5) Cat.nil))))))) hA.v45

/-- The nodes after the update. -/
theorem pay95 (hA : Good A W) (hs : Pk3 v791 80 (fromParent (shareF W M)))
    (hc : Pk3 v795 80 (fun e _ n => ∑ k ∈ Finset.range 16, G e k * W.uw0 (64 + k) n + W.ub0 n))
    (hy : Pk v796 80 (fun e v n => ∑ k ∈ Finset.range 32, Y e v k * W.uw0 k n)) :
    Pk (k0_pay95 (F := Ideal) A.v53 A.v55 A.v57 A.v59 v791 v795 v796) 32 (updF W Y M G) :=
  Pk.upd hA (Pk3.to2 (Pk3.lay3 (Pk.to3 hy) hs (Pk3.bcast hc)))

theorem pay96 (h : Pk (k0_pay95 (F := Ideal) v53 v55 v57 v59 v791 v795 v796) 32 Y) :
    Pk3 (k0_pay96 (F := Ideal) v53 v55 v57 v59 v791 v795 v796) 32 (fun e v => Y e (0 + v)) := Pk.lev 0 h

theorem pay97 (h : Pk (k0_pay95 (F := Ideal) v53 v55 v57 v59 v791 v795 v796) 32 Y) :
    Pk3 (k0_pay97 (F := Ideal) v53 v55 v57 v59 v791 v795 v796) 32 (fun e v => Y e (1 + v)) := Pk.lev 1 h

theorem pay98 (h : Pk (k0_pay95 (F := Ideal) v53 v55 v57 v59 v791 v795 v796) 32 Y) :
    Pk3 (k0_pay98 (F := Ideal) v53 v55 v57 v59 v791 v795 v796) 32 (fun e v => Y e (3 + v)) := Pk.lev 3 h

theorem pay99 (h : Pk (k0_pay95 (F := Ideal) v53 v55 v57 v59 v791 v795 v796) 32 Y) :
    Pk3 (k0_pay99 (F := Ideal) v53 v55 v57 v59 v791 v795 v796) 32 (fun e v => Y e (7 + v)) := Pk.lev 7 h

theorem pay100 (h : Pk (k0_pay95 (F := Ideal) v53 v55 v57 v59 v791 v795 v796) 32 Y) :
    Pk3 (k0_pay100 (F := Ideal) v53 v55 v57 v59 v791 v795 v796) 32 (fun e v => Y e (15 + v)) := Pk.lev 15 h

theorem pay101 (h : Pk (k0_pay95 (F := Ideal) v53 v55 v57 v59 v791 v795 v796) 32 Y) :
    Pk3 (k0_pay101 (F := Ideal) v53 v55 v57 v59 v791 v795 v796) 32 (fun e v => Y e (31 + v)) := Pk.lev 31 h

end

end Tree
-- ==== Proof.Out.lean ====
/-
  THE STORED BLOCK'S COLUMNS. A piece of four columns is one node's first four features for one chunk of a hundred
  events; sixty-three pieces side by side are a chunk's rows, and four chunks stacked are the block.
-/
module

public import proofs.«01_k».proof.Proof.Pack

@[expose] public section

noncomputable section

namespace Tree

open Idealize.ShloMosaic

/-- A piece: node `v` of the events of chunk `j`, its first four features. -/
def Pc (j v : ℕ) (a : FVec Ideal ⟨2, ![100, 4]⟩ .f32) (X : Fam) : Prop :=
  ∀ (r : Fin 100) (f : Fin 4), a (ix2 r f) = X (j * 100 + r.val) v f.val

/-- A chunk's rows: four columns for each node. -/
def Strip (j : ℕ) (a : FVec Ideal ⟨2, ![100, 252]⟩ .f32) (X : Fam) : Prop :=
  ∀ (r : Fin 100) (c : Fin 252), a (ix2 r c) = X (j * 100 + r.val) (c.val / 4) (c.val % 4)

/-- Cutting a node's four columns for one chunk out of a level of the packed tree. -/
theorem Pc.mk {n i l j v o : ℕ} {a : FVec Ideal ⟨3, ![n, 100, 128]⟩ .f32} {X : Fam}
    {h : (⟨3, ![n, 100, 128]⟩ : Shape).Slices ![i, 0, l] ⟨3, ![1, 100, 4]⟩}
    {h' : (⟨3, ![1, 100, 4]⟩ : Shape).ShapeCasts ⟨2, ![100, 4]⟩}
    (ha : Pk3 a 32 (fun e v => X e (o + v))) (hv : v = o + i := by rfl) (hl : l = 32 * j := by rfl) :
    Pc j v (shapeCast ⟨2, ![100, 4]⟩ (extractStridedSlice ⟨3, ![1, 100, 4]⟩ ![i, 0, l] a h) h') X := fun r f => by
  have hi : i < n := Nat.lt_of_lt_of_le (Nat.lt_succ_self i) (h.2 0)
  have hb : l + 4 ≤ 128 := h.2 2
  have hf : f.val < 4 := f.isLt
  rw [shapeCast_apply _ h' (ix2 r f) (ix3 0 r f) (by
    rw [Shape.rowMajor_val_two, Shape.rowMajor_val_three]; simp)]
  rw [extractStridedSlice_apply _ a h (ix3 0 r f) (ix3 ⟨i, hi⟩ r ⟨l + f.val, by omega⟩), ha]
  · show X ((l + f.val) / 32 * 100 + r.val) (o + i) ((l + f.val) % 32) = _
    rw [hv, show (l + f.val) / 32 = j by omega, show (l + f.val) % 32 = f.val by omega]
  · intro d
    match d with
    | ⟨0, _⟩ => simp
    | ⟨1, _⟩ => simp
    | ⟨2, _⟩ => rfl

/-- A chunk's rows at a position. -/
def atS (j : ℕ) (X : Fam) : (⟨2, ![100, 252]⟩ : Shape).Idx → EReal :=
  fun i => X (j * 100 + (i 0).val) ((i 1).val / 4) ((i 1).val % 4)

/-- One more node's columns. -/
theorem Cat.pc {j v q : ℕ} {a : FVec Ideal ⟨2, ![100, 4]⟩ .f32} {X : Fam} {xs : List ((s : Shape) × (s.Idx → EReal))}
    (ha : Pc j v a X) (hx : Cat ⟨2, ![100, 252]⟩ 1 (atS j X) (4 * (v + 1)) xs) (hq : q = 4 * v := by rfl) :
    Cat ⟨2, ![100, 252]⟩ 1 (atS j X) q (⟨⟨2, ![100, 4]⟩, a⟩ :: xs) := by
  refine ⟨fun hr i k hb hk => ?_, fun hr => ?_⟩
  · have h0 : (i 0).val = (k 0).val := hb 0 (fun h => by have := congrArg Fin.val h; simp at this)
    have h1 : q + (i 1).val = (k 1).val := hk
    have hi : (i 1).val < 4 := (i 1).isLt
    refine (congrArg a (eq_ix2 i)).trans ((ha (i 0) (i 1)).trans ?_)
    show X (j * 100 + (i 0).val) v (i 1).val = X (j * 100 + (k 0).val) ((k 1).val / 4) ((k 1).val % 4)
    rw [h0, show (k 1).val / 4 = v by omega, show (k 1).val % 4 = (i 1).val by omega]
  · have : (⟨2, ![100, 4]⟩ : Shape).size (Fin.cast hr.symm 1) = 4 := rfl
    rw [this, show q + 4 = 4 * (v + 1) by omega]; exact hx

theorem Cat.strip {j : ℕ} {X : Fam} {xs : List ((s : Shape) × (s.Idx → EReal))}
    {h : Shape.Concatenates (xs.map (·.1)) ⟨2, ![100, 252]⟩ 1} (hx : Cat ⟨2, ![100, 252]⟩ 1 (atS j X) 0 xs) :
    Strip j (concatenate ⟨2, ![100, 252]⟩ 1 xs h) X := fun r c => Cat.apply hx (ix2 r c)

/-- One more chunk's rows. -/
theorem Cat.chunk {j q : ℕ} {a : FVec Ideal ⟨2, ![100, 252]⟩ .f32} {X : Fam} {xs : List ((s : Shape) × (s.Idx → EReal))}
    (ha : Strip j a X)
    (hx : Cat ⟨2, ![400, 252]⟩ 0 (fun i => X (i 0).val ((i 1).val / 4) ((i 1).val % 4)) ((j + 1) * 100) xs)
    (hq : q = j * 100 := by rfl) :
    Cat ⟨2, ![400, 252]⟩ 0 (fun i => X (i 0).val ((i 1).val / 4) ((i 1).val % 4)) q (⟨⟨2, ![100, 252]⟩, a⟩ :: xs) := by
  refine ⟨fun hr i k hb hk => ?_, fun hr => ?_⟩
  · have h1 : (i 1).val = (k 1).val := hb 1 (fun h => by have := congrArg Fin.val h; simp at this)
    have h0 : q + (i 0).val = (k 0).val := hk
    refine (congrArg a (eq_ix2 i)).trans ((ha (i 0) (i 1)).trans ?_)
    show X (j * 100 + (i 0).val) ((i 1).val / 4) ((i 1).val % 4) = X (k 0).val ((k 1).val / 4) ((k 1).val % 4)
    rw [h1, ← h0, hq]
  · have : (⟨2, ![100, 252]⟩ : Shape).size (Fin.cast hr.symm 0) = 100 := rfl
    rw [this, show q + 100 = (j + 1) * 100 by omega]; exact hx

end Tree
-- ==== Proof.Chain.lean ====
/-
  THE BODY'S VALUES, COMPOSED. Each value the body computes, from the weight arrays `A` and the events' features `v60`:
  the payload that computes it, applied to the values it reads. Then what they hold: iteration after iteration the
  nodes of the tree, and at the end the block that the body stores.
-/
module

public import proofs.«01_k».proof.Proof.Late
public import proofs.«01_k».proof.Proof.Out

@[expose] public section

set_option maxHeartbeats 1000000
set_option maxRecDepth 4000

noncomputable section

open scoped BigOperators

namespace Tree

open Idealize.ShloMosaic Cert.KernelIdeal Cert.KernelIdeal.Gen

def w66 (A : Arr) (v60 : T2 400 32) : T3 1 128 :=
  k0_pay33 (F := Ideal) v60

def w67 (A : Arr) (v60 : T2 400 32) : T2 100 128 :=
  k0_pay34 (F := Ideal) v60

def w91 (A : Arr) (v60 : T2 400 32) : T2 100 64 :=
  k0_pay35 (F := Ideal) A.v1 A.v3 A.v5 A.v7 A.v9 A.v11 A.v13 A.v15 v60

def w102 (A : Arr) (v60 : T2 400 32) : T2 100 256 :=
  k0_pay36 (F := Ideal) A.v1 A.v3 A.v5 A.v7 A.v9 A.v11 A.v13 A.v15 A.v17 A.v19 A.v21 v60

def w151 (A : Arr) (v60 : T2 400 32) : T2 300 128 :=
  k0_pay37 (F := Ideal) A.v23 A.v25 A.v27 A.v29 (w66 A v60) (w102 A v60) (constant S100x256 .f32 0x00000000#32)

def w152 (A : Arr) (v60 : T2 400 32) : T2 100 128 :=
  k0_pay38 (F := Ideal) A.v31 A.v33 A.v35 A.v37 A.v39 A.v41 A.v43 (w67 A v60) (w91 A v60)

def w183 (A : Arr) (v60 : T2 400 32) : T3 1 128 :=
  k0_pay40 (F := Ideal) A.v45 A.v47 A.v49 A.v51 A.v53 A.v55 A.v57 A.v59 (w91 A v60) (w151 A v60) (w152 A v60)

def w185 (A : Arr) (v60 : T2 400 32) : T3 2 128 :=
  k0_pay41 (F := Ideal) A.v45 A.v47 A.v49 A.v51 A.v53 A.v55 A.v57 A.v59 (w91 A v60) (w151 A v60) (w152 A v60)

def w188 (A : Arr) (v60 : T2 400 32) : T2 300 128 :=
  k0_pay42 (F := Ideal) A.v45 A.v47 A.v49 A.v51 A.v53 A.v55 A.v57 A.v59 (w91 A v60) (w151 A v60) (w152 A v60)

def w199 (A : Arr) (v60 : T2 400 32) : T3 3 64 :=
  k0_pay43 (F := Ideal) A.v1 A.v3 A.v5 A.v7 A.v45 A.v47 A.v49 A.v51 A.v53 A.v55 A.v57 A.v59 (w91 A v60) (w151 A v60)
    (w152 A v60)

def w212 (A : Arr) (v60 : T2 400 32) : T2 100 64 :=
  k0_pay44 (F := Ideal) A.v9 A.v11 A.v13 A.v15 (w199 A v60)

def w241 (A : Arr) (v60 : T2 400 32) : T4 2 1 128 :=
  k0_pay46 (F := Ideal) A.v9 A.v11 A.v13 A.v15 A.v17 A.v19 A.v21 A.v23 A.v25 A.v27 A.v29 (w185 A v60) (w199 A v60)

def w246 (A : Arr) (v60 : T2 400 32) : T3 2 128 :=
  k0_pay47 (F := Ideal) A.v9 A.v11 A.v13 A.v15 A.v17 A.v19 A.v21 A.v23 A.v25 A.v27 A.v29 (w185 A v60) (w199 A v60)

def w281 (A : Arr) (v60 : T2 400 32) : T2 700 128 :=
  k0_pay48 (F := Ideal) (w183 A v60) (w185 A v60) (w241 A v60) (w246 A v60)

def w296 (A : Arr) (v60 : T2 400 32) : T3 7 320 :=
  k0_pay49 (F := Ideal) A.v31 A.v33 A.v35 A.v37 A.v39 A.v41 A.v43 A.v47 (w188 A v60) (w212 A v60)

def w320 (A : Arr) (v60 : T2 400 32) : T3 1 128 :=
  k0_pay51 (F := Ideal) A.v45 A.v49 A.v51 A.v53 A.v55 A.v57 A.v59 (w212 A v60) (w281 A v60) (w296 A v60)
    (constant S100x320 .f32 0x00000000#32)

def w322 (A : Arr) (v60 : T2 400 32) : T3 2 128 :=
  k0_pay52 (F := Ideal) A.v45 A.v49 A.v51 A.v53 A.v55 A.v57 A.v59 (w212 A v60) (w281 A v60) (w296 A v60)
    (constant S100x320 .f32 0x00000000#32)

def w324 (A : Arr) (v60 : T2 400 32) : T3 4 128 :=
  k0_pay53 (F := Ideal) A.v45 A.v49 A.v51 A.v53 A.v55 A.v57 A.v59 (w212 A v60) (w281 A v60) (w296 A v60)
    (constant S100x320 .f32 0x00000000#32)

def w328 (A : Arr) (v60 : T2 400 32) : T2 700 128 :=
  k0_pay54 (F := Ideal) A.v45 A.v49 A.v51 A.v53 A.v55 A.v57 A.v59 (w212 A v60) (w281 A v60) (w296 A v60)
    (constant S100x320 .f32 0x00000000#32)

def w343 (A : Arr) (v60 : T2 400 32) : T2 100 64 :=
  k0_pay55 (F := Ideal) A.v1 A.v3 A.v5 A.v7 A.v9 A.v45 A.v49 A.v51 A.v53 A.v55 A.v57 A.v59 (w212 A v60) (w281 A v60)
    (w296 A v60) (constant S100x320 .f32 0x00000000#32)

def w352 (A : Arr) (v60 : T2 400 32) : T2 100 64 :=
  k0_pay56 (F := Ideal) A.v11 A.v13 A.v15 (w343 A v60)

def w389 (A : Arr) (v60 : T2 400 32) : T3 8 128 :=
  k0_pay57 (F := Ideal) A.v11 A.v13 A.v15 A.v17 A.v19 A.v21 A.v23 A.v25 A.v27 A.v29 (w324 A v60) (w343 A v60)

def w392 (A : Arr) (v60 : T2 400 32) : T2 100 128 :=
  k0_pay58 (F := Ideal) A.v11 A.v13 A.v15 A.v33 A.v35 (w343 A v60)

def w427 (A : Arr) (v60 : T2 400 32) : T2 1500 128 :=
  k0_pay59 (F := Ideal) (w320 A v60) (w322 A v60) (w324 A v60) (w389 A v60)

def w434 (A : Arr) (v60 : T2 400 32) : T3 1 320 :=
  k0_pay61 (F := Ideal)

def w438 (A : Arr) (v60 : T2 400 32) : T3 2 320 :=
  k0_pay62 (F := Ideal) A.v31 A.v37 A.v39 A.v41 A.v43 A.v47 (w328 A v60) (w392 A v60)

def w442 (A : Arr) (v60 : T2 400 32) : T3 4 320 :=
  k0_pay63 (F := Ideal) A.v31 A.v37 A.v39 A.v41 A.v43 A.v47 (w328 A v60) (w392 A v60)

def w444 (A : Arr) (v60 : T2 400 32) : T4 4 1 320 :=
  k0_pay64 (F := Ideal) A.v31 A.v37 A.v39 A.v41 A.v43 A.v47 (w328 A v60) (w392 A v60)

def w471 (A : Arr) (v60 : T2 400 32) : T3 1 128 :=
  k0_pay66 (F := Ideal) A.v45 A.v49 A.v51 A.v53 A.v55 A.v57 A.v59 (w352 A v60) (w427 A v60) (w434 A v60) (w438 A v60)
    (w442 A v60) (w444 A v60)

def w473 (A : Arr) (v60 : T2 400 32) : T3 2 128 :=
  k0_pay67 (F := Ideal) A.v45 A.v49 A.v51 A.v53 A.v55 A.v57 A.v59 (w352 A v60) (w427 A v60) (w434 A v60) (w438 A v60)
    (w442 A v60) (w444 A v60)

def w475 (A : Arr) (v60 : T2 400 32) : T3 4 128 :=
  k0_pay68 (F := Ideal) A.v45 A.v49 A.v51 A.v53 A.v55 A.v57 A.v59 (w352 A v60) (w427 A v60) (w434 A v60) (w438 A v60)
    (w442 A v60) (w444 A v60)

def w477 (A : Arr) (v60 : T2 400 32) : T3 8 128 :=
  k0_pay69 (F := Ideal) A.v45 A.v49 A.v51 A.v53 A.v55 A.v57 A.v59 (w352 A v60) (w427 A v60) (w434 A v60) (w438 A v60)
    (w442 A v60) (w444 A v60)

def w482 (A : Arr) (v60 : T2 400 32) : T2 1500 128 :=
  k0_pay70 (F := Ideal) A.v45 A.v49 A.v51 A.v53 A.v55 A.v57 A.v59 (w352 A v60) (w427 A v60) (w434 A v60) (w438 A v60)
    (w442 A v60) (w444 A v60)

def w493 (A : Arr) (v60 : T2 400 32) : T3 15 64 :=
  k0_pay71 (F := Ideal) A.v1 A.v3 A.v5 A.v7 A.v45 A.v49 A.v51 A.v53 A.v55 A.v57 A.v59 (w352 A v60) (w427 A v60)
    (w434 A v60) (w438 A v60) (w442 A v60) (w444 A v60)

def w506 (A : Arr) (v60 : T2 400 32) : T2 100 64 :=
  k0_pay72 (F := Ideal) A.v9 A.v11 A.v13 A.v15 (w493 A v60)

def w535 (A : Arr) (v60 : T2 400 32) : T4 8 1 128 :=
  k0_pay74 (F := Ideal) A.v9 A.v11 A.v13 A.v15 A.v17 A.v19 A.v21 A.v23 A.v25 A.v27 A.v29 (w477 A v60) (w493 A v60)

def w540 (A : Arr) (v60 : T2 400 32) : T3 8 128 :=
  k0_pay75 (F := Ideal) A.v9 A.v11 A.v13 A.v15 A.v17 A.v19 A.v21 A.v23 A.v25 A.v27 A.v29 (w477 A v60) (w493 A v60)

def w587 (A : Arr) (v60 : T2 400 32) : T2 3100 128 :=
  k0_pay76 (F := Ideal) (w471 A v60) (w473 A v60) (w475 A v60) (w477 A v60) (w535 A v60) (w540 A v60)

def w592 (A : Arr) (v60 : T2 400 32) : T2 1500 128 :=
  k0_pay77 (F := Ideal) A.v31 A.v33 A.v35 A.v37 A.v39 A.v41 A.v43 (w482 A v60) (w506 A v60)

def w636 (A : Arr) (v60 : T2 400 32) : T3 1 128 :=
  k0_pay79 (F := Ideal) A.v45 A.v47 A.v49 A.v51 A.v53 A.v55 A.v57 A.v59 (w506 A v60) (w587 A v60) (w592 A v60)
    (constant S1500x320 .f32 0x00000000#32)

def w638 (A : Arr) (v60 : T2 400 32) : T3 2 128 :=
  k0_pay80 (F := Ideal) A.v45 A.v47 A.v49 A.v51 A.v53 A.v55 A.v57 A.v59 (w506 A v60) (w587 A v60) (w592 A v60)
    (constant S1500x320 .f32 0x00000000#32)

def w640 (A : Arr) (v60 : T2 400 32) : T3 4 128 :=
  k0_pay81 (F := Ideal) A.v45 A.v47 A.v49 A.v51 A.v53 A.v55 A.v57 A.v59 (w506 A v60) (w587 A v60) (w592 A v60)
    (constant S1500x320 .f32 0x00000000#32)

def w642 (A : Arr) (v60 : T2 400 32) : T3 8 128 :=
  k0_pay82 (F := Ideal) A.v45 A.v47 A.v49 A.v51 A.v53 A.v55 A.v57 A.v59 (w506 A v60) (w587 A v60) (w592 A v60)
    (constant S1500x320 .f32 0x00000000#32)

def w644 (A : Arr) (v60 : T2 400 32) : T3 16 128 :=
  k0_pay83 (F := Ideal) A.v45 A.v47 A.v49 A.v51 A.v53 A.v55 A.v57 A.v59 (w506 A v60) (w587 A v60) (w592 A v60)
    (constant S1500x320 .f32 0x00000000#32)

def w650 (A : Arr) (v60 : T2 400 32) : T2 3100 128 :=
  k0_pay84 (F := Ideal) (w636 A v60) (w638 A v60) (w640 A v60) (w642 A v60) (w644 A v60)

def w674 (A : Arr) (v60 : T2 400 32) : T2 100 64 :=
  k0_pay85 (F := Ideal) A.v1 A.v3 A.v5 A.v7 A.v9 A.v11 A.v13 A.v15 (w636 A v60) (w638 A v60) (w640 A v60) (w642 A v60)
    (w644 A v60)

def w689 (A : Arr) (v60 : T2 400 32) : T2 1600 256 :=
  k0_pay86 (F := Ideal) A.v1 A.v3 A.v5 A.v7 A.v9 A.v11 A.v13 A.v15 A.v17 A.v19 A.v21 A.v23 A.v25 (w636 A v60)
    (w638 A v60) (w640 A v60) (w642 A v60) (w644 A v60)

def w711 (A : Arr) (v60 : T2 400 32) : T3 32 128 :=
  k0_pay87 (F := Ideal) A.v27 A.v29 (w689 A v60) (Scalar.ofBits (F := Ideal) .f32 0x00000000#32)

def w733 (A : Arr) (v60 : T2 400 32) : T3 31 128 :=
  k0_pay88 (F := Ideal) A.v31 A.v33 A.v35 A.v37 A.v39 A.v41 A.v43 (w650 A v60) (w674 A v60)

def w734 (A : Arr) (v60 : T2 400 32) : T3 1 128 :=
  k0_pay89 (F := Ideal) A.v31 A.v33 A.v35 A.v37 A.v39 A.v41 A.v43 (w650 A v60) (w674 A v60)

def w739 (A : Arr) (v60 : T2 400 32) : T3 2 128 :=
  k0_pay90 (F := Ideal) A.v31 A.v33 A.v35 A.v37 A.v39 A.v41 A.v43 (w650 A v60) (w674 A v60)

def w740 (A : Arr) (v60 : T2 400 32) : T4 2 1 128 :=
  k0_pay91 (F := Ideal) A.v31 A.v33 A.v35 A.v37 A.v39 A.v41 A.v43 (w650 A v60) (w674 A v60)

def w791 (A : Arr) (v60 : T2 400 32) : T3 63 320 :=
  k0_pay92 (F := Ideal) A.v47 (w733 A v60) (w734 A v60) (w739 A v60) (w740 A v60)

def w795 (A : Arr) (v60 : T2 400 32) : T3 1 320 :=
  k0_pay93 (F := Ideal) A.v49 A.v51 (w674 A v60)

def w796 (A : Arr) (v60 : T2 400 32) : T2 6300 320 :=
  k0_pay94 (F := Ideal) A.v45 (w636 A v60) (w638 A v60) (w640 A v60) (w642 A v60) (w644 A v60) (w711 A v60)

def w815 (A : Arr) (v60 : T2 400 32) : T3 1 128 :=
  k0_pay96 (F := Ideal) A.v53 A.v55 A.v57 A.v59 (w791 A v60) (w795 A v60) (w796 A v60)

def w817 (A : Arr) (v60 : T2 400 32) : T3 2 128 :=
  k0_pay97 (F := Ideal) A.v53 A.v55 A.v57 A.v59 (w791 A v60) (w795 A v60) (w796 A v60)

def w819 (A : Arr) (v60 : T2 400 32) : T3 4 128 :=
  k0_pay98 (F := Ideal) A.v53 A.v55 A.v57 A.v59 (w791 A v60) (w795 A v60) (w796 A v60)

def w821 (A : Arr) (v60 : T2 400 32) : T3 8 128 :=
  k0_pay99 (F := Ideal) A.v53 A.v55 A.v57 A.v59 (w791 A v60) (w795 A v60) (w796 A v60)

def w823 (A : Arr) (v60 : T2 400 32) : T3 16 128 :=
  k0_pay100 (F := Ideal) A.v53 A.v55 A.v57 A.v59 (w791 A v60) (w795 A v60) (w796 A v60)

def w825 (A : Arr) (v60 : T2 400 32) : T3 32 128 :=
  k0_pay101 (F := Ideal) A.v53 A.v55 A.v57 A.v59 (w791 A v60) (w795 A v60) (w796 A v60)

/-- The columns that chunk 0 of the block gets, from the levels of the finished tree. -/
def strip0 (v53 : T2 320 128) (v55 : T2 1 128) (v57 : T2 128 128) (v59 : T2 1 128) (v791 : T3 63 320)
    (v795 : T3 1 320)    (v796 : T2 6300 320) (v821 : T3 8 128) (v823 : T3 16 128) (v825 : T3 32 128) : T2 100 252 :=
  k0_pay145 (F := Ideal) v825 (k0_pay102 v53 v55 v57 v59 v791 v795 v796) (k0_pay103 v53 v55 v57 v59 v791 v795 v796)
    (k0_pay104 v53 v55 v57 v59 v791 v795 v796) (k0_pay105 v53 v55 v57 v59 v791 v795 v796)
    (k0_pay106 v53 v55 v57 v59 v791 v795 v796) (k0_pay107 v53 v55 v57 v59 v791 v795 v796)
    (k0_pay108 v53 v55 v57 v59 v791 v795 v796) (k0_pay109 v53 v55 v57 v59 v791 v795 v796)
    (k0_pay110 v53 v55 v57 v59 v791 v795 v796) (k0_pay111 v53 v55 v57 v59 v791 v795 v796)
    (k0_pay112 v53 v55 v57 v59 v791 v795 v796) (k0_pay113 v53 v55 v57 v59 v791 v795 v796)
    (k0_pay114 v53 v55 v57 v59 v791 v795 v796) (k0_pay115 v821) (k0_pay116 v821) (k0_pay117 v823) (k0_pay118 v823)
    (k0_pay119 v823) (k0_pay120 v823) (k0_pay121 v823) (k0_pay122 v823) (k0_pay123 v823) (k0_pay124 v823)
    (k0_pay125 v823) (k0_pay126 v823) (k0_pay127 v823) (k0_pay128 v823) (k0_pay129 v823) (k0_pay130 v823)
    (k0_pay131 v823) (k0_pay132 v823) (k0_pay133 v825) (k0_pay134 v825) (k0_pay135 v825) (k0_pay136 v825)
    (k0_pay137 v825) (k0_pay138 v825) (k0_pay139 v825) (k0_pay140 v825) (k0_pay141 v825) (k0_pay142 v825)
    (k0_pay143 v825) (k0_pay144 v825)

/-- The columns that chunk 1 of the block gets, from the levels of the finished tree. -/
def strip1 (v815 : T3 1 128) (v817 : T3 2 128) (v819 : T3 4 128) (v821 : T3 8 128)
    (v823 : T3 16 128) (v825 : T3 32 128) : T2 100 252 :=
  k0_pay187 (F := Ideal) v825 (k0_pay146 v815) (k0_pay147 v817) (k0_pay148 v817) (k0_pay149 v819) (k0_pay150 v819)
    (k0_pay151 v819) (k0_pay152 v819) (k0_pay153 v821) (k0_pay154 v821) (k0_pay156 (k0_pay155 v821)) (k0_pay157 v821)
    (k0_pay158 v821) (k0_pay159 v821) (k0_pay160 v821) (k0_pay161 v821) (k0_pay162 v823) (k0_pay163 v823)
    (k0_pay164 v823) (k0_pay165 v823) (k0_pay166 v823) (k0_pay167 v823) (k0_pay168 v823) (k0_pay169 v823)
    (k0_pay170 v823) (k0_pay171 v823) (k0_pay172 v823) (k0_pay173 v823) (k0_pay174 v823) (k0_pay175 v823)
    (k0_pay176 v823) (k0_pay177 v823) (k0_pay178 v825) (k0_pay179 v825) (k0_pay180 v825) (k0_pay181 v825)
    (k0_pay182 v825) (k0_pay183 v825) (k0_pay184 v825) (k0_pay185 v825) (k0_pay186 v825)

/-- The columns that chunk 2 of the block gets, from the levels of the finished tree. -/
def strip2 (v815 : T3 1 128) (v817 : T3 2 128) (v819 : T3 4 128) (v821 : T3 8 128)
    (v823 : T3 16 128) (v825 : T3 32 128) : T2 100 252 :=
  k0_pay224 (F := Ideal) v825 (k0_pay188 v815) (k0_pay189 v817) (k0_pay190 v817) (k0_pay191 v819) (k0_pay192 v819)
    (k0_pay193 v819) (k0_pay194 v819) (k0_pay195 v821) (k0_pay196 v821) (k0_pay197 v821) (k0_pay198 v821)
    (k0_pay199 v821) (k0_pay200 v821) (k0_pay201 v821) (k0_pay202 v821) (k0_pay203 v823) (k0_pay204 v823)
    (k0_pay205 v823) (k0_pay206 v823) (k0_pay207 v823) (k0_pay208 v823) (k0_pay209 v823) (k0_pay210 v823)
    (k0_pay211 v823) (k0_pay212 v823) (k0_pay213 v823) (k0_pay214 v823) (k0_pay215 v823) (k0_pay216 v823)
    (k0_pay217 v823) (k0_pay218 v823) (k0_pay219 v825) (k0_pay220 v825) (k0_pay221 v825) (k0_pay222 v825)
    (k0_pay223 v825)

/-- The columns that chunk 3 of the block gets, from the levels of the finished tree. -/
def strip3 (v815 : T3 1 128) (v817 : T3 2 128) (v819 : T3 4 128) (v821 : T3 8 128)
    (v823 : T3 16 128) (v825 : T3 32 128) : T2 100 252 :=
  k0_pay1 (F := Ideal) (k0_pay225 v815) (k0_pay226 v817) (k0_pay228 (k0_pay227 v817)) (k0_pay229 v819)
    (k0_pay230 v819) (k0_pay231 v819) (k0_pay232 v819) (k0_pay233 v821) (k0_pay234 v821) (k0_pay235 v821)
    (k0_pay236 v821) (k0_pay237 v821) (k0_pay238 v821) (k0_pay239 v821) (k0_pay240 v821) (k0_pay241 v823)
    (k0_pay242 v823) (k0_pay243 v823) (k0_pay244 v823) (k0_pay245 v823) (k0_pay246 v823) (k0_pay247 v823)
    (k0_pay248 v823) (k0_pay249 v823) (k0_pay250 v823) (k0_pay251 v823) (k0_pay252 v823) (k0_pay253 v823)
    (k0_pay254 v823) (k0_pay255 v823) (k0_pay256 v823) (k0_pay257 v825) (k0_pay259 (k0_pay258 v825)) (k0_pay260 v825)
    (k0_pay261 v825) (k0_pay262 v825) (k0_pay263 v825) (k0_pay264 v825) (k0_pay265 v825) (k0_pay266 v825)
    (k0_pay267 v825) (k0_pay268 v825) (k0_pay269 v825) (k0_pay270 v825) (k0_pay271 v825) (k0_pay272 v825)
    (k0_pay273 v825) (k0_pay274 v825) (k0_pay275 v825) (k0_pay276 v825) (k0_pay277 v825) (k0_pay278 v825)
    (k0_pay279 v825) (k0_pay280 v825) (k0_pay281 v825) (k0_pay282 v825) (k0_pay283 v825) (k0_pay284 v825)
    (k0_pay285 v825) (k0_pay286 v825) (k0_pay287 v825) (k0_pay288 v825) (k0_pay289 v825)

section
variable {v815 : T3 1 128} {v817 : T3 2 128} {v819 : T3 4 128} {v821 : T3 8 128} {v823 : T3 16 128} {v825 : T3 32 128}
  {v791 : T3 63 320} {v795 : T3 1 320} {v796 : T2 6300 320} {v53 : T2 320 128} {v55 : T2 1 128} {v57 : T2 128 128}
  {v59 : T2 1 128} {X : Fam}

/-- The first chunk's rows. -/
theorem strip0_eq (h : Pk (k0_pay95 (F := Ideal) v53 v55 v57 v59 v791 v795 v796) 32 X)
    (h3 : Pk3 v821 32 (fun e v => X e (7 + v)))
    (h4 : Pk3 v823 32 (fun e v => X e (15 + v))) (h5 : Pk3 v825 32 (fun e v => X e (31 + v))) :
    Strip 0 (strip0 v53 v55 v57 v59 v791 v795 v796 v821 v823 v825) X := by
  have h0 := pay96 h
  have h1 := pay97 h
  have h2 := pay98 h
  have h3' := pay99 h
  unfold strip0 k0_pay145 k0_pay102 k0_pay103 k0_pay104 k0_pay105 k0_pay106 k0_pay107 k0_pay108 k0_pay109 k0_pay110 k0_pay111 k0_pay112 k0_pay113 k0_pay114
  refine Cat.strip ?_
  refine Cat.pc (v := 0) (Pc.mk h0) ?_
  iterate 2 refine Cat.pc (Pc.mk h1) ?_
  iterate 4 refine Cat.pc (Pc.mk h2) ?_
  iterate 6 refine Cat.pc (Pc.mk h3') ?_
  iterate 2 refine Cat.pc (Pc.mk h3) ?_
  iterate 16 refine Cat.pc (Pc.mk h4) ?_
  iterate 32 refine Cat.pc (Pc.mk h5) ?_
  exact Cat.nil

/-- The second chunk's rows. -/
theorem strip1_eq (h0 : Pk3 v815 32 (fun e v => X e (0 + v))) (h1 : Pk3 v817 32 (fun e v => X e (1 + v)))
    (h2 : Pk3 v819 32 (fun e v => X e (3 + v))) (h3 : Pk3 v821 32 (fun e v => X e (7 + v)))
    (h4 : Pk3 v823 32 (fun e v => X e (15 + v))) (h5 : Pk3 v825 32 (fun e v => X e (31 + v))) :
    Strip 1 (strip1 v815 v817 v819 v821 v823 v825) X := by
  unfold strip1 k0_pay187 k0_pay155 k0_pay156 k0_pay186
  refine Cat.strip ?_
  refine Cat.pc (v := 0) (Pc.mk h0) ?_
  iterate 2 refine Cat.pc (Pc.mk h1) ?_
  iterate 4 refine Cat.pc (Pc.mk h2) ?_
  iterate 8 refine Cat.pc (Pc.mk h3) ?_
  iterate 16 refine Cat.pc (Pc.mk h4) ?_
  iterate 32 refine Cat.pc (Pc.mk h5) ?_
  exact Cat.nil

/-- The third chunk's rows. -/
theorem strip2_eq (h0 : Pk3 v815 32 (fun e v => X e (0 + v))) (h1 : Pk3 v817 32 (fun e v => X e (1 + v)))
    (h2 : Pk3 v819 32 (fun e v => X e (3 + v))) (h3 : Pk3 v821 32 (fun e v => X e (7 + v)))
    (h4 : Pk3 v823 32 (fun e v => X e (15 + v))) (h5 : Pk3 v825 32 (fun e v => X e (31 + v))) :
    Strip 2 (strip2 v815 v817 v819 v821 v823 v825) X := by
  unfold strip2 k0_pay224
  refine Cat.strip ?_
  refine Cat.pc (v := 0) (Pc.mk h0) ?_
  iterate 2 refine Cat.pc (Pc.mk h1) ?_
  iterate 4 refine Cat.pc (Pc.mk h2) ?_
  iterate 8 refine Cat.pc (Pc.mk h3) ?_
  iterate 16 refine Cat.pc (Pc.mk h4) ?_
  iterate 32 refine Cat.pc (Pc.mk h5) ?_
  exact Cat.nil

/-- The fourth chunk's rows. -/
theorem strip3_eq (h0 : Pk3 v815 32 (fun e v => X e (0 + v))) (h1 : Pk3 v817 32 (fun e v => X e (1 + v)))
    (h2 : Pk3 v819 32 (fun e v => X e (3 + v))) (h3 : Pk3 v821 32 (fun e v => X e (7 + v)))
    (h4 : Pk3 v823 32 (fun e v => X e (15 + v))) (h5 : Pk3 v825 32 (fun e v => X e (31 + v))) :
    Strip 3 (strip3 v815 v817 v819 v821 v823 v825) X := by
  unfold strip3 k0_pay1 k0_pay227 k0_pay228 k0_pay258 k0_pay259 k0_pay289
  refine Cat.strip ?_
  refine Cat.pc (v := 0) (Pc.mk h0) ?_
  iterate 2 refine Cat.pc (Pc.mk h1) ?_
  iterate 4 refine Cat.pc (Pc.mk h2) ?_
  iterate 8 refine Cat.pc (Pc.mk h3) ?_
  iterate 16 refine Cat.pc (Pc.mk h4) ?_
  iterate 32 refine Cat.pc (Pc.mk h5) ?_
  exact Cat.nil

end

/-- The block that the body stores. -/
def block (A : Arr) (v60 : T2 400 32) : T2 400 252 :=
  k0_pay2 (F := Ideal)
    (strip0 A.v53 A.v55 A.v57 A.v59 (w791 A v60) (w795 A v60) (w796 A v60) (w821 A v60) (w823 A v60) (w825 A v60))
    (strip1 (w815 A v60) (w817 A v60) (w819 A v60) (w821 A v60) (w823 A v60) (w825 A v60))
    (strip2 (w815 A v60) (w817 A v60) (w819 A v60) (w821 A v60) (w823 A v60) (w825 A v60))
    (strip3 (w815 A v60) (w817 A v60) (w819 A v60) (w821 A v60) (w823 A v60) (w825 A v60))

/-- The nodes after `n` iterations, event by event. -/
def trees (W : Wts) (x : ℕ → Ft) (n : ℕ) : Fam := fun e => tree W kc (x e) n

/-- Their global features, `na` the number of nodes. -/
def globs (W : Wts) (x : ℕ → Ft) (na n : ℕ) : ℕ → Ft := gF W na (kc n) (trees W x n)

/-- One iteration's update gives the next tree. -/
theorem upd_trees (W : Wts) (x : ℕ → Ft) (na n : ℕ) (h : na = 2 ^ (n + 1) - 1) :
    updF W (kidsF W na (trees W x n) (globs W x na n)) (msgF W (trees W x n) (globs W x na n)) (globs W x na n)
      = trees W x (n + 1) := by
  subst h; rfl

section
variable {A : Arr} {W : Wts} {x : ℕ → Ft} {v60 : T2 400 32}

/-- One node. -/
theorem first (hA : Good A W) (h : Root v60 x) :
    Pk (k0_pay39 (F := Ideal) A.v45 A.v47 A.v49 A.v51 A.v53 A.v55 A.v57 A.v59 (w91 A v60) (w151 A v60) (w152 A v60)) 32
      (trees W x 1) := by
  have hx : Pk3 (w66 A v60) 32 (fun e v => trees W x 0 e (0 + v)) := pay33 h
  have hx' : Pk (w67 A v60) 32 (trees W x 0) := pay34 h
  have hg : Pk (w91 A v60) 16 (fun e _ => globs W x 1 0 e) := pay35 hA h
  have hc : Pk (w102 A v60) 64 (fun e v => lay2 W.bw0 W.bb0 (trees W x 0 e (0 + v)) (globs W x 1 0 e)) := pay36 hA h
  have hy : Pk (w151 A v60) 32 (kidsF W 1 (trees W x 0) (globs W x 1 0)) := pay37 hA hx hc
  have hm : Pk (w152 A v60) 32 (msgF W (trees W x 0) (globs W x 1 0)) := pay38 hA hx' hg
  have := pay39 hA hg hy hm
  rwa [upd_trees W x 1 0 rfl] at this

/-- Three nodes. -/
theorem second (hA : Good A W) (h : Root v60 x) :
    Pk (k0_pay50 (F := Ideal) A.v45 A.v49 A.v51 A.v53 A.v55 A.v57 A.v59 (w212 A v60) (w281 A v60) (w296 A v60)
      (zeros 100 320)) 32 (trees W x 2) := by
  have hp := first hA h
  have h0 : Pk3 (w183 A v60) 32 (fun e v => trees W x 1 e (0 + v)) := pay40 hp
  have h1 : Pk3 (w185 A v60) 32 (fun e v => trees W x 1 e (1 + v)) := pay41 hp
  have hx : Pk (w188 A v60) 32 (trees W x 1) := pay42 hp
  have hq : Pk3 (w199 A v60) 16 (fun e v => pre W (trees W x 1 e v)) := pay43 hA hp
  have hg : Pk (w212 A v60) 16 (fun e _ => globs W x 3 1 e) := pay44 hA hq
  have ha : Pk4 (w241 A v60) 32 (fun e v _ f => br W (trees W x 1 e (1 + v)) (globs W x 3 1 e) (0 + f)) := pay46 hA hq h1
  have hb : Pk3 (w246 A v60) 32 (fun e v f => br W (trees W x 1 e (1 + v)) (globs W x 3 1 e) (32 + f)) := pay47 hA hq h1
  have hy : Pk (w281 A v60) 32 (kidsF W 3 (trees W x 1) (globs W x 3 1)) := pay48 h0 h1 ha hb
  have hs : Pk3 (w296 A v60) 80 (fromParent (shareF W (msgF W (trees W x 1) (globs W x 3 1)))) := pay49 hA hx hg
  have := pay50 hA hg hy hs
  rwa [upd_trees W x 3 1 rfl] at this

/-- Seven nodes. -/
theorem third (hA : Good A W) (h : Root v60 x) :
    Pk (k0_pay65 (F := Ideal) A.v45 A.v49 A.v51 A.v53 A.v55 A.v57 A.v59 (w352 A v60) (w427 A v60) (w434 A v60)
      (w438 A v60) (w442 A v60) (w444 A v60)) 32 (trees W x 3) := by
  have hp := second hA h
  have h0 : Pk3 (w320 A v60) 32 (fun e v => trees W x 2 e (0 + v)) := pay51 hp
  have h1 : Pk3 (w322 A v60) 32 (fun e v => trees W x 2 e (1 + v)) := pay52 hp
  have h2 : Pk3 (w324 A v60) 32 (fun e v => trees W x 2 e (3 + v)) := pay53 hp
  have hx : Pk (w328 A v60) 32 (trees W x 2) := pay54 hp
  have hq := pay55 hA hp
  have hg : Pk (w352 A v60) 16 (fun e _ => globs W x 7 2 e) := pay56 hA hq
  have h3 : Pk3 (w389 A v60) 32 (fun e v => kidsF W 7 (trees W x 2) (globs W x 7 2) e (7 + v)) := pay57 hA hq h2
  have hc : Pk (w392 A v60) 32 (fun e _ n => ∑ k ∈ Finset.range 16, globs W x 7 2 e k * W.mw0 (32 + k) n + W.mb0 n) :=
    pay58 hA hq
  have hy : Pk (w427 A v60) 32 (kidsF W 7 (trees W x 2) (globs W x 7 2)) := pay59 h0 h1 h2 h3
  have hs := pay60 hA hx hc
  have := pay65 (v434 := w434 A v60) (v438 := w438 A v60) (v442 := w442 A v60) (v444 := w444 A v60) hA hg hy pay61
    (pay62 hs) (pay63 hs) (pay64 hs)
  rwa [upd_trees W x 7 2 rfl] at this

/-- Fifteen nodes. -/
theorem fourth (hA : Good A W) (h : Root v60 x) :
    Pk (k0_pay78 (F := Ideal) A.v45 A.v47 A.v49 A.v51 A.v53 A.v55 A.v57 A.v59 (w506 A v60) (w587 A v60) (w592 A v60)
      (zeros 1500 320)) 32 (trees W x 4) := by
  have hp := third hA h
  have h0 : Pk3 (w471 A v60) 32 (fun e v => trees W x 3 e (0 + v)) := pay66 hp
  have h1 : Pk3 (w473 A v60) 32 (fun e v => trees W x 3 e (1 + v)) := pay67 hp
  have h2 : Pk3 (w475 A v60) 32 (fun e v => trees W x 3 e (3 + v)) := pay68 hp
  have h3 : Pk3 (w477 A v60) 32 (fun e v => trees W x 3 e (7 + v)) := pay69 hp
  have hx : Pk (w482 A v60) 32 (trees W x 3) := pay70 hp
  have hq : Pk3 (w493 A v60) 16 (fun e v => pre W (trees W x 3 e v)) := pay71 hA hp
  have hg : Pk (w506 A v60) 16 (fun e _ => globs W x 15 3 e) := pay72 hA hq
  have ha : Pk4 (w535 A v60) 32 (fun e v _ f => br W (trees W x 3 e (7 + v)) (globs W x 15 3 e) (0 + f)) := pay74 hA hq h3
  have hb : Pk3 (w540 A v60) 32 (fun e v f => br W (trees W x 3 e (7 + v)) (globs W x 15 3 e) (32 + f)) := pay75 hA hq h3
  have hy : Pk (w587 A v60) 32 (kidsF W 15 (trees W x 3) (globs W x 15 3)) := pay76 h0 h1 h2 h3 ha hb
  have hs : Pk (w592 A v60) 32 (accF (msgF W (trees W x 3) (globs W x 15 3))) := pay77 hA hx hg
  have := pay78 hA hg hy hs
  rwa [upd_trees W x 15 3 rfl] at this

/-- Thirty-one nodes. -/
theorem fifth (hA : Good A W) (h : Root v60 x) :
    Pk (k0_pay95 (F := Ideal) A.v53 A.v55 A.v57 A.v59 (w791 A v60) (w795 A v60) (w796 A v60)) 32 (trees W x 5) := by
  have hp := fourth hA h
  have h0 : Pk3 (w636 A v60) 32 (fun e v => trees W x 4 e (0 + v)) := pay79 hp
  have h1 : Pk3 (w638 A v60) 32 (fun e v => trees W x 4 e (1 + v)) := pay80 hp
  have h2 : Pk3 (w640 A v60) 32 (fun e v => trees W x 4 e (3 + v)) := pay81 hp
  have h3 : Pk3 (w642 A v60) 32 (fun e v => trees W x 4 e (7 + v)) := pay82 hp
  have h4 : Pk3 (w644 A v60) 32 (fun e v => trees W x 4 e (15 + v)) := pay83 hp
  have hx : Pk (w650 A v60) 32 (trees W x 4) := pay84 h0 h1 h2 h3 h4
  have hg : Pk (w674 A v60) 16 (fun e _ => globs W x 31 4 e) := pay85 hA hx
  have hr := pay86 hA hx h4
  have h5 : Pk3 (w711 A v60) 32 (fun e v => kidsF W 31 (trees W x 4) (globs W x 31 4) e (31 + v)) := pay87 hA hr
  have hm : Pk3 (w733 A v60) 32 (msgF W (trees W x 4) (globs W x 31 4)) := pay88 hA hx hg
  have s0 : Pk3 (w734 A v60) 32 (fun e v => accF (msgF W (trees W x 4) (globs W x 31 4)) e (0 + v)) := pay89 hA hx hg
  have s1 : Pk3 (w739 A v60) 32 (fun e v => accF (msgF W (trees W x 4) (globs W x 31 4)) e (1 + v)) := pay90 hA hx hg
  have s2 : Pk4 (w740 A v60) 32 (fun e v _ f => accF (msgF W (trees W x 4) (globs W x 31 4)) e (1 + v) f) :=
    pay91 hA hx hg
  have hs : Pk3 (w791 A v60) 80 (fromParent (shareF W (msgF W (trees W x 4) (globs W x 31 4)))) := pay92 hA hm s0 s1 s2
  have hc : Pk3 (w795 A v60) 80 (fun e _ n => ∑ k ∈ Finset.range 16, globs W x 31 4 e k * W.uw0 (64 + k) n + W.ub0 n) :=
    pay93 hA hg
  have hy := pay94 hA h0 h1 h2 h3 h4 h5
  have := pay95 (v791 := w791 A v60) (v795 := w795 A v60) (v796 := w796 A v60) hA hs hc hy
  rwa [upd_trees W x 31 4 rfl] at this

/-- THE STORED BLOCK: row `e`, column `4 v + f` is feature `f` of node `v` of event `e`'s tree. -/
theorem block_apply (hA : Good A W) (h : Root v60 x) (e : Fin 400) (c : Fin 252) :
    block A v60 (ix2 e c) = tree W kc (x e.val) 5 (c.val / 4) (c.val % 4) := by
  have hp := fifth hA h
  have h0 : Pk3 (w815 A v60) 32 (fun e v => trees W x 5 e (0 + v)) := pay96 hp
  have h1 : Pk3 (w817 A v60) 32 (fun e v => trees W x 5 e (1 + v)) := pay97 hp
  have h2 : Pk3 (w819 A v60) 32 (fun e v => trees W x 5 e (3 + v)) := pay98 hp
  have h3 : Pk3 (w821 A v60) 32 (fun e v => trees W x 5 e (7 + v)) := pay99 hp
  have h4 : Pk3 (w823 A v60) 32 (fun e v => trees W x 5 e (15 + v)) := pay100 hp
  have h5 : Pk3 (w825 A v60) 32 (fun e v => trees W x 5 e (31 + v)) := pay101 hp
  unfold block k0_pay2
  exact Cat.apply (g := fun i => trees W x 5 (i 0).val ((i 1).val / 4) ((i 1).val % 4))
    (Cat.chunk (strip0_eq hp h3 h4 h5) (Cat.chunk (strip1_eq h0 h1 h2 h3 h4 h5) (Cat.chunk
      (strip2_eq h0 h1 h2 h3 h4 h5) (Cat.chunk (strip3_eq h0 h1 h2 h3 h4 h5) Cat.nil)))) (ix2 e c)

end

end Tree
-- ==== Proof.Ideal.Block.lean ====
/-
  WHAT A GRID POINT LEAVES IN ITS OUTPUT BLOCK: the one store's payload, over the whole input blocks as they were loaded.
-/
module

public import proofs.«01_k».proof.Proof.Ideal.Blocks
public import proofs.«01_k».proof.Proof.Chain

@[expose] public section

set_option maxHeartbeats 4000000
set_option maxRecDepth 16384

noncomputable section

namespace Tree

open Cert.KernelIdeal Cert.KernelIdeal.Gen Idealize.ShloMosaic Idealize.ShloMosaic.TcCoe Idealize.SL.Sem

theorem origin : (![0, 0] : Fin 2 → Nat) = fun _ => 0 := funext fun a => by fin_cases a <;> rfl

/-- Loading the whole of an array. -/
theorem load_whole {M N : ℕ} (x : Vec Ideal ⟨2, ![M, N]⟩ .f32)
    (inb : ∀ a, (![0, 0] : Fin 2 → Nat) a + (![M, N] : Fin 2 → Nat) a ≤ (⟨2, ![M, N]⟩ : Shape).size a) :
    View.ld (S := ⟨2, ![M, N]⟩) (Val := Elt Ideal) (e' := .f32) x (Rect.unit (s := ⟨2, ![M, N]⟩) ![0, 0] ![M, N] inb) = x :=
  View.ld_unit_zero (S := ⟨2, ![M, N]⟩) origin inb x

theorem load_S128x128 (x : Vec Ideal S128x128 .f32) (inb : ∀ a, (![0, 0] : Fin 2 → Nat) a + (![128, 128] : Fin 2 → Nat) a ≤ S128x128.size a) :
    View.ld (S := S128x128) (Val := Elt Ideal) (e' := .f32) x (Rect.unit (s := S128x128) ![0, 0] ![128, 128] inb) = x :=
  load_whole x inb

theorem load_S128x256 (x : Vec Ideal S128x256 .f32) (inb : ∀ a, (![0, 0] : Fin 2 → Nat) a + (![128, 256] : Fin 2 → Nat) a ≤ S128x256.size a) :
    View.ld (S := S128x256) (Val := Elt Ideal) (e' := .f32) x (Rect.unit (s := S128x256) ![0, 0] ![128, 256] inb) = x :=
  load_whole x inb

theorem load_S128x320 (x : Vec Ideal S128x320 .f32) (inb : ∀ a, (![0, 0] : Fin 2 → Nat) a + (![128, 320] : Fin 2 → Nat) a ≤ S128x320.size a) :
    View.ld (S := S128x320) (Val := Elt Ideal) (e' := .f32) x (Rect.unit (s := S128x320) ![0, 0] ![128, 320] inb) = x :=
  load_whole x inb

theorem load_S128x64 (x : Vec Ideal S128x64 .f32) (inb : ∀ a, (![0, 0] : Fin 2 → Nat) a + (![128, 64] : Fin 2 → Nat) a ≤ S128x64.size a) :
    View.ld (S := S128x64) (Val := Elt Ideal) (e' := .f32) x (Rect.unit (s := S128x64) ![0, 0] ![128, 64] inb) = x :=
  load_whole x inb

theorem load_S1x128 (x : Vec Ideal S1x128 .f32) (inb : ∀ a, (![0, 0] : Fin 2 → Nat) a + (![1, 128] : Fin 2 → Nat) a ≤ S1x128.size a) :
    View.ld (S := S1x128) (Val := Elt Ideal) (e' := .f32) x (Rect.unit (s := S1x128) ![0, 0] ![1, 128] inb) = x :=
  load_whole x inb

theorem load_S1x256 (x : Vec Ideal S1x256 .f32) (inb : ∀ a, (![0, 0] : Fin 2 → Nat) a + (![1, 256] : Fin 2 → Nat) a ≤ S1x256.size a) :
    View.ld (S := S1x256) (Val := Elt Ideal) (e' := .f32) x (Rect.unit (s := S1x256) ![0, 0] ![1, 256] inb) = x :=
  load_whole x inb

theorem load_S1x320 (x : Vec Ideal S1x320 .f32) (inb : ∀ a, (![0, 0] : Fin 2 → Nat) a + (![1, 320] : Fin 2 → Nat) a ≤ S1x320.size a) :
    View.ld (S := S1x320) (Val := Elt Ideal) (e' := .f32) x (Rect.unit (s := S1x320) ![0, 0] ![1, 320] inb) = x :=
  load_whole x inb

theorem load_S1x64 (x : Vec Ideal S1x64 .f32) (inb : ∀ a, (![0, 0] : Fin 2 → Nat) a + (![1, 64] : Fin 2 → Nat) a ≤ S1x64.size a) :
    View.ld (S := S1x64) (Val := Elt Ideal) (e' := .f32) x (Rect.unit (s := S1x64) ![0, 0] ![1, 64] inb) = x :=
  load_whole x inb

theorem load_S256x256 (x : Vec Ideal S256x256 .f32) (inb : ∀ a, (![0, 0] : Fin 2 → Nat) a + (![256, 256] : Fin 2 → Nat) a ≤ S256x256.size a) :
    View.ld (S := S256x256) (Val := Elt Ideal) (e' := .f32) x (Rect.unit (s := S256x256) ![0, 0] ![256, 256] inb) = x :=
  load_whole x inb

theorem load_S320x128 (x : Vec Ideal S320x128 .f32) (inb : ∀ a, (![0, 0] : Fin 2 → Nat) a + (![320, 128] : Fin 2 → Nat) a ≤ S320x128.size a) :
    View.ld (S := S320x128) (Val := Elt Ideal) (e' := .f32) x (Rect.unit (s := S320x128) ![0, 0] ![320, 128] inb) = x :=
  load_whole x inb

theorem load_S400x252 (x : Vec Ideal S400x252 .f32) (inb : ∀ a, (![0, 0] : Fin 2 → Nat) a + (![400, 252] : Fin 2 → Nat) a ≤ S400x252.size a) :
    View.ld (S := S400x252) (Val := Elt Ideal) (e' := .f32) x (Rect.unit (s := S400x252) ![0, 0] ![400, 252] inb) = x :=
  load_whole x inb

theorem load_S400x32 (x : Vec Ideal S400x32 .f32) (inb : ∀ a, (![0, 0] : Fin 2 → Nat) a + (![400, 32] : Fin 2 → Nat) a ≤ S400x32.size a) :
    View.ld (S := S400x32) (Val := Elt Ideal) (e' := .f32) x (Rect.unit (s := S400x32) ![0, 0] ![400, 32] inb) = x :=
  load_whole x inb

theorem load_S64x128 (x : Vec Ideal S64x128 .f32) (inb : ∀ a, (![0, 0] : Fin 2 → Nat) a + (![64, 128] : Fin 2 → Nat) a ≤ S64x128.size a) :
    View.ld (S := S64x128) (Val := Elt Ideal) (e' := .f32) x (Rect.unit (s := S64x128) ![0, 0] ![64, 128] inb) = x :=
  load_whole x inb

theorem load_S64x256 (x : Vec Ideal S64x256 .f32) (inb : ∀ a, (![0, 0] : Fin 2 → Nat) a + (![64, 256] : Fin 2 → Nat) a ≤ S64x256.size a) :
    View.ld (S := S64x256) (Val := Elt Ideal) (e' := .f32) x (Rect.unit (s := S64x256) ![0, 0] ![64, 256] inb) = x :=
  load_whole x inb

theorem load_S64x320 (x : Vec Ideal S64x320 .f32) (inb : ∀ a, (![0, 0] : Fin 2 → Nat) a + (![64, 320] : Fin 2 → Nat) a ≤ S64x320.size a) :
    View.ld (S := S64x320) (Val := Elt Ideal) (e' := .f32) x (Rect.unit (s := S64x320) ![0, 0] ![64, 320] inb) = x :=
  load_whole x inb

theorem load_S64x64 (x : Vec Ideal S64x64 .f32) (inb : ∀ a, (![0, 0] : Fin 2 → Nat) a + (![64, 64] : Fin 2 → Nat) a ≤ S64x64.size a) :
    View.ld (S := S64x64) (Val := Elt Ideal) (e' := .f32) x (Rect.unit (s := S64x64) ![0, 0] ![64, 64] inb) = x :=
  load_whole x inb

theorem load_S8x128 (x : Vec Ideal S8x128 .f32) (inb : ∀ a, (![0, 0] : Fin 2 → Nat) a + (![8, 128] : Fin 2 → Nat) a ≤ S8x128.size a) :
    View.ld (S := S8x128) (Val := Elt Ideal) (e' := .f32) x (Rect.unit (s := S8x128) ![0, 0] ![8, 128] inb) = x :=
  load_whole x inb

/-- What one grid point stores is the block function of its thirty-one input blocks, whatever references they arrive by. -/
theorem out_block (c : Dev nD) (i : grid0.Coords)
    (arg1 : Memref sig .tc .vmem S400x32 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S64x64 .f32) (harg8 : arg8.IsWhole)
    (arg9 : Memref sig .tc .vmem S1x64 .f32) (harg9 : arg9.IsWhole)
    (arg10 : Memref sig .tc .vmem S128x256 .f32) (harg10 : arg10.IsWhole)
    (arg11 : Memref sig .tc .vmem S64x256 .f32) (harg11 : arg11.IsWhole)
    (arg12 : Memref sig .tc .vmem S1x256 .f32) (harg12 : arg12.IsWhole)
    (arg13 : Memref sig .tc .vmem S256x256 .f32) (harg13 : arg13.IsWhole)
    (arg14 : Memref sig .tc .vmem S1x256 .f32) (harg14 : arg14.IsWhole)
    (arg15 : Memref sig .tc .vmem S256x256 .f32) (harg15 : arg15.IsWhole)
    (arg16 : Memref sig .tc .vmem S1x256 .f32) (harg16 : arg16.IsWhole)
    (arg17 : Memref sig .tc .vmem S128x128 .f32) (harg17 : arg17.IsWhole)
    (arg18 : Memref sig .tc .vmem S64x128 .f32) (harg18 : arg18.IsWhole)
    (arg19 : Memref sig .tc .vmem S1x128 .f32) (harg19 : arg19.IsWhole)
    (arg20 : Memref sig .tc .vmem S128x128 .f32) (harg20 : arg20.IsWhole)
    (arg21 : Memref sig .tc .vmem S1x128 .f32) (harg21 : arg21.IsWhole)
    (arg22 : Memref sig .tc .vmem S128x128 .f32) (harg22 : arg22.IsWhole)
    (arg23 : Memref sig .tc .vmem S1x128 .f32) (harg23 : arg23.IsWhole)
    (arg24 : Memref sig .tc .vmem S128x320 .f32) (harg24 : arg24.IsWhole)
    (arg25 : Memref sig .tc .vmem S128x320 .f32) (harg25 : arg25.IsWhole)
    (arg26 : Memref sig .tc .vmem S64x320 .f32) (harg26 : arg26.IsWhole)
    (arg27 : Memref sig .tc .vmem S1x320 .f32) (harg27 : arg27.IsWhole)
    (arg28 : Memref sig .tc .vmem S320x128 .f32) (harg28 : arg28.IsWhole)
    (arg29 : Memref sig .tc .vmem S1x128 .f32) (harg29 : arg29.IsWhole)
    (arg30 : Memref sig .tc .vmem S128x128 .f32) (harg30 : arg30.IsWhole)
    (arg31 : Memref sig .tc .vmem S1x128 .f32) (harg31 : arg31.IsWhole)
    (arg32 : Memref sig .tc .vmem S400x252 .f32) (harg32 : arg32.IsWhole)
    (arg33 : Memref sig .tc .vmem S8x128 .f32) (harg33 : arg33.IsWhole)
    (x0 : Vec Ideal S400x32 .f32) (x1 : Vec Ideal S128x128 .f32) (x2 : Vec Ideal S1x128 .f32)
    (x3 : Vec Ideal S128x64 .f32) (x4 : Vec Ideal S1x64 .f32) (x5 : Vec Ideal S64x64 .f32) (x6 : Vec Ideal S1x64 .f32)
    (x7 : Vec Ideal S64x64 .f32) (x8 : Vec Ideal S1x64 .f32) (x9 : Vec Ideal S128x256 .f32)
    (x10 : Vec Ideal S64x256 .f32) (x11 : Vec Ideal S1x256 .f32) (x12 : Vec Ideal S256x256 .f32)
    (x13 : Vec Ideal S1x256 .f32) (x14 : Vec Ideal S256x256 .f32) (x15 : Vec Ideal S1x256 .f32)
    (x16 : Vec Ideal S128x128 .f32) (x17 : Vec Ideal S64x128 .f32) (x18 : Vec Ideal S1x128 .f32)
    (x19 : Vec Ideal S128x128 .f32) (x20 : Vec Ideal S1x128 .f32) (x21 : Vec Ideal S128x128 .f32)
    (x22 : Vec Ideal S1x128 .f32) (x23 : Vec Ideal S128x320 .f32) (x24 : Vec Ideal S128x320 .f32)
    (x25 : Vec Ideal S64x320 .f32) (x26 : Vec Ideal S1x320 .f32) (x27 : Vec Ideal S320x128 .f32)
    (x28 : Vec Ideal S1x128 .f32) (x29 : Vec Ideal S128x128 .f32) (x30 : Vec Ideal S1x128 .f32) :
      out0_A_31 (F := Ideal) c i arg1 harg1 arg2 harg2 arg3 harg3 arg4 harg4 arg5 harg5 arg6 harg6 arg7 harg7
      arg8 harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24
      arg25 harg25 arg26 harg26 arg27 harg27 arg28 harg28 arg29 harg29 arg30 harg30 arg31 harg31 arg32 harg32
      arg33 harg33 x0 x1 x2 x3 x4 x5 x6 x7 x8 x9 x10 x11 x12 x13 x14 x15 x16 x17 x18 x19 x20 x21 x22 x23 x24 x25 x26
      x27 x28 x29 x30 =
    block ⟨x1, x2, x3, x4, x5, x6, x7, x8, x9, x10, x11, x12, x13, x14, x15, x16, x17, x18, x19, x20, x21, x22, x23, x24,
      x25, x26, x27, x28, x29, x30⟩ x0 := by
  unfold out0_A_31
  rw [View.read_writes_junk_eq_canon]
  unfold kernelRun0_A
  dsimp only
  rw [View.canon_unit_zero origin]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229, kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242, kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255, kernelRun0_A.sl.r_256, kernelRun0_A.sl.r_257, kernelRun0_A.sl.r_258, kernelRun0_A.sl.r_259, kernelRun0_A.sl.r_260, kernelRun0_A.sl.r_261, kernelRun0_A.sl.r_262, kernelRun0_A.sl.r_263, kernelRun0_A.sl.r_264, kernelRun0_A.sl.r_265, kernelRun0_A.sl.r_266, kernelRun0_A.sl.r_267, kernelRun0_A.sl.r_268, kernelRun0_A.sl.r_269, kernelRun0_A.sl.r_270, kernelRun0_A.sl.r_271, kernelRun0_A.sl.r_272, kernelRun0_A.sl.r_273, kernelRun0_A.sl.r_274, kernelRun0_A.sl.r_275, kernelRun0_A.sl.r_276, kernelRun0_A.sl.r_277, kernelRun0_A.sl.r_278, kernelRun0_A.sl.r_279, kernelRun0_A.sl.cst_73, kernelRun0_A.sl.cst_119, kernelRun0_A.sl.cst_183, kernelRun0_A.sl.cst_206]
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, shapeCast_self, View.readAt_eq_ld, Memref.IsWhole.read_unread, load_S128x128, load_S128x256, load_S128x320, load_S128x64, load_S1x128, load_S1x256, load_S1x320, load_S1x64, load_S256x256, load_S320x128, load_S400x252, load_S400x32, load_S64x128, load_S64x256, load_S64x320, load_S64x64, load_S8x128]
  simp only [block, strip0, strip1, strip2, strip3, w66, w67, w91, w102, w151, w152, w183, w185, w188, w199, w212, w241, w246, w281, w296, w320, w322, w324, w328, w343, w352, w389, w392, w427, w434, w438, w442, w444, w471, w473, w475, w477, w482, w493, w506, w535, w540, w587, w592, w636, w638, w640, w642, w644, w650, w674, w689, w711, w733, w734, w739, w740, w791, w795, w796, w815, w817, w819, w821, w823, w825]
end Tree
-- ==== Proof.Prep.lean ====
/-
  THE WEIGHTS, as arrays and as functions of their indices, and what laying a weight matrix along the diagonal or a bias
  side by side leaves.
-/
module

public import proofs.«01_k».proof.Proof.Nets

@[expose] public section

noncomputable section

namespace Tree

open Idealize.ShloMosaic

/-- A matrix as a function of two numbers. -/
def mat {K N : ℕ} (a : FVec Ideal ⟨2, ![K, N]⟩ .f32) : ℕ → ℕ → EReal := fun k n =>
  if h : k < K ∧ n < N then a (ix2 ⟨k, h.1⟩ ⟨n, h.2⟩) else 0

/-- A vector as a function of a number. -/
def vec {N : ℕ} (a : FVec Ideal ⟨1, ![N]⟩ .f32) : ℕ → EReal := fun n => if h : n < N then a (ix1 ⟨n, h⟩) else 0

theorem mat_apply {K N : ℕ} (a : FVec Ideal ⟨2, ![K, N]⟩ .f32) (k : Fin K) (n : Fin N) : a (ix2 k n) = mat a k.val n.val := by
  rw [mat, dif_pos ⟨k.isLt, n.isLt⟩]

theorem vec_apply {N : ℕ} (a : FVec Ideal ⟨1, ![N]⟩ .f32) (n : Fin N) : a (ix1 n) = vec a n.val := by
  rw [vec, dif_pos n.isLt]

/-- Some of a matrix's rows. -/
theorem mat_rows {K N M : ℕ} (o : ℕ) (a : FVec Ideal ⟨2, ![M, N]⟩ .f32) (h : (⟨2, ![M, N]⟩ : Shape).Slices ![o, 0] ⟨2, ![K, N]⟩)
    (k : Fin K) (n : Fin N) : extractStridedSlice ⟨2, ![K, N]⟩ ![o, 0] a h (ix2 k n) = mat a (o + k.val) n.val := by
  have hk : o + k.val < M := by have := h.2 0; have h2 : o + K ≤ M := this; have := k.isLt; omega
  rw [mat, dif_pos ⟨hk, n.isLt⟩, extractStridedSlice_apply _ a h (ix2 k n) (ix2 ⟨o + k.val, hk⟩ n)]
  intro d
  match d with
  | ⟨0, _⟩ => rfl
  | ⟨1, _⟩ => show n.val = 0 + n.val; omega

/-- A matrix's first rows. -/
theorem mat_top {K N M : ℕ} (a : FVec Ideal ⟨2, ![M, N]⟩ .f32) (h : (⟨2, ![M, N]⟩ : Shape).Slices ![0, 0] ⟨2, ![K, N]⟩)
    (k : Fin K) (n : Fin N) : extractStridedSlice ⟨2, ![K, N]⟩ ![0, 0] a h (ix2 k n) = mat a k.val n.val :=
  (mat_rows 0 a h k n).trans (by rw [Nat.zero_add])

/-- The first `j` copies of a weight matrix are laid, the rest is zero. -/
def Upto {P Q : ℕ} (j : ℕ) (a : FVec Ideal ⟨2, ![P, Q]⟩ .f32) (K N : ℕ) (w : ℕ → ℕ → EReal) : Prop :=
  ∀ (k : Fin P) (n : Fin Q), a (ix2 k n) = if k.val / K = n.val / N ∧ k.val / K < j then w (k.val % K) (n.val % N) else 0

theorem Upto.zero {P Q K N : ℕ} {w : ℕ → ℕ → EReal} {h : (⟨0, ![]⟩ : Shape).BroadcastsInDim ⟨2, ![P, Q]⟩ ![]} :
    Upto 0 (broadcastInDim ⟨2, ![P, Q]⟩ ![] h (constant ⟨0, ![]⟩ .f32 0x00000000#32)) K N w := fun k n => by
  rw [if_neg (fun h => absurd h.2 (Nat.not_lt_zero _))]
  exact Ideal.ofBits_zero_f32

theorem Upto.step {P Q K N : ℕ} {j : ℕ} {a : FVec Ideal ⟨2, ![P, Q]⟩ .f32} {u : FVec Ideal ⟨2, ![K, N]⟩ .f32} {w : ℕ → ℕ → EReal}
    {st : Fin 2 → Int} {h : (⟨2, ![P, Q]⟩ : Shape).Slices (fun _ => 0) ⟨2, ![K, N]⟩} (ha : Upto j a K N w)
    (hu : ∀ k n, u (ix2 k n) = w k.val n.val) (hst : st = ![((j * K : ℕ) : Int), ((j * N : ℕ) : Int)]) (hP : j * K + K ≤ P := by norm_num)
    (hQ : j * N + N ≤ Q := by norm_num) (hK : 0 < K := by norm_num) (hN : 0 < N := by norm_num) :
    Upto (j + 1) (Host.dynamicUpdateSlice a u st h) K N w := fun k n => by
  have h0 : Host.clampedStart ⟨2, ![P, Q]⟩ ⟨2, ![K, N]⟩ h.1 st (0 : Fin 2) = j * K :=
    Host.clampedStart_of_le h.1 st _ _ (by rw [hst]; rfl) hP
  have h1 : Host.clampedStart ⟨2, ![P, Q]⟩ ⟨2, ![K, N]⟩ h.1 st (1 : Fin 2) = j * N :=
    Host.clampedStart_of_le h.1 st _ _ (by rw [hst]; rfl) hQ
  rw [Host.dynamicUpdateSlice_apply]
  by_cases hin : k.val / K = j ∧ n.val / N = j
  · have hk : j * K ≤ k.val ∧ k.val < j * K + K := by
      have e := hin.1
      have d := Nat.div_add_mod k.val K; have r := Nat.mod_lt k.val hK; rw [Nat.mul_comm, e] at d; omega
    have hn : j * N ≤ n.val ∧ n.val < j * N + N := by
      have e := hin.2
      have d := Nat.div_add_mod n.val N; have r := Nat.mod_lt n.val hN; rw [Nat.mul_comm, e] at d; omega
    rw [dif_pos (fun b => by
      match b with
      | ⟨0, _⟩ => exact ⟨h0.le.trans hk.1, by show k.val < Host.clampedStart _ _ h.1 st 0 + K; rw [h0]; exact hk.2⟩
      | ⟨1, _⟩ => exact ⟨h1.le.trans hn.1, by show n.val < Host.clampedStart _ _ h.1 st 1 + N; rw [h1]; exact hn.2⟩)]
    rw [if_pos ⟨hin.1.trans hin.2.symm, by rw [hin.1]; exact Nat.lt_succ_self j⟩]
    have ek : k.val % K = k.val - j * K := by have := Nat.div_add_mod k.val K; rw [hin.1, Nat.mul_comm] at this; omega
    have en : n.val % N = n.val - j * N := by have := Nat.div_add_mod n.val N; rw [hin.2, Nat.mul_comm] at this; omega
    rw [ek, en]
    refine Eq.trans (congrArg u ?_) (hu ⟨k.val - j * K, by omega⟩ ⟨n.val - j * N, by omega⟩)
    funext b
    match b with
    | ⟨0, _⟩ => exact Fin.ext (congrArg (k.val - ·) h0)
    | ⟨1, _⟩ => exact Fin.ext (congrArg (n.val - ·) h1)
  · rw [dif_neg (fun hb => hin ?_)]
    · rw [ha k n]
      generalize k.val / K = p at hin ⊢
      generalize n.val / N = q at hin ⊢
      by_cases hd : p = q ∧ p < j
      · rw [if_pos hd, if_pos ⟨hd.1, by omega⟩]
      · rw [if_neg hd, if_neg (by omega)]
    · have b0 := hb (0 : Fin 2)
      have b1 := hb (1 : Fin 2)
      rw [h0] at b0
      rw [h1] at b1
      have c0 : j * K ≤ k.val ∧ k.val < j * K + K := b0
      have c1 : j * N ≤ n.val ∧ n.val < j * N + N := b1
      exact ⟨Nat.div_eq_of_lt_le c0.1 (by rw [Nat.add_mul, Nat.one_mul]; exact c0.2),
        Nat.div_eq_of_lt_le c1.1 (by rw [Nat.add_mul, Nat.one_mul]; exact c1.2)⟩

theorem Upto.bd {P Q K N : ℕ} {a : FVec Ideal ⟨2, ![P, Q]⟩ .f32} {w : ℕ → ℕ → EReal} (ha : Upto 4 a K N w)
    (hP : P = 4 * K := by norm_num) : Bd a K N w := fun k n => by
  have hk : k.val / K < 4 := Nat.div_lt_of_lt_mul (by have := k.isLt; rw [Nat.mul_comm]; omega)
  rw [ha k n]
  by_cases h : k.val / K = n.val / N
  · rw [if_pos ⟨h, hk⟩, if_pos h]
  · rw [if_neg (fun h' => h h'.1), if_neg h]

/-- Two starts, one at a time. -/
theorem starts {f : Fin 2 → Int} {p q : Int} (h0 : f 0 = p) (h1 : f 1 = q) : f = ![p, q] :=
  funext fun k => match k with
    | 0 => h0
    | 1 => h1

/-- Four copies of a matrix written in turn along the diagonal of zeros, each at its own start. -/
theorem Bd.laid {P Q K N : ℕ} {u : FVec Ideal ⟨2, ![K, N]⟩ .f32} {w : ℕ → ℕ → EReal} {s0 s1 s2 s3 : Fin 2 → Int}
    {hb : (⟨0, ![]⟩ : Shape).BroadcastsInDim ⟨2, ![P, Q]⟩ ![]}
    {h0 h1 h2 h3 : (⟨2, ![P, Q]⟩ : Shape).Slices (fun _ => 0) ⟨2, ![K, N]⟩} (hu : ∀ k n, u (ix2 k n) = w k.val n.val)
    (r0 : s0 0 = ((0 * K : ℕ) : Int)) (c0 : s0 1 = ((0 * N : ℕ) : Int)) (r1 : s1 0 = ((1 * K : ℕ) : Int)) (c1 : s1 1 = ((1 * N : ℕ) : Int))
    (r2 : s2 0 = ((2 * K : ℕ) : Int)) (c2 : s2 1 = ((2 * N : ℕ) : Int)) (r3 : s3 0 = ((3 * K : ℕ) : Int)) (c3 : s3 1 = ((3 * N : ℕ) : Int))
    (hP : P = 4 * K := by norm_num) (hQ : Q = 4 * N := by norm_num) (hK : 0 < K := by norm_num) (hN : 0 < N := by norm_num) :
    Bd (Host.dynamicUpdateSlice (Host.dynamicUpdateSlice (Host.dynamicUpdateSlice (Host.dynamicUpdateSlice
      (broadcastInDim ⟨2, ![P, Q]⟩ ![] hb (constant ⟨0, ![]⟩ .f32 0x00000000#32)) u s0 h0) u s1 h1) u s2 h2) u s3 h3) K N w := by
  subst hP hQ
  refine Upto.bd (Upto.step (Upto.step (Upto.step (Upto.step Upto.zero hu (starts r0 c0) ?_ ?_ hK hN) hu (starts r1 c1) ?_ ?_ hK hN)
    hu (starts r2 c2) ?_ ?_ hK hN) hu (starts r3 c3) ?_ ?_ hK hN) rfl
  all_goals omega

/-- A bias laid side by side four times. -/
theorem Row.tile {N L : ℕ} (a : FVec Ideal ⟨1, ![N]⟩ .f32) {h1 : (⟨1, ![N]⟩ : Shape).ShapeCasts ⟨2, ![1, N]⟩}
    {h2 : (⟨2, ![1, N]⟩ : Shape).ShapeCasts ⟨4, ![1, 1, 1, N]⟩}
    {hb : (⟨4, ![1, 1, 1, N]⟩ : Shape).BroadcastsInDim ⟨4, ![1, 1, 4, N]⟩ ![0, 1, 2, 3]}
    {h3 : (⟨4, ![1, 1, 4, N]⟩ : Shape).ShapeCasts ⟨2, ![1, L]⟩} (hL : L = 4 * N := by norm_num) (hN : 1 < N := by norm_num) :
    Row (shapeCast ⟨2, ![1, L]⟩ (broadcastInDim ⟨4, ![1, 1, 4, N]⟩ ![0, 1, 2, 3] hb
      (shapeCast ⟨4, ![1, 1, 1, N]⟩ (shapeCast ⟨2, ![1, N]⟩ a h1) h2)) h3) N (vec a) := fun l => by
  have hq : l.val / N < 4 := Nat.div_lt_of_lt_mul (by have := l.isLt; rw [Nat.mul_comm]; omega)
  have hr : l.val % N < N := Nat.mod_lt _ (by omega)
  rw [shapeCast_apply _ h3 (ix2 0 l) (ix4 0 0 ⟨l.val / N, hq⟩ ⟨l.val % N, hr⟩),
    broadcastInDim_apply _ hb _ (ix4 0 0 ⟨l.val / N, hq⟩ ⟨l.val % N, hr⟩) (ix4 0 0 0 ⟨l.val % N, hr⟩),
    shapeCast_apply _ h2 (ix4 0 0 0 ⟨l.val % N, hr⟩) (ix2 0 ⟨l.val % N, hr⟩),
    shapeCast_apply _ h1 (ix2 0 ⟨l.val % N, hr⟩) (ix1 ⟨l.val % N, hr⟩), vec_apply a]
  · rw [Shape.rowMajor_val_one, Shape.rowMajor_val_two]
    show l.val % N = 0 * N + l.val % N
    omega
  · rw [Shape.rowMajor_val_two, Shape.rowMajor_val_four]
    show 0 * N + l.val % N = ((0 * 1 + 0) * 1 + 0) * N + l.val % N
    omega
  · intro d
    match d with
    | ⟨0, _⟩ => rfl
    | ⟨1, _⟩ => rfl
    | ⟨2, _⟩ => rfl
    | ⟨3, _⟩ => show l.val % N = if N = 1 then 0 else l.val % N; rw [if_neg (by omega)]
  · rw [Shape.rowMajor_val_two, Shape.rowMajor_val_four]
    show ((0 * 1 + 0) * 4 + l.val / N) * N + l.val % N = 0 * L + l.val
    have := Nat.div_add_mod l.val N
    rw [Nat.mul_comm] at this
    simp only [Nat.zero_mul, Nat.zero_add]
    exact this

/-- The five networks' weights, from the arrays that hold them. -/
def wts (a1 : FVec Ideal ⟨2, ![32, 32]⟩ .f32) (a2 : FVec Ideal ⟨1, ![32]⟩ .f32) (a3 : FVec Ideal ⟨2, ![32, 16]⟩ .f32)
    (a4 : FVec Ideal ⟨1, ![16]⟩ .f32) (a5 : FVec Ideal ⟨2, ![16, 16]⟩ .f32) (a6 : FVec Ideal ⟨1, ![16]⟩ .f32)
    (a7 : FVec Ideal ⟨2, ![16, 16]⟩ .f32) (a8 : FVec Ideal ⟨1, ![16]⟩ .f32) (a9 : FVec Ideal ⟨2, ![48, 64]⟩ .f32)
    (a10 : FVec Ideal ⟨1, ![64]⟩ .f32) (a11 : FVec Ideal ⟨2, ![64, 64]⟩ .f32) (a12 : FVec Ideal ⟨1, ![64]⟩ .f32)
    (a13 : FVec Ideal ⟨2, ![64, 64]⟩ .f32) (a14 : FVec Ideal ⟨1, ![64]⟩ .f32) (a15 : FVec Ideal ⟨2, ![48, 32]⟩ .f32)
    (a16 : FVec Ideal ⟨1, ![32]⟩ .f32) (a17 : FVec Ideal ⟨2, ![32, 32]⟩ .f32) (a18 : FVec Ideal ⟨1, ![32]⟩ .f32)
    (a19 : FVec Ideal ⟨2, ![32, 32]⟩ .f32) (a20 : FVec Ideal ⟨1, ![32]⟩ .f32) (a21 : FVec Ideal ⟨2, ![80, 80]⟩ .f32)
    (a22 : FVec Ideal ⟨1, ![80]⟩ .f32) (a23 : FVec Ideal ⟨2, ![80, 32]⟩ .f32) (a24 : FVec Ideal ⟨1, ![32]⟩ .f32)
    (a25 : FVec Ideal ⟨2, ![32, 32]⟩ .f32) (a26 : FVec Ideal ⟨1, ![32]⟩ .f32) : Wts where
  pw0 := mat a1
  pb0 := vec a2
  pw1 := mat a3
  pb1 := vec a4
  qw0 := mat a5
  qb0 := vec a6
  qw1 := mat a7
  qb1 := vec a8
  bw0 := mat a9
  bb0 := vec a10
  bw1 := mat a11
  bb1 := vec a12
  bw2 := mat a13
  bb2 := vec a14
  mw0 := mat a15
  mb0 := vec a16
  mw1 := mat a17
  mb1 := vec a18
  mw2 := mat a19
  mb2 := vec a20
  uw0 := mat a21
  ub0 := vec a22
  uw1 := mat a23
  ub1 := vec a24
  uw2 := mat a25
  ub2 := vec a26

end Tree
-- ==== Proof.Ideal.Weights.lean ====
/-
  THE WEIGHTS AS THE REGION FINDS THEM: the host operations before the region lay every weight matrix four times along
  the diagonal and every bias four times side by side.
-/
module

public import proofs.«01_k».proof.Proof.Gen.KernelIdeal.Frame.Runs
public import proofs.«01_k».proof.Proof.Prep

@[expose] public section

set_option maxRecDepth 16384
set_option maxHeartbeats 4000000

noncomputable section

namespace Tree

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-! ## The arrays the host operations prepare -/

theorem prep1 (c : Dev nD) : Bd (V m c main_v4 : FVec Ideal S128x128 .f32) 32 32
    (mat (m ((c : Thread nD τ).loc main_arg1) : FVec Ideal S32x32 .f32)) := by
  unfold V
  after_results_simp
  exact Bd.laid (mat_apply _) rfl rfl rfl rfl rfl rfl rfl rfl

theorem prep2 (c : Dev nD) : Row (V m c main_v8 : FVec Ideal S1x128 .f32) 32
    (vec (m ((c : Thread nD τ).loc main_arg2) : FVec Ideal S32 .f32)) := by
  unfold V
  after_results_simp
  exact Row.tile _

theorem prep3 (c : Dev nD) : Bd (V m c main_v13 : FVec Ideal S128x64 .f32) 32 16
    (mat (m ((c : Thread nD τ).loc main_arg3) : FVec Ideal S32x16 .f32)) := by
  unfold V
  after_results_simp
  exact Bd.laid (mat_apply _) rfl rfl rfl rfl rfl rfl rfl rfl

theorem prep4 (c : Dev nD) : Row (V m c main_v17 : FVec Ideal S1x64 .f32) 16
    (vec (m ((c : Thread nD τ).loc main_arg4) : FVec Ideal S16 .f32)) := by
  unfold V
  after_results_simp
  exact Row.tile _

theorem prep5 (c : Dev nD) : Bd (V m c main_v22 : FVec Ideal S64x64 .f32) 16 16
    (mat (m ((c : Thread nD τ).loc main_arg5) : FVec Ideal S16x16 .f32)) := by
  unfold V
  after_results_simp
  exact Bd.laid (mat_apply _) rfl rfl rfl rfl rfl rfl rfl rfl

theorem prep6 (c : Dev nD) : Row (V m c main_v26 : FVec Ideal S1x64 .f32) 16
    (vec (m ((c : Thread nD τ).loc main_arg6) : FVec Ideal S16 .f32)) := by
  unfold V
  after_results_simp
  exact Row.tile _

theorem prep7 (c : Dev nD) : Bd (V m c main_v31 : FVec Ideal S64x64 .f32) 16 16
    (mat (m ((c : Thread nD τ).loc main_arg7) : FVec Ideal S16x16 .f32)) := by
  unfold V
  after_results_simp
  exact Bd.laid (mat_apply _) rfl rfl rfl rfl rfl rfl rfl rfl

theorem prep8 (c : Dev nD) : Row (V m c main_v35 : FVec Ideal S1x64 .f32) 16
    (vec (m ((c : Thread nD τ).loc main_arg8) : FVec Ideal S16 .f32)) := by
  unfold V
  after_results_simp
  exact Row.tile _

theorem prep9 (c : Dev nD) : Bd (V m c main_v41 : FVec Ideal S128x256 .f32) 32 64
    (mat (m ((c : Thread nD τ).loc main_arg9) : FVec Ideal S48x64 .f32)) := by
  unfold V
  after_results_simp
  exact Bd.laid (mat_top _ _) rfl rfl rfl rfl rfl rfl rfl rfl

theorem prep10 (c : Dev nD) : Bd (V m c main_v47 : FVec Ideal S64x256 .f32) 16 64
    (fun k n => mat (m ((c : Thread nD τ).loc main_arg9) : FVec Ideal S48x64 .f32) (32 + k) n) := by
  unfold V
  after_results_simp
  exact Bd.laid (mat_rows 32 _ _) rfl rfl rfl rfl rfl rfl rfl rfl

theorem prep11 (c : Dev nD) : Row (V m c main_v51 : FVec Ideal S1x256 .f32) 64
    (vec (m ((c : Thread nD τ).loc main_arg10) : FVec Ideal S64 .f32)) := by
  unfold V
  after_results_simp
  exact Row.tile _

theorem prep12 (c : Dev nD) : Bd (V m c main_v56 : FVec Ideal S256x256 .f32) 64 64
    (mat (m ((c : Thread nD τ).loc main_arg11) : FVec Ideal S64x64 .f32)) := by
  unfold V
  after_results_simp
  exact Bd.laid (mat_apply _) rfl rfl rfl rfl rfl rfl rfl rfl

theorem prep13 (c : Dev nD) : Row (V m c main_v60 : FVec Ideal S1x256 .f32) 64
    (vec (m ((c : Thread nD τ).loc main_arg12) : FVec Ideal S64 .f32)) := by
  unfold V
  after_results_simp
  exact Row.tile _

theorem prep14 (c : Dev nD) : Bd (V m c main_v65 : FVec Ideal S256x256 .f32) 64 64
    (mat (m ((c : Thread nD τ).loc main_arg13) : FVec Ideal S64x64 .f32)) := by
  unfold V
  after_results_simp
  exact Bd.laid (mat_apply _) rfl rfl rfl rfl rfl rfl rfl rfl

theorem prep15 (c : Dev nD) : Row (V m c main_v69 : FVec Ideal S1x256 .f32) 64
    (vec (m ((c : Thread nD τ).loc main_arg14) : FVec Ideal S64 .f32)) := by
  unfold V
  after_results_simp
  exact Row.tile _

theorem prep16 (c : Dev nD) : Bd (V m c main_v75 : FVec Ideal S128x128 .f32) 32 32
    (mat (m ((c : Thread nD τ).loc main_arg15) : FVec Ideal S48x32 .f32)) := by
  unfold V
  after_results_simp
  exact Bd.laid (mat_top _ _) rfl rfl rfl rfl rfl rfl rfl rfl

theorem prep17 (c : Dev nD) : Bd (V m c main_v81 : FVec Ideal S64x128 .f32) 16 32
    (fun k n => mat (m ((c : Thread nD τ).loc main_arg15) : FVec Ideal S48x32 .f32) (32 + k) n) := by
  unfold V
  after_results_simp
  exact Bd.laid (mat_rows 32 _ _) rfl rfl rfl rfl rfl rfl rfl rfl

theorem prep18 (c : Dev nD) : Row (V m c main_v85 : FVec Ideal S1x128 .f32) 32
    (vec (m ((c : Thread nD τ).loc main_arg16) : FVec Ideal S32 .f32)) := by
  unfold V
  after_results_simp
  exact Row.tile _

theorem prep19 (c : Dev nD) : Bd (V m c main_v90 : FVec Ideal S128x128 .f32) 32 32
    (mat (m ((c : Thread nD τ).loc main_arg17) : FVec Ideal S32x32 .f32)) := by
  unfold V
  after_results_simp
  exact Bd.laid (mat_apply _) rfl rfl rfl rfl rfl rfl rfl rfl

theorem prep20 (c : Dev nD) : Row (V m c main_v94 : FVec Ideal S1x128 .f32) 32
    (vec (m ((c : Thread nD τ).loc main_arg18) : FVec Ideal S32 .f32)) := by
  unfold V
  after_results_simp
  exact Row.tile _

theorem prep21 (c : Dev nD) : Bd (V m c main_v99 : FVec Ideal S128x128 .f32) 32 32
    (mat (m ((c : Thread nD τ).loc main_arg19) : FVec Ideal S32x32 .f32)) := by
  unfold V
  after_results_simp
  exact Bd.laid (mat_apply _) rfl rfl rfl rfl rfl rfl rfl rfl

theorem prep22 (c : Dev nD) : Row (V m c main_v103 : FVec Ideal S1x128 .f32) 32
    (vec (m ((c : Thread nD τ).loc main_arg20) : FVec Ideal S32 .f32)) := by
  unfold V
  after_results_simp
  exact Row.tile _

theorem prep23 (c : Dev nD) : Bd (V m c main_v109 : FVec Ideal S128x320 .f32) 32 80
    (mat (m ((c : Thread nD τ).loc main_arg21) : FVec Ideal S80x80 .f32)) := by
  unfold V
  after_results_simp
  exact Bd.laid (mat_top _ _) rfl rfl rfl rfl rfl rfl rfl rfl

theorem prep24 (c : Dev nD) : Bd (V m c main_v115 : FVec Ideal S128x320 .f32) 32 80
    (fun k n => mat (m ((c : Thread nD τ).loc main_arg21) : FVec Ideal S80x80 .f32) (32 + k) n) := by
  unfold V
  after_results_simp
  exact Bd.laid (mat_rows 32 _ _) rfl rfl rfl rfl rfl rfl rfl rfl

theorem prep25 (c : Dev nD) : Bd (V m c main_v121 : FVec Ideal S64x320 .f32) 16 80
    (fun k n => mat (m ((c : Thread nD τ).loc main_arg21) : FVec Ideal S80x80 .f32) (64 + k) n) := by
  unfold V
  after_results_simp
  exact Bd.laid (mat_rows 64 _ _) rfl rfl rfl rfl rfl rfl rfl rfl

theorem prep26 (c : Dev nD) : Row (V m c main_v125 : FVec Ideal S1x320 .f32) 80
    (vec (m ((c : Thread nD τ).loc main_arg22) : FVec Ideal S80 .f32)) := by
  unfold V
  after_results_simp
  exact Row.tile _

theorem prep27 (c : Dev nD) : Bd (V m c main_v130 : FVec Ideal S320x128 .f32) 80 32
    (mat (m ((c : Thread nD τ).loc main_arg23) : FVec Ideal S80x32 .f32)) := by
  unfold V
  after_results_simp
  exact Bd.laid (mat_apply _) rfl rfl rfl rfl rfl rfl rfl rfl

theorem prep28 (c : Dev nD) : Row (V m c main_v134 : FVec Ideal S1x128 .f32) 32
    (vec (m ((c : Thread nD τ).loc main_arg24) : FVec Ideal S32 .f32)) := by
  unfold V
  after_results_simp
  exact Row.tile _

theorem prep29 (c : Dev nD) : Bd (V m c main_v139 : FVec Ideal S128x128 .f32) 32 32
    (mat (m ((c : Thread nD τ).loc main_arg25) : FVec Ideal S32x32 .f32)) := by
  unfold V
  after_results_simp
  exact Bd.laid (mat_apply _) rfl rfl rfl rfl rfl rfl rfl rfl

theorem prep30 (c : Dev nD) : Row (V m c main_v143 : FVec Ideal S1x128 .f32) 32
    (vec (m ((c : Thread nD τ).loc main_arg26) : FVec Ideal S32 .f32)) := by
  unfold V
  after_results_simp
  exact Row.tile _

end Tree
-- ==== Proof.Ideal.Windows.lean ====
/-
  THE WEIGHT WINDOWS: every grid point finds every weight array whole, so what the kernel computes of is the launch's
  weights, laid along the diagonal.
-/
module

public import proofs.«01_k».proof.Proof.Ideal.Weights

@[expose] public section

set_option maxRecDepth 16384
set_option maxHeartbeats 4000000

noncomputable section

namespace Tree

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-! ## Each window's block is its array -/

/-- The weights' windows stay at block zero. -/
theorem at_first : ∀ k : Fin 32, k ≠ 0 → k ≠ 31 → ∀ (t : Fin cfg0.N) (a : Fin (cfg0.win k).shape.rank), (cfg0.win k).index t a = 0 :=
  (by decide +kernel : ∀ k : Fin 32, k ≠ 0 → k ≠ 31 → ∀ (t : Fin grid0.N) (a : Fin (cfg0.win k).shape.rank), (cfg0.win k).index t a = 0)

/-- So a place of such a window's block is the array's place of the same coordinates. -/
theorem at_place (k : Fin 32) (t : Fin cfg0.N) (y : ((cfg0.win k).xblock (cfg0.grid.coords t)).Idx) (a : Fin (cfg0.win k).shape.rank)
    (h0 : k ≠ 0 := by decide) (h31 : k ≠ 31 := by decide) : (((cfg0.win k).rect t).emb y a : ℕ) = y a :=
  (cfg0.win k).rect_emb_val_of_index_zero t a (at_first k h0 h31 t a) y

theorem whole1 (t : Fin cfg0.N) (X : Vec Ideal S128x128 .f32) : ((cfg0.win 1).blk t).view.read (Elt Ideal) X = X :=
  funext fun j => congrArg X (funext fun a => Fin.ext (at_place 1 t j a))

theorem whole2 (t : Fin cfg0.N) (X : Vec Ideal S1x128 .f32) : ((cfg0.win 2).blk t).view.read (Elt Ideal) X = X :=
  funext fun j => congrArg X (funext fun a => Fin.ext (at_place 2 t j a))

theorem whole3 (t : Fin cfg0.N) (X : Vec Ideal S128x64 .f32) : ((cfg0.win 3).blk t).view.read (Elt Ideal) X = X :=
  funext fun j => congrArg X (funext fun a => Fin.ext (at_place 3 t j a))

theorem whole4 (t : Fin cfg0.N) (X : Vec Ideal S1x64 .f32) : ((cfg0.win 4).blk t).view.read (Elt Ideal) X = X :=
  funext fun j => congrArg X (funext fun a => Fin.ext (at_place 4 t j a))

theorem whole5 (t : Fin cfg0.N) (X : Vec Ideal S64x64 .f32) : ((cfg0.win 5).blk t).view.read (Elt Ideal) X = X :=
  funext fun j => congrArg X (funext fun a => Fin.ext (at_place 5 t j a))

theorem whole6 (t : Fin cfg0.N) (X : Vec Ideal S1x64 .f32) : ((cfg0.win 6).blk t).view.read (Elt Ideal) X = X :=
  funext fun j => congrArg X (funext fun a => Fin.ext (at_place 6 t j a))

theorem whole7 (t : Fin cfg0.N) (X : Vec Ideal S64x64 .f32) : ((cfg0.win 7).blk t).view.read (Elt Ideal) X = X :=
  funext fun j => congrArg X (funext fun a => Fin.ext (at_place 7 t j a))

theorem whole8 (t : Fin cfg0.N) (X : Vec Ideal S1x64 .f32) : ((cfg0.win 8).blk t).view.read (Elt Ideal) X = X :=
  funext fun j => congrArg X (funext fun a => Fin.ext (at_place 8 t j a))

theorem whole9 (t : Fin cfg0.N) (X : Vec Ideal S128x256 .f32) : ((cfg0.win 9).blk t).view.read (Elt Ideal) X = X :=
  funext fun j => congrArg X (funext fun a => Fin.ext (at_place 9 t j a))

theorem whole10 (t : Fin cfg0.N) (X : Vec Ideal S64x256 .f32) : ((cfg0.win 10).blk t).view.read (Elt Ideal) X = X :=
  funext fun j => congrArg X (funext fun a => Fin.ext (at_place 10 t j a))

theorem whole11 (t : Fin cfg0.N) (X : Vec Ideal S1x256 .f32) : ((cfg0.win 11).blk t).view.read (Elt Ideal) X = X :=
  funext fun j => congrArg X (funext fun a => Fin.ext (at_place 11 t j a))

theorem whole12 (t : Fin cfg0.N) (X : Vec Ideal S256x256 .f32) : ((cfg0.win 12).blk t).view.read (Elt Ideal) X = X :=
  funext fun j => congrArg X (funext fun a => Fin.ext (at_place 12 t j a))

theorem whole13 (t : Fin cfg0.N) (X : Vec Ideal S1x256 .f32) : ((cfg0.win 13).blk t).view.read (Elt Ideal) X = X :=
  funext fun j => congrArg X (funext fun a => Fin.ext (at_place 13 t j a))

theorem whole14 (t : Fin cfg0.N) (X : Vec Ideal S256x256 .f32) : ((cfg0.win 14).blk t).view.read (Elt Ideal) X = X :=
  funext fun j => congrArg X (funext fun a => Fin.ext (at_place 14 t j a))

theorem whole15 (t : Fin cfg0.N) (X : Vec Ideal S1x256 .f32) : ((cfg0.win 15).blk t).view.read (Elt Ideal) X = X :=
  funext fun j => congrArg X (funext fun a => Fin.ext (at_place 15 t j a))

theorem whole16 (t : Fin cfg0.N) (X : Vec Ideal S128x128 .f32) : ((cfg0.win 16).blk t).view.read (Elt Ideal) X = X :=
  funext fun j => congrArg X (funext fun a => Fin.ext (at_place 16 t j a))

theorem whole17 (t : Fin cfg0.N) (X : Vec Ideal S64x128 .f32) : ((cfg0.win 17).blk t).view.read (Elt Ideal) X = X :=
  funext fun j => congrArg X (funext fun a => Fin.ext (at_place 17 t j a))

theorem whole18 (t : Fin cfg0.N) (X : Vec Ideal S1x128 .f32) : ((cfg0.win 18).blk t).view.read (Elt Ideal) X = X :=
  funext fun j => congrArg X (funext fun a => Fin.ext (at_place 18 t j a))

theorem whole19 (t : Fin cfg0.N) (X : Vec Ideal S128x128 .f32) : ((cfg0.win 19).blk t).view.read (Elt Ideal) X = X :=
  funext fun j => congrArg X (funext fun a => Fin.ext (at_place 19 t j a))

theorem whole20 (t : Fin cfg0.N) (X : Vec Ideal S1x128 .f32) : ((cfg0.win 20).blk t).view.read (Elt Ideal) X = X :=
  funext fun j => congrArg X (funext fun a => Fin.ext (at_place 20 t j a))

theorem whole21 (t : Fin cfg0.N) (X : Vec Ideal S128x128 .f32) : ((cfg0.win 21).blk t).view.read (Elt Ideal) X = X :=
  funext fun j => congrArg X (funext fun a => Fin.ext (at_place 21 t j a))

theorem whole22 (t : Fin cfg0.N) (X : Vec Ideal S1x128 .f32) : ((cfg0.win 22).blk t).view.read (Elt Ideal) X = X :=
  funext fun j => congrArg X (funext fun a => Fin.ext (at_place 22 t j a))

theorem whole23 (t : Fin cfg0.N) (X : Vec Ideal S128x320 .f32) : ((cfg0.win 23).blk t).view.read (Elt Ideal) X = X :=
  funext fun j => congrArg X (funext fun a => Fin.ext (at_place 23 t j a))

theorem whole24 (t : Fin cfg0.N) (X : Vec Ideal S128x320 .f32) : ((cfg0.win 24).blk t).view.read (Elt Ideal) X = X :=
  funext fun j => congrArg X (funext fun a => Fin.ext (at_place 24 t j a))

theorem whole25 (t : Fin cfg0.N) (X : Vec Ideal S64x320 .f32) : ((cfg0.win 25).blk t).view.read (Elt Ideal) X = X :=
  funext fun j => congrArg X (funext fun a => Fin.ext (at_place 25 t j a))

theorem whole26 (t : Fin cfg0.N) (X : Vec Ideal S1x320 .f32) : ((cfg0.win 26).blk t).view.read (Elt Ideal) X = X :=
  funext fun j => congrArg X (funext fun a => Fin.ext (at_place 26 t j a))

theorem whole27 (t : Fin cfg0.N) (X : Vec Ideal S320x128 .f32) : ((cfg0.win 27).blk t).view.read (Elt Ideal) X = X :=
  funext fun j => congrArg X (funext fun a => Fin.ext (at_place 27 t j a))

theorem whole28 (t : Fin cfg0.N) (X : Vec Ideal S1x128 .f32) : ((cfg0.win 28).blk t).view.read (Elt Ideal) X = X :=
  funext fun j => congrArg X (funext fun a => Fin.ext (at_place 28 t j a))

theorem whole29 (t : Fin cfg0.N) (X : Vec Ideal S128x128 .f32) : ((cfg0.win 29).blk t).view.read (Elt Ideal) X = X :=
  funext fun j => congrArg X (funext fun a => Fin.ext (at_place 29 t j a))

theorem whole30 (t : Fin cfg0.N) (X : Vec Ideal S1x128 .f32) : ((cfg0.win 30).blk t).view.read (Elt Ideal) X = X :=
  funext fun j => congrArg X (funext fun a => Fin.ext (at_place 30 t j a))

theorem blk1 (c : Dev nD) (t : Fin cfg0.N) : iblk m c 1 t = V m c main_v4 := whole1 t (V m c main_v4)

theorem blk2 (c : Dev nD) (t : Fin cfg0.N) : iblk m c 2 t = V m c main_v8 := whole2 t (V m c main_v8)

theorem blk3 (c : Dev nD) (t : Fin cfg0.N) : iblk m c 3 t = V m c main_v13 := whole3 t (V m c main_v13)

theorem blk4 (c : Dev nD) (t : Fin cfg0.N) : iblk m c 4 t = V m c main_v17 := whole4 t (V m c main_v17)

theorem blk5 (c : Dev nD) (t : Fin cfg0.N) : iblk m c 5 t = V m c main_v22 := whole5 t (V m c main_v22)

theorem blk6 (c : Dev nD) (t : Fin cfg0.N) : iblk m c 6 t = V m c main_v26 := whole6 t (V m c main_v26)

theorem blk7 (c : Dev nD) (t : Fin cfg0.N) : iblk m c 7 t = V m c main_v31 := whole7 t (V m c main_v31)

theorem blk8 (c : Dev nD) (t : Fin cfg0.N) : iblk m c 8 t = V m c main_v35 := whole8 t (V m c main_v35)

theorem blk9 (c : Dev nD) (t : Fin cfg0.N) : iblk m c 9 t = V m c main_v41 := whole9 t (V m c main_v41)

theorem blk10 (c : Dev nD) (t : Fin cfg0.N) : iblk m c 10 t = V m c main_v47 := whole10 t (V m c main_v47)

theorem blk11 (c : Dev nD) (t : Fin cfg0.N) : iblk m c 11 t = V m c main_v51 := whole11 t (V m c main_v51)

theorem blk12 (c : Dev nD) (t : Fin cfg0.N) : iblk m c 12 t = V m c main_v56 := whole12 t (V m c main_v56)

theorem blk13 (c : Dev nD) (t : Fin cfg0.N) : iblk m c 13 t = V m c main_v60 := whole13 t (V m c main_v60)

theorem blk14 (c : Dev nD) (t : Fin cfg0.N) : iblk m c 14 t = V m c main_v65 := whole14 t (V m c main_v65)

theorem blk15 (c : Dev nD) (t : Fin cfg0.N) : iblk m c 15 t = V m c main_v69 := whole15 t (V m c main_v69)

theorem blk16 (c : Dev nD) (t : Fin cfg0.N) : iblk m c 16 t = V m c main_v75 := whole16 t (V m c main_v75)

theorem blk17 (c : Dev nD) (t : Fin cfg0.N) : iblk m c 17 t = V m c main_v81 := whole17 t (V m c main_v81)

theorem blk18 (c : Dev nD) (t : Fin cfg0.N) : iblk m c 18 t = V m c main_v85 := whole18 t (V m c main_v85)

theorem blk19 (c : Dev nD) (t : Fin cfg0.N) : iblk m c 19 t = V m c main_v90 := whole19 t (V m c main_v90)

theorem blk20 (c : Dev nD) (t : Fin cfg0.N) : iblk m c 20 t = V m c main_v94 := whole20 t (V m c main_v94)

theorem blk21 (c : Dev nD) (t : Fin cfg0.N) : iblk m c 21 t = V m c main_v99 := whole21 t (V m c main_v99)

theorem blk22 (c : Dev nD) (t : Fin cfg0.N) : iblk m c 22 t = V m c main_v103 := whole22 t (V m c main_v103)

theorem blk23 (c : Dev nD) (t : Fin cfg0.N) : iblk m c 23 t = V m c main_v109 := whole23 t (V m c main_v109)

theorem blk24 (c : Dev nD) (t : Fin cfg0.N) : iblk m c 24 t = V m c main_v115 := whole24 t (V m c main_v115)

theorem blk25 (c : Dev nD) (t : Fin cfg0.N) : iblk m c 25 t = V m c main_v121 := whole25 t (V m c main_v121)

theorem blk26 (c : Dev nD) (t : Fin cfg0.N) : iblk m c 26 t = V m c main_v125 := whole26 t (V m c main_v125)

theorem blk27 (c : Dev nD) (t : Fin cfg0.N) : iblk m c 27 t = V m c main_v130 := whole27 t (V m c main_v130)

theorem blk28 (c : Dev nD) (t : Fin cfg0.N) : iblk m c 28 t = V m c main_v134 := whole28 t (V m c main_v134)

theorem blk29 (c : Dev nD) (t : Fin cfg0.N) : iblk m c 29 t = V m c main_v139 := whole29 t (V m c main_v139)

theorem blk30 (c : Dev nD) (t : Fin cfg0.N) : iblk m c 30 t = V m c main_v143 := whole30 t (V m c main_v143)

/-- The launch's weights. -/
def launched (c : Dev nD) : Wts :=
  wts (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))

/-- The thirty arrays of weights, as every grid point finds them. -/
def arrs (c : Dev nD) : Arr :=
  ⟨V m c main_v4, V m c main_v8, V m c main_v13, V m c main_v17, V m c main_v22, V m c main_v26, V m c main_v31, V m c main_v35, V m c main_v41, V m c main_v47, V m c main_v51, V m c main_v56, V m c main_v60, V m c main_v65, V m c main_v69, V m c main_v75, V m c main_v81, V m c main_v85, V m c main_v90, V m c main_v94, V m c main_v99, V m c main_v103, V m c main_v109, V m c main_v115, V m c main_v121, V m c main_v125, V m c main_v130, V m c main_v134, V m c main_v139, V m c main_v143⟩

theorem arrs_good (c : Dev nD) : Good (arrs m c) (launched m c) where
  v1 := by dsimp only [arrs, launched, wts]; exact prep1 m c
  v3 := by dsimp only [arrs, launched, wts]; exact prep2 m c
  v5 := by dsimp only [arrs, launched, wts]; exact prep3 m c
  v7 := by dsimp only [arrs, launched, wts]; exact prep4 m c
  v9 := by dsimp only [arrs, launched, wts]; exact prep5 m c
  v11 := by dsimp only [arrs, launched, wts]; exact prep6 m c
  v13 := by dsimp only [arrs, launched, wts]; exact prep7 m c
  v15 := by dsimp only [arrs, launched, wts]; exact prep8 m c
  v17 := by dsimp only [arrs, launched, wts]; exact prep9 m c
  v19 := by dsimp only [arrs, launched, wts]; exact prep10 m c
  v21 := by dsimp only [arrs, launched, wts]; exact prep11 m c
  v23 := by dsimp only [arrs, launched, wts]; exact prep12 m c
  v25 := by dsimp only [arrs, launched, wts]; exact prep13 m c
  v27 := by dsimp only [arrs, launched, wts]; exact prep14 m c
  v29 := by dsimp only [arrs, launched, wts]; exact prep15 m c
  v31 := by dsimp only [arrs, launched, wts]; exact prep16 m c
  v33 := by dsimp only [arrs, launched, wts]; exact prep17 m c
  v35 := by dsimp only [arrs, launched, wts]; exact prep18 m c
  v37 := by dsimp only [arrs, launched, wts]; exact prep19 m c
  v39 := by dsimp only [arrs, launched, wts]; exact prep20 m c
  v41 := by dsimp only [arrs, launched, wts]; exact prep21 m c
  v43 := by dsimp only [arrs, launched, wts]; exact prep22 m c
  v45 := by dsimp only [arrs, launched, wts]; exact prep23 m c
  v47 := by dsimp only [arrs, launched, wts]; exact prep24 m c
  v49 := by dsimp only [arrs, launched, wts]; exact prep25 m c
  v51 := by dsimp only [arrs, launched, wts]; exact prep26 m c
  v53 := by dsimp only [arrs, launched, wts]; exact prep27 m c
  v55 := by dsimp only [arrs, launched, wts]; exact prep28 m c
  v57 := by dsimp only [arrs, launched, wts]; exact prep29 m c
  v59 := by dsimp only [arrs, launched, wts]; exact prep30 m c

end Tree
-- ==== Proof.Value.lean ====
/-
  THE VALUE BOTH PROGRAMS COMPUTE, as one function of the weights and the roots' features, and the factors of the means.
-/
module

public import proofs.«01_k».proof.Proof.Prep
public import proofs.«01_k».proof.Proof.Chain
public import Idealize.ShloMosaic.Lib.IdealHost

@[expose] public section

noncomputable section

namespace Tree

open Idealize.ShloMosaic Cert.KernelIdeal Cert.KernelIdeal.Gen

/-- Row `e`, column `4 v + f`: feature `f` of node `v` of event `e`'s tree after five steps. -/
def treeOf (W : Wts) (a : FVec Ideal ⟨2, ![10000, 32]⟩ .f32) : FVec Ideal ⟨2, ![10000, 252]⟩ .f32 :=
  fun i => tree W kc (mat a (i 0).val) 5 ((i 1).val / 4) ((i 1).val % 4)

/-- Dividing by a number is multiplying by its inverse. -/
theorem div_inv {r : ℝ} (h : r ≠ 0) {a c : EReal} (ha : a = (r : EReal)) (hc : c = ((r⁻¹ : ℝ) : EReal)) (y : EReal) :
    Ideal.div y a = y * c := by
  subst ha hc
  rw [Ideal.div, if_neg (by exact_mod_cast h), EReal.coe_inv]

theorem ofBits_three : Ideal.ofBits .f32 0x40400000#32 = ((3 : ℝ) : EReal) := by
  simp [Ideal.ofBits, Ideal.ieee, -EReal.coe_mul]; norm_num

theorem ofBits_seven : Ideal.ofBits .f32 0x40E00000#32 = ((7 : ℝ) : EReal) := by
  simp [Ideal.ofBits, Ideal.ieee, -EReal.coe_mul]; norm_num

theorem ofBits_fifteen : Ideal.ofBits .f32 0x41700000#32 = ((15 : ℝ) : EReal) := by
  simp [Ideal.ofBits, Ideal.ieee, -EReal.coe_mul]; norm_num

theorem ofBits_thirtyone : Ideal.ofBits .f32 0x41F80000#32 = ((31 : ℝ) : EReal) := by
  simp [Ideal.ofBits, Ideal.ieee, -EReal.coe_mul]; norm_num

theorem mean0 (y : EReal) : Ideal.div y (Ideal.ofBits .f32 0x3F800000#32) = y * kc 0 :=
  div_inv (one_ne_zero (α := ℝ)) (Ideal.ofBits_one_f32.trans EReal.coe_one.symm)
    ((show kc 0 = 1 from Ideal.ofBits_one_f32).trans (by rw [inv_one, EReal.coe_one])) y

theorem mean1 (y : EReal) : Ideal.div y (Ideal.ofBits .f32 0x40400000#32) = y * kc 1 :=
  div_inv (by norm_num : (3 : ℝ) ≠ 0) ofBits_three rfl y

theorem mean2 (y : EReal) : Ideal.div y (Ideal.ofBits .f32 0x40E00000#32) = y * kc 2 :=
  div_inv (by norm_num : (7 : ℝ) ≠ 0) ofBits_seven rfl y

theorem mean3 (y : EReal) : Ideal.div y (Ideal.ofBits .f32 0x41700000#32) = y * kc 3 :=
  div_inv (by norm_num : (15 : ℝ) ≠ 0) ofBits_fifteen rfl y

theorem mean4 (y : EReal) : Ideal.div y (Ideal.ofBits .f32 0x41F80000#32) = y * kc 4 :=
  div_inv (by norm_num : (31 : ℝ) ≠ 0) ofBits_thirtyone rfl y

/-- An array that holds the trees' features is the value. -/
theorem eq_treeOf {W : Wts} {a : FVec Ideal ⟨2, ![10000, 32]⟩ .f32} {y : FVec Ideal ⟨2, ![10000, 252]⟩ .f32}
    (h : ∀ (e : Fin 10000) (j : Fin 252), y (ix2 e j) = tree W kc (mat a e.val) 5 (j.val / 4) (j.val % 4)) : y = treeOf W a :=
  funext fun i => (congrArg y (eq_ix2 i)).trans (h (i 0) (i 1))

end Tree
-- ==== Proof.Ideal.Value.lean ====
/-
  THE KERNEL'S RESULT: every grid point writes the trees of its 400 events, the 25 points cover the 10000 events, so the
  result array is `treeOf` of the launch's weights and roots.
-/
module

public import proofs.«01_k».proof.Proof.Ideal.Block
public import proofs.«01_k».proof.Proof.Ideal.Blocks
public import proofs.«01_k».proof.Proof.Ideal.Windows
public import proofs.«01_k».proof.Proof.Value

@[expose] public section

set_option maxRecDepth 16384
set_option maxHeartbeats 4000000

noncomputable section

namespace Tree

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Grid point `t` takes the roots' and writes the result's block `t` along the events. -/
theorem idx_rows : ∀ t : Fin cfg0.N, win0_0.index t (0 : Fin 2) = t.val ∧ win0_0.index t (1 : Fin 2) = 0 ∧
    win0_31.index t (0 : Fin 2) = t.val ∧ win0_31.index t (1 : Fin 2) = 0 :=
  (by decide +kernel : ∀ t : Fin grid0.N, _)

/-- Event `e` of block `t`, among all events. -/
def row (t : Fin cfg0.N) (e : Fin 400) : Fin 10000 :=
  ⟨t.val * 400 + e.val, by have := t.isLt; have h : cfg0.N = 25 := rfl; have := e.isLt; omega⟩

/-- Block `t` of the roots, read through its window. -/
theorem read0 (t : Fin cfg0.N) (X : Vec Ideal S10000x32 .f32) (e : Fin 400) (f : Fin 32) :
    (((cfg0.win 0).blk t).view.read (Elt Ideal) X : FVec Ideal S400x32 .f32) (ix2 e f) = X (ix2 (row t e) f) := by
  obtain ⟨e0, e1, _⟩ := idx_rows t
  refine congrArg X (funext fun a => Fin.ext ?_)
  match a with
  | ⟨0, _⟩ => show win0_0.index t (0 : Fin 2) * 400 + 1 * e.val = t.val * 400 + e.val; omega
  | ⟨1, _⟩ => show win0_0.index t (1 : Fin 2) * 32 + 1 * f.val = f.val; omega

theorem iblk0 (c : Dev nD) (t : Fin cfg0.N) :
    iblk m c 0 t = ((cfg0.win 0).blk t).view.read (Elt Ideal) (m ((c : Thread nD τ).loc main_arg0)) :=
  congrArg (((cfg0.win 0).blk t).view.read (Elt Ideal)) (V_main_arg0 m c)

/-- A place of block `t` of the result, among all places. -/
theorem emb31 (t : Fin cfg0.N) (e : Fin 400) (j : Fin 252) :
    ((cfg0.win 31).blk t).view.emb (ix2 e j : S400x252.Idx) = (ix2 (row t e) j : S10000x252.Idx) := by
  obtain ⟨_, _, e0, e1⟩ := idx_rows t
  refine funext fun a => Fin.ext ?_
  match a with
  | ⟨0, _⟩ => show win0_31.index t (0 : Fin 2) * 400 + 1 * e.val = t.val * 400 + e.val; omega
  | ⟨1, _⟩ => show win0_31.index t (1 : Fin 2) * 252 + 1 * j.val = j.val; omega

/-- The trees of a block of events are that block of the value. -/
theorem block_rows {A : Arr} {W : Wts} (hA : Good A W) (t : Fin cfg0.N) (X : Vec Ideal S10000x32 .f32) :
    (cfg0.win 31).cut (grid0.coords t) (block A (((cfg0.win 0).blk t).view.read (Elt Ideal) X))
      = ((cfg0.win 31).blk t).view.read (Elt Ideal) (treeOf W X) := by
  have hr : Root (((cfg0.win 0).blk t).view.read (Elt Ideal) X) (fun e => mat X (t.val * 400 + e)) := fun e f =>
    (read0 t X e f).trans (mat_apply X (row t e) f)
  have h : ∀ j : S400x252.Idx, block A (((cfg0.win 0).blk t).view.read (Elt Ideal) X) j
      = treeOf W X (((cfg0.win 31).blk t).view.emb j) := fun j =>
    ((congrArg (block A _) (eq_ix2 j)).trans (block_apply hA hr (j 0) (j 1))).trans
      (congrArg (treeOf W X) ((congrArg ((cfg0.win 31).blk t).view.emb (eq_ix2 j)).trans (emb31 t (j 0) (j 1)))).symm
  exact funext h

/-- What the run leaves in the output's staging buffer at point `t`: the block of its events' trees. -/
theorem outs (c : Dev nD) (t : Fin cfg0.N) :
    outsAt0 m c t = block (arrs m c) (((cfg0.win 0).blk t).view.read (Elt Ideal) (m ((c : Thread nD τ).loc main_arg0))) := by
  unfold outsAt0
  rw [out_block, iblk0, blk1, blk2, blk3, blk4, blk5, blk6, blk7, blk8, blk9, blk10, blk11, blk12, blk13, blk14, blk15, blk16, blk17, blk18, blk19, blk20, blk21, blk22, blk23, blk24, blk25, blk26, blk27, blk28, blk29, blk30]
  rfl

/-- What point `t` writes back is its block of the value. -/
theorem flushed_eq (c : Dev nD) (t : Fin cfg0.N) :
    (dats m 0 c).flushed 31 t
      = ((cfg0.win 31).blk t).view.read (Elt Ideal) (treeOf (launched m c) (m ((c : Thread nD τ).loc main_arg0))) := by
  rw [Cert.KernelIdeal.Value.flushed31, outs]
  exact block_rows (arrs_good m c) t _

/-- Every place of the result is in some point's block. -/
theorem covered (i : S10000x252.Idx) :
    ∃ t : Fin cfg0.N, (cfg0.win 31).flush t = true ∧ i ∈ ((cfg0.win 31).blk t).view.set := by
  have hi : (i 0).val < 10000 := (i 0).isLt
  have hq : (i 0).val / 400 < cfg0.N := by show _ < 25; omega
  refine ⟨⟨(i 0).val / 400, hq⟩, flush0_31 _, ?_⟩
  have h := ((cfg0.win 31).blk ⟨(i 0).val / 400, hq⟩).view.emb_mem_set
    (ix2 (⟨(i 0).val % 400, by omega⟩ : Fin 400) (i 1) : S400x252.Idx)
  refine Eq.mp (congrArg (· ∈ ((cfg0.win 31).blk ⟨(i 0).val / 400, hq⟩).view.set) ((emb31 _ _ _).trans ?_)) h
  refine (congrArg (fun r : Fin 10000 => (ix2 r (i 1) : S10000x252.Idx)) (Fin.ext ?_)).trans (eq_ix2 i).symm
  show (i 0).val / 400 * 400 + (i 0).val % 400 = (i 0).val
  omega

/-- The result array after the run. -/
theorem final (c : Dev nD) :
    (dats m 0 c).arrAt 31 cfg0.N = treeOf (launched m c) (m ((c : Thread nD τ).loc main_arg0)) :=
  (dats m 0 c).arrAt_eq_of_cover 31 (treeOf (launched m c) (m ((c : Thread nD τ).loc main_arg0)))
    (fun t _ => flushed_eq m c t) covered

/-- THE KERNEL'S RUN: it ends with the trees' features in its result, and its arguments as they were. -/
theorem ker_run : θ_run defs (onTc (τ := τ) (main (F := Ideal))) ⟨m, fun _ => 0, ρ⟩ fun r => ∀ c : Dev nD,
      r.2.mem ((c : Thread nD τ).loc main_v144) = treeOf (launched m c) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨(h c).1.trans (final m c), (h c).2⟩) (Cert.KernelIdeal.Value.run_blocks m ρ)

end Tree
-- ==== Proof.Host.lean ====
/-
  EVENT-MAJOR ARRAYS. The reference keeps the events, the nodes and the features on axes of their own. This file says what
  it means for such an array to hold a family of values and which family each of the reference's operations leaves.
-/
module

public import proofs.«01_k».proof.Proof.Prep
public import Idealize.ShloMosaic.Lib.StackMember

@[expose] public section

noncomputable section

open scoped BigOperators

namespace Tree

open Idealize.ShloMosaic
open Idealize.ShloMosaic.ValueIdx (contrEquiv1 contrEquiv1_symm_val)
open Idealize.ShloMosaic.StackMember (dotGeneral_plain_apply)

/-- Place `(e, v, f)` of the array holds the value of event `e`, node `v`, feature `f`. -/
def Ev {E n F : ℕ} (a : FVec Ideal ⟨3, ![E, n, F]⟩ .f32) (X : Fam) : Prop :=
  ∀ (e : Fin E) (v : Fin n) (f : Fin F), a (ix3 e v f) = X e.val v.val f.val

/-- Place `(e, f)` of the array holds feature `f` of event `e`. -/
def Gl {E F : ℕ} (a : FVec Ideal ⟨2, ![E, F]⟩ .f32) (G : ℕ → Ft) : Prop :=
  ∀ (e : Fin E) (f : Fin F), a (ix2 e f) = G e.val f.val

theorem Ev.congr {E n F : ℕ} {a : FVec Ideal ⟨3, ![E, n, F]⟩ .f32} {X Y : Fam} (h : Ev a X)
    (hXY : ∀ e v f, v < n → f < F → X e v f = Y e v f) : Ev a Y := fun e v f => by
  rw [h e v f]; exact hXY _ _ _ v.isLt f.isLt

/-- A product over the last axis, read at an index. -/
theorem dot3_apply {E n K N : ℕ}
    (wf : DotDims.WF ⟨3, ![E, n, K]⟩ ⟨2, ![K, N]⟩ ⟨3, ![E, n, N]⟩ [2] [0] [0, 1] [1] [] [])
    (prec : Option ContractPrecision) (x : FVec Ideal ⟨3, ![E, n, K]⟩ .f32) (w : FVec Ideal ⟨2, ![K, N]⟩ .f32)
    (e : Fin E) (v : Fin n) (f : Fin N) :
    Host.dotGeneral (⟨[2], [0], [0, 1], [1], [], [], wf⟩ : DotDims _ _ _) prec x w (ix3 e v f)
      = ∑ k : Fin K, x (ix3 e v k) * w (ix2 k f) := by
  show FloatOps.dotGeneral _ prec _ x w (ix3 e v f) = _
  rw [Ideal.dotGeneral_apply,
    ← Equiv.sum_comp (contrEquiv1 (⟨[2], [0], [0, 1], [1], [], [], wf⟩ : DotDims _ _ _) K rfl rfl).symm]
  refine Finset.sum_congr rfl fun k _ => ?_
  have hk := contrEquiv1_symm_val
    (⟨[2], [0], [0, 1], [1], [], [], wf⟩ : DotDims ⟨3, ![E, n, K]⟩ ⟨2, ![K, N]⟩ ⟨3, ![E, n, N]⟩) K rfl rfl k
  have hl : (⟨[2], [0], [0, 1], [1], [], [], wf⟩ : DotDims ⟨3, ![E, n, K]⟩ ⟨2, ![K, N]⟩ ⟨3, ![E, n, N]⟩).lhsIdx (ix3 e v f)
      ((contrEquiv1 _ K rfl rfl).symm k) = ix3 e v k := by
    funext a; apply Fin.ext
    match a with
    | ⟨0, _⟩ => rfl
    | ⟨1, _⟩ => rfl
    | ⟨2, _⟩ => exact hk
  have hr : (⟨[2], [0], [0, 1], [1], [], [], wf⟩ : DotDims ⟨3, ![E, n, K]⟩ ⟨2, ![K, N]⟩ ⟨3, ![E, n, N]⟩).rhsIdx (ix3 e v f)
      ((contrEquiv1 _ K rfl rfl).symm k) = ix2 k f := by
    funext a; apply Fin.ext
    match a with
    | ⟨0, _⟩ => exact hk
    | ⟨1, _⟩ => rfl
  rw [hl, hr]

/-- A scalar zero, repeated. -/
theorem zero_apply {s : Shape} {h : (⟨0, ![]⟩ : Shape).BroadcastsInDim s ![]} (i : s.Idx) :
    broadcastInDim s ![] h (constant (F := Ideal) ⟨0, ![]⟩ .f32 0x00000000#32) i = (0 : EReal) := Ideal.ofBits_zero_f32

/-- A bias, repeated for every node of every event. -/
theorem bias3_apply {E n N : ℕ} {b : FVec Ideal ⟨1, ![N]⟩ .f32}
    {h1 : (⟨1, ![N]⟩ : Shape).BroadcastsInDim ⟨3, ![1, 1, N]⟩ ![2]}
    {h2 : (⟨3, ![1, 1, N]⟩ : Shape).BroadcastsInDim ⟨3, ![E, n, N]⟩ ![0, 1, 2]} (e : Fin E) (v : Fin n) (f : Fin N) :
    broadcastInDim ⟨3, ![E, n, N]⟩ ![0, 1, 2] h2 (broadcastInDim ⟨3, ![1, 1, N]⟩ ![2] h1 b) (ix3 e v f) = vec b f.val := by
  rw [broadcastInDim_apply _ h2 _ (ix3 e v f) (ix3 0 0 f), broadcastInDim_apply _ h1 _ (ix3 0 0 f) (ix1 f), vec_apply b f]
  · intro a
    match a with
    | ⟨0, _⟩ => show f.val = if N = 1 then 0 else f.val; have := f.isLt; split_ifs <;> omega
  · intro a
    match a with
    | ⟨0, _⟩ => rfl
    | ⟨1, _⟩ => rfl
    | ⟨2, _⟩ => show f.val = if N = 1 then 0 else f.val; have := f.isLt; split_ifs <;> omega

/-- A bias, repeated for every event. -/
theorem bias2_apply {E N : ℕ} {b : FVec Ideal ⟨1, ![N]⟩ .f32} {h1 : (⟨1, ![N]⟩ : Shape).BroadcastsInDim ⟨2, ![1, N]⟩ ![1]}
    {h2 : (⟨2, ![1, N]⟩ : Shape).BroadcastsInDim ⟨2, ![E, N]⟩ ![0, 1]} (e : Fin E) (f : Fin N) :
    broadcastInDim ⟨2, ![E, N]⟩ ![0, 1] h2 (broadcastInDim ⟨2, ![1, N]⟩ ![1] h1 b) (ix2 e f) = vec b f.val := by
  rw [broadcastInDim_apply _ h2 _ (ix2 e f) (ix2 0 f), broadcastInDim_apply _ h1 _ (ix2 0 f) (ix1 f), vec_apply b f]
  · intro a
    match a with
    | ⟨0, _⟩ => show f.val = if N = 1 then 0 else f.val; have := f.isLt; split_ifs <;> omega
  · intro a
    match a with
    | ⟨0, _⟩ => rfl
    | ⟨1, _⟩ => show f.val = if N = 1 then 0 else f.val; have := f.isLt; split_ifs <;> omega

/-- A layer on every node of every event. -/
theorem Ev.lay {E n K N : ℕ} {x : FVec Ideal ⟨3, ![E, n, K]⟩ .f32} {w : FVec Ideal ⟨2, ![K, N]⟩ .f32}
    {b : FVec Ideal ⟨1, ![N]⟩ .f32} {X : Fam} {prec : Option ContractPrecision}
    {wf : DotDims.WF ⟨3, ![E, n, K]⟩ ⟨2, ![K, N]⟩ ⟨3, ![E, n, N]⟩ [2] [0] [0, 1] [1] [] []}
    {h1 : (⟨1, ![N]⟩ : Shape).BroadcastsInDim ⟨3, ![1, 1, N]⟩ ![2]}
    {h2 : (⟨3, ![1, 1, N]⟩ : Shape).BroadcastsInDim ⟨3, ![E, n, N]⟩ ![0, 1, 2]}
    {h3 : (⟨0, ![]⟩ : Shape).BroadcastsInDim ⟨3, ![E, n, N]⟩ ![]} (hx : Ev x X) :
    Ev (maximumf (addf (Host.dotGeneral (⟨[2], [0], [0, 1], [1], [], [], wf⟩ : DotDims _ _ _) prec x w)
      (broadcastInDim ⟨3, ![E, n, N]⟩ ![0, 1, 2] h2 (broadcastInDim ⟨3, ![1, 1, N]⟩ ![2] h1 b)))
      (broadcastInDim ⟨3, ![E, n, N]⟩ ![] h3 (constant ⟨0, ![]⟩ .f32 0x00000000#32)))
      (fun e v => Tree.lay K (mat w) (vec b) (X e v)) := fun e v f => by
  refine (congrArg₂ max (congrArg₂ (· + ·) (dot3_apply wf prec x w e v f) (bias3_apply e v f)) (zero_apply (ix3 e v f))).trans ?_
  simp only [hx e v, mat_apply w]
  rw [Tree.lay, Finset.sum_range]

/-- A layer on the global features of every event. -/
theorem Gl.lay {E K N : ℕ} {x : FVec Ideal ⟨2, ![E, K]⟩ .f32} {w : FVec Ideal ⟨2, ![K, N]⟩ .f32}
    {b : FVec Ideal ⟨1, ![N]⟩ .f32} {X : ℕ → Ft} {prec : Option ContractPrecision}
    {d : DotDims ⟨2, ![E, K]⟩ ⟨2, ![K, N]⟩ ⟨2, ![E, N]⟩}
    {h1 : (⟨1, ![N]⟩ : Shape).BroadcastsInDim ⟨2, ![1, N]⟩ ![1]}
    {h2 : (⟨2, ![1, N]⟩ : Shape).BroadcastsInDim ⟨2, ![E, N]⟩ ![0, 1]}
    {h3 : (⟨0, ![]⟩ : Shape).BroadcastsInDim ⟨2, ![E, N]⟩ ![]} (hx : Gl x X) (hd : d = DotDims.plain E K N := by rfl) :
    Gl (maximumf (addf (Host.dotGeneral d prec x w)
      (broadcastInDim ⟨2, ![E, N]⟩ ![0, 1] h2 (broadcastInDim ⟨2, ![1, N]⟩ ![1] h1 b)))
      (broadcastInDim ⟨2, ![E, N]⟩ ![] h3 (constant ⟨0, ![]⟩ .f32 0x00000000#32)))
      (fun e => Tree.lay K (mat w) (vec b) (X e)) := fun e f => by
  subst hd
  refine (congrArg₂ max (congrArg₂ (· + ·) (dotGeneral_plain_apply prec x w e f) (bias2_apply e f)) (zero_apply (ix2 e f))).trans ?_
  simp only [← ix2_eq_valueIdx, hx e, mat_apply w]
  rw [Tree.lay, Finset.sum_range]

/-- The mean over the nodes. -/
theorem Ev.mean {E n F : ℕ} {x : FVec Ideal ⟨3, ![E, n, F]⟩ .f32} {X : Fam} {w : BitVec 32} (c : EReal)
    {h : (⟨3, ![E, n, F]⟩ : Shape).ReducesTo [1] ⟨2, ![E, F]⟩} {h0 : 0 < (⟨0, ![]⟩ : Shape).numel}
    {h3 : (⟨0, ![]⟩ : Shape).BroadcastsInDim ⟨2, ![E, F]⟩ ![]} (hx : Ev x X)
    (hc : ∀ y : EReal, Ideal.div y (Ideal.ofBits .f32 w) = y * c) :
    Gl (Host.divf (Host.reduceAdd (F := Ideal) x (constant ⟨0, ![]⟩ .f32 0x00000000#32) h h0)
      (broadcastInDim ⟨2, ![E, F]⟩ ![] h3 (constant ⟨0, ![]⟩ .f32 w)))
      (fun e f => (∑ v ∈ Finset.range n, X e v f) * c) := fun e f => by
  show Ideal.div (Host.reduceAdd (F := Ideal) x (constant ⟨0, ![]⟩ .f32 0x00000000#32) h h0 (ix2 e f)) (Ideal.ofBits .f32 w) = _
  rw [hc, Host.reduceAdd_apply, Ideal.hostReduceAdd_def, Ideal.hostReduceAdd_r3_a1]
  congr 1
  refine (congrArg (· + _) Ideal.ofBits_zero_f32).trans ?_
  rw [zero_add, Finset.sum_range]
  exact Finset.sum_congr rfl fun v _ => hx e v f

/-! ## Layers whose input is several pieces side by side -/

/-- `x`'s first `o` features, then those of `g`. -/
def join (o : ℕ) (x g : Ft) : Ft := fun k => if k < o then x k else g (k - o)

theorem sum_join (o p : ℕ) (x g : Ft) (w : ℕ → EReal) : ∑ k ∈ Finset.range (o + p), join o x g k * w k
    = ∑ k ∈ Finset.range o, x k * w k + ∑ k ∈ Finset.range p, g k * w (o + k) := by
  rw [Finset.sum_range_add]
  congr 1
  · exact Finset.sum_congr rfl fun k hk => by rw [join, if_pos (Finset.mem_range.1 hk)]
  · exact Finset.sum_congr rfl fun k _ => by rw [join, if_neg (by omega), Nat.add_sub_cancel_left]

theorem lay_two (w : ℕ → ℕ → EReal) (b x g : Ft) : lay 48 w b (join 32 x g) = lay2 w b x g := funext fun n => by
  rw [lay, lay2, show (48 : ℕ) = 32 + 16 from rfl, sum_join 32 16 x g fun k => w k n, add_assoc]

theorem lay_three (w : ℕ → ℕ → EReal) (b x a g : Ft) : lay 80 w b (join 64 (join 32 x a) g) = lay3 w b x a g := funext fun n => by
  rw [lay, lay3, show (80 : ℕ) = 64 + 16 from rfl, sum_join 64 16 _ g fun k => w k n, show (64 : ℕ) = 32 + 32 from rfl,
    sum_join 32 32 x a fun k => w k n, add_assoc]

/-- The family read at a position of an event-major array. -/
def atE (E n F : ℕ) (X : Fam) : (⟨3, ![E, n, F]⟩ : Shape).Idx → EReal := fun i => X (i 0).val (i 1).val (i 2).val

/-- One more piece along the features, from feature `o` on. -/
theorem Cat.feat {E n F M : ℕ} (o : ℕ) {q : ℕ} {a : FVec Ideal ⟨3, ![E, n, M]⟩ .f32} {X : Fam}
    {xs : List ((s : Shape) × (s.Idx → EReal))} (ha : Ev a (fun e v f => X e v (o + f)))
    (hx : Cat ⟨3, ![E, n, F]⟩ 2 (atE E n F X) q xs) (hq : q = o + M := by norm_num) :
    Cat ⟨3, ![E, n, F]⟩ 2 (atE E n F X) o (⟨⟨3, ![E, n, M]⟩, a⟩ :: xs) := by
  refine ⟨fun hr i j hb hj => ?_, fun hr => by rw [hq] at hx; exact hx⟩
  have h0 : (i 0).val = (j 0).val := hb 0 (fun h => by have := congrArg Fin.val h; simp at this)
  have h1 : (i 1).val = (j 1).val := hb 1 (fun h => by have := congrArg Fin.val h; simp at this)
  have h2 : o + (i 2).val = (j 2).val := hj
  refine ((congrArg a (eq_ix3 i)).trans (ha (i 0) (i 1) (i 2))).trans ?_
  show X (i 0).val (i 1).val (o + (i 2).val) = X (j 0).val (j 1).val (j 2).val
  rw [h0, h1, h2]

/-- One more piece along the nodes, from node `o` on. -/
theorem Cat.node {E n F M : ℕ} (o : ℕ) {q : ℕ} {a : FVec Ideal ⟨3, ![E, M, F]⟩ .f32} {X : Fam}
    {xs : List ((s : Shape) × (s.Idx → EReal))} (ha : Ev a (fun e v f => X e (o + v) f))
    (hx : Cat ⟨3, ![E, n, F]⟩ 1 (atE E n F X) q xs) (hq : q = o + M := by norm_num) :
    Cat ⟨3, ![E, n, F]⟩ 1 (atE E n F X) o (⟨⟨3, ![E, M, F]⟩, a⟩ :: xs) := by
  refine ⟨fun hr i j hb hj => ?_, fun hr => by rw [hq] at hx; exact hx⟩
  have h0 : (i 0).val = (j 0).val := hb 0 (fun h => by have := congrArg Fin.val h; simp at this)
  have h1 : o + (i 1).val = (j 1).val := hj
  have h2 : (i 2).val = (j 2).val := hb 2 (fun h => by have := congrArg Fin.val h; simp at this)
  refine ((congrArg a (eq_ix3 i)).trans (ha (i 0) (i 1) (i 2))).trans ?_
  show X (i 0).val (o + (i 1).val) (i 2).val = X (j 0).val (j 1).val (j 2).val
  rw [h0, h1, h2]

theorem Cat.ev {E n F : ℕ} {d : Fin 3} {X : Fam} {xs : List ((s : Shape) × (s.Idx → EReal))}
    {h : Shape.Concatenates (xs.map (·.1)) ⟨3, ![E, n, F]⟩ d} (hx : Cat ⟨3, ![E, n, F]⟩ d (atE E n F X) 0 xs) :
    Ev (concatenate ⟨3, ![E, n, F]⟩ d xs h) X := fun e v f => Cat.apply hx (ix3 e v f)

/-- Two pieces side by side. -/
theorem Ev.two {E n o p F : ℕ} {x : FVec Ideal ⟨3, ![E, n, o]⟩ .f32} {g : FVec Ideal ⟨3, ![E, n, p]⟩ .f32} {X Y : Fam}
    {h : Shape.Concatenates [(⟨3, ![E, n, o]⟩ : Shape), ⟨3, ![E, n, p]⟩] ⟨3, ![E, n, F]⟩ 2} (hx : Ev x X) (hg : Ev g Y) :
    Ev (concatenate ⟨3, ![E, n, F]⟩ 2 [⟨⟨3, ![E, n, o]⟩, x⟩, ⟨⟨3, ![E, n, p]⟩, g⟩] h) (fun e v => join o (X e v) (Y e v)) :=
  Cat.ev (xs := [⟨⟨3, ![E, n, o]⟩, x⟩, ⟨⟨3, ![E, n, p]⟩, g⟩]) (Cat.feat (q := o) 0
    (hx.congr fun e v f _ hf => by rw [join, Nat.zero_add, if_pos hf])
    (Cat.feat (q := o + p) o (hg.congr fun e v f _ _ => by rw [join, if_neg (by omega), Nat.add_sub_cancel_left]) Cat.nil rfl)
    (Nat.zero_add o).symm)

/-- Three pieces side by side. -/
theorem Ev.three {E n : ℕ} {x a : FVec Ideal ⟨3, ![E, n, 32]⟩ .f32} {g : FVec Ideal ⟨3, ![E, n, 16]⟩ .f32} {X S Y : Fam}
    {h : Shape.Concatenates [(⟨3, ![E, n, 32]⟩ : Shape), ⟨3, ![E, n, 32]⟩, ⟨3, ![E, n, 16]⟩] ⟨3, ![E, n, 80]⟩ 2}
    (hx : Ev x X) (ha : Ev a S) (hg : Ev g Y) :
    Ev (concatenate ⟨3, ![E, n, 80]⟩ 2 [⟨⟨3, ![E, n, 32]⟩, x⟩, ⟨⟨3, ![E, n, 32]⟩, a⟩, ⟨⟨3, ![E, n, 16]⟩, g⟩] h)
      (fun e v => join 64 (join 32 (X e v) (S e v)) (Y e v)) :=
  Cat.ev (xs := [⟨⟨3, ![E, n, 32]⟩, x⟩, ⟨⟨3, ![E, n, 32]⟩, a⟩, ⟨⟨3, ![E, n, 16]⟩, g⟩]) (Cat.feat (q := 32) 0
    (hx.congr fun e v f _ hf => by rw [join, if_pos (by omega), join, Nat.zero_add, if_pos hf])
    (Cat.feat (q := 64) 32
      (ha.congr fun e v f _ hf => by rw [join, if_pos (by omega), join, if_neg (by omega), Nat.add_sub_cancel_left])
      (Cat.feat (q := 80) 64 (hg.congr fun e v f _ _ => by rw [join, if_neg (by omega), Nat.add_sub_cancel_left]) Cat.nil)))

/-- The global features, for every node. -/
theorem Gl.all {E n F : ℕ} {g : FVec Ideal ⟨2, ![E, F]⟩ .f32} {G : ℕ → Ft}
    {h1 : (⟨2, ![E, F]⟩ : Shape).BroadcastsInDim ⟨3, ![E, 1, F]⟩ ![0, 2]}
    {h2 : (⟨3, ![E, 1, F]⟩ : Shape).BroadcastsInDim ⟨3, ![E, n, F]⟩ ![0, 1, 2]} (hg : Gl g G) :
    Ev (broadcastInDim ⟨3, ![E, n, F]⟩ ![0, 1, 2] h2 (broadcastInDim ⟨3, ![E, 1, F]⟩ ![0, 2] h1 g)) (fun e _ => G e) :=
  fun e v f => by
  rw [broadcastInDim_apply _ h2 _ (ix3 e v f) (ix3 e 0 f), broadcastInDim_apply _ h1 _ (ix3 e 0 f) (ix2 e f), hg e f]
  · intro a
    match a with
    | ⟨0, _⟩ => show e.val = if E = 1 then 0 else e.val; have := e.isLt; split_ifs <;> omega
    | ⟨1, _⟩ => show f.val = if F = 1 then 0 else f.val; have := f.isLt; split_ifs <;> omega
  · intro a
    match a with
    | ⟨0, _⟩ => show e.val = if E = 1 then 0 else e.val; have := e.isLt; split_ifs <;> omega
    | ⟨1, _⟩ => rfl
    | ⟨2, _⟩ => show f.val = if F = 1 then 0 else f.val; have := f.isLt; split_ifs <;> omega

/-- The global features, for the root. -/
theorem Gl.one {E F : ℕ} {g : FVec Ideal ⟨2, ![E, F]⟩ .f32} {G : ℕ → Ft}
    {h1 : (⟨2, ![E, F]⟩ : Shape).BroadcastsInDim ⟨3, ![E, 1, F]⟩ ![0, 2]} (hg : Gl g G) :
    Ev (broadcastInDim ⟨3, ![E, 1, F]⟩ ![0, 2] h1 g) (fun e _ => G e) := fun e v f => by
  rw [broadcastInDim_apply _ h1 _ (ix3 e v f) (ix2 e f), hg e f]
  intro a
  match a with
  | ⟨0, _⟩ => show e.val = if E = 1 then 0 else e.val; have := e.isLt; split_ifs <;> omega
  | ⟨1, _⟩ => show f.val = if F = 1 then 0 else f.val; have := f.isLt; split_ifs <;> omega

/-- Some of the nodes. -/
theorem Ev.slice {E n m F o : ℕ} {a : FVec Ideal ⟨3, ![E, n, F]⟩ .f32} {X : Fam}
    {h : (⟨3, ![E, n, F]⟩ : Shape).Slices ![0, o, 0] ⟨3, ![E, m, F]⟩} (ha : Ev a X) :
    Ev (extractStridedSlice ⟨3, ![E, m, F]⟩ ![0, o, 0] a h) (fun e v f => X e (o + v) f) := fun e v f => by
  have hlt : o + v.val < n := Nat.lt_of_lt_of_le (Nat.add_lt_add_left v.isLt o) (h.2 1)
  rw [extractStridedSlice_apply _ a h (ix3 e v f) (ix3 e ⟨o + v.val, hlt⟩ f), ha]
  intro d
  match d with
  | ⟨0, _⟩ => show e.val = 0 + e.val; omega
  | ⟨1, _⟩ => rfl
  | ⟨2, _⟩ => show f.val = 0 + f.val; omega

/-! ## Networks -/

section
variable {E n : ℕ} {x : FVec Ideal ⟨3, ![E, n, 32]⟩ .f32} {g : FVec Ideal ⟨3, ![E, n, 16]⟩ .f32} {X S : Fam} {G : ℕ → Ft}

/-- The first layer of the branching or message network. -/
theorem Ev.lay2 {N : ℕ} {w : FVec Ideal ⟨2, ![48, N]⟩ .f32} {b : FVec Ideal ⟨1, ![N]⟩ .f32} {prec : Option ContractPrecision}
    {h : Shape.Concatenates [(⟨3, ![E, n, 32]⟩ : Shape), ⟨3, ![E, n, 16]⟩] ⟨3, ![E, n, 48]⟩ 2}
    {wf : DotDims.WF ⟨3, ![E, n, 48]⟩ ⟨2, ![48, N]⟩ ⟨3, ![E, n, N]⟩ [2] [0] [0, 1] [1] [] []}
    {h1 : (⟨1, ![N]⟩ : Shape).BroadcastsInDim ⟨3, ![1, 1, N]⟩ ![2]}
    {h2 : (⟨3, ![1, 1, N]⟩ : Shape).BroadcastsInDim ⟨3, ![E, n, N]⟩ ![0, 1, 2]}
    {h3 : (⟨0, ![]⟩ : Shape).BroadcastsInDim ⟨3, ![E, n, N]⟩ ![]} (hx : Ev x X) (hg : Ev g (fun e _ => G e)) :
    Ev (maximumf (addf (Host.dotGeneral (⟨[2], [0], [0, 1], [1], [], [], wf⟩ : DotDims _ _ _) prec
        (concatenate ⟨3, ![E, n, 48]⟩ 2 [⟨⟨3, ![E, n, 32]⟩, x⟩, ⟨⟨3, ![E, n, 16]⟩, g⟩] h) w)
      (broadcastInDim ⟨3, ![E, n, N]⟩ ![0, 1, 2] h2 (broadcastInDim ⟨3, ![1, 1, N]⟩ ![2] h1 b)))
      (broadcastInDim ⟨3, ![E, n, N]⟩ ![] h3 (constant ⟨0, ![]⟩ .f32 0x00000000#32)))
      (fun e v => Tree.lay2 (mat w) (vec b) (X e v) (G e)) :=
  (Ev.lay (Ev.two hx hg)).congr fun e v f _ _ => by rw [lay_two]

/-- The first layer of the update network, of its three pieces side by side. -/
theorem Ev.lay3 {y : FVec Ideal ⟨3, ![E, n, 80]⟩ .f32} {w : FVec Ideal ⟨2, ![80, 80]⟩ .f32} {b : FVec Ideal ⟨1, ![80]⟩ .f32}
    {prec : Option ContractPrecision} {wf : DotDims.WF ⟨3, ![E, n, 80]⟩ ⟨2, ![80, 80]⟩ ⟨3, ![E, n, 80]⟩ [2] [0] [0, 1] [1] [] []}
    {h1 : (⟨1, ![80]⟩ : Shape).BroadcastsInDim ⟨3, ![1, 1, 80]⟩ ![2]}
    {h2 : (⟨3, ![1, 1, 80]⟩ : Shape).BroadcastsInDim ⟨3, ![E, n, 80]⟩ ![0, 1, 2]}
    {h3 : (⟨0, ![]⟩ : Shape).BroadcastsInDim ⟨3, ![E, n, 80]⟩ ![]}
    (hy : Ev y (fun e v => join 64 (join 32 (X e v) (S e v)) (G e))) :
    Ev (maximumf (addf (Host.dotGeneral (⟨[2], [0], [0, 1], [1], [], [], wf⟩ : DotDims _ _ _) prec y w)
      (broadcastInDim ⟨3, ![E, n, 80]⟩ ![0, 1, 2] h2 (broadcastInDim ⟨3, ![1, 1, 80]⟩ ![2] h1 b)))
      (broadcastInDim ⟨3, ![E, n, 80]⟩ ![] h3 (constant ⟨0, ![]⟩ .f32 0x00000000#32)))
      (fun e v => Tree.lay3 (mat w) (vec b) (X e v) (S e v) (G e)) :=
  (Ev.lay hy).congr fun e v f _ _ => by rw [lay_three]

end

/-! ## Branching -/

/-- Both children's features, a node each. -/
theorem Ev.halves {E n m : ℕ} {a : FVec Ideal ⟨3, ![E, n, 64]⟩ .f32} {Y : Fam}
    {h : (⟨3, ![E, n, 64]⟩ : Shape).ShapeCasts ⟨3, ![E, m, 32]⟩} (ha : Ev a Y) (hm : m = n * 2 := by norm_num) :
    Ev (shapeCast ⟨3, ![E, m, 32]⟩ a h) (fun e v f => Y e (v / 2) (32 * (v % 2) + f)) := fun e v f => by
  have hv : v.val / 2 < n := by have := v.isLt; omega
  have hf : 32 * (v.val % 2) + f.val < 64 := by have := f.isLt; omega
  rw [shapeCast_apply a h (ix3 e v f) (ix3 e ⟨v.val / 2, hv⟩ ⟨32 * (v.val % 2) + f.val, hf⟩), ha]
  rw [Shape.rowMajor_val_three, Shape.rowMajor_val_three]
  show (e.val * n + v.val / 2) * 64 + (32 * (v.val % 2) + f.val) = (e.val * m + v.val) * 32 + f.val
  subst hm
  have : e.val * (n * 2) = 2 * (e.val * n) := by ring
  rw [this]
  omega

/-- The old nodes, then the children of the last level. -/
theorem Ev.kids {E n m o : ℕ} {x : FVec Ideal ⟨3, ![E, n, 32]⟩ .f32} {y : FVec Ideal ⟨3, ![E, m, 32]⟩ .f32} {X : Fam} {G : ℕ → Ft}
    {W : Wts} {t : ℕ} {h : Shape.Concatenates [(⟨3, ![E, n, 32]⟩ : Shape), ⟨3, ![E, m, 32]⟩] ⟨3, ![E, t, 32]⟩ 1}
    (hx : Ev x X) (hy : Ev y (fun e v f => br W (X e (o + v / 2)) (G e) (32 * (v % 2) + f))) (hn : n = 2 * o + 1 := by norm_num) :
    Ev (concatenate ⟨3, ![E, t, 32]⟩ 1 [⟨⟨3, ![E, n, 32]⟩, x⟩, ⟨⟨3, ![E, m, 32]⟩, y⟩] h) (fun e => Tree.kids W n (X e) (G e)) :=
  Cat.ev (xs := [⟨⟨3, ![E, n, 32]⟩, x⟩, ⟨⟨3, ![E, m, 32]⟩, y⟩]) (Cat.node (q := n) 0
    (hx.congr fun e v f hv _ => by rw [Tree.kids, Nat.zero_add, if_pos hv])
    (Cat.node (q := n + m) n (hy.congr fun e v f _ _ => by
      rw [Tree.kids, if_neg (by omega), show (n + v - 1) / 2 = o + v / 2 by omega, show (n + v + 1) % 2 = v % 2 by omega])
      Cat.nil rfl) (Nat.zero_add n).symm)

/-! ## Ancestor sums -/

/-- Every node's values repeated `q` times. -/
theorem Ev.rep {E n q m F : ℕ} {a : FVec Ideal ⟨3, ![E, n, F]⟩ .f32} {X : Fam}
    {h1 : (⟨3, ![E, n, F]⟩ : Shape).BroadcastsInDim ⟨4, ![E, n, q, F]⟩ ![0, 1, 3]}
    {h2 : (⟨4, ![E, n, q, F]⟩ : Shape).ShapeCasts ⟨3, ![E, m, F]⟩} (ha : Ev a X) (hm : m = n * q := by norm_num)
    (hq : 0 < q := by norm_num) :
    Ev (shapeCast ⟨3, ![E, m, F]⟩ (broadcastInDim ⟨4, ![E, n, q, F]⟩ ![0, 1, 3] h1 a) h2) (fun e v f => X e (v / q) f) :=
  fun e v f => by
  have hv : v.val / q < n := by rw [Nat.div_lt_iff_lt_mul hq, ← hm]; exact v.isLt
  rw [shapeCast_apply _ h2 (ix3 e v f) (ix4 e ⟨v.val / q, hv⟩ ⟨v.val % q, Nat.mod_lt _ hq⟩ f),
    broadcastInDim_apply _ h1 _ (ix4 e ⟨v.val / q, hv⟩ ⟨v.val % q, Nat.mod_lt _ hq⟩ f) (ix3 e ⟨v.val / q, hv⟩ f), ha]
  · intro d
    match d with
    | ⟨0, _⟩ => show e.val = if E = 1 then 0 else e.val; have := e.isLt; split_ifs <;> omega
    | ⟨1, _⟩ =>
      show v.val / q = if n = 1 then 0 else v.val / q
      split_ifs with h
      · exact Nat.lt_one_iff.1 (h ▸ hv)
      · rfl
    | ⟨2, _⟩ => show f.val = if F = 1 then 0 else f.val; have := f.isLt; split_ifs <;> omega
  · rw [Shape.rowMajor_val_three, Shape.rowMajor_val_four]
    show ((e.val * n + v.val / q) * q + v.val % q) * F + f.val = (e.val * m + v.val) * F + f.val
    have : (e.val * n + v.val / q) * q + v.val % q = e.val * m + v.val := by
      have hd := Nat.div_add_mod' v.val q
      have hr : e.val * m = e.val * n * q := by rw [hm, Nat.mul_assoc]
      rw [hr, Nat.add_mul, Nat.add_assoc, hd]
    rw [this]

/-- The first summand of a level's sums: the root's message. -/
theorem Ev.acc0 {E m q F : ℕ} {z a : FVec Ideal ⟨3, ![E, m, F]⟩ .f32} {M : Fam} (hz : Ev z fun _ _ _ => 0)
    (ha : Ev a (fun e v f => M e (0 + v / q) f)) (hm : m ≤ q := by norm_num) :
    Ev (addf z a) (fun e v => accF M e (0 + v / q)) := fun e v f => by
  show z (ix3 e v f) + a (ix3 e v f) = _
  rw [hz, ha, zero_add]
  show M e.val (0 + v.val / q) f.val = acc (fun u => M e.val u f.val) (0 + v.val / q)
  rw [Nat.div_eq_of_lt (lt_of_lt_of_le v.isLt hm)]
  exact (acc_zero fun u => M e.val u f.val).symm

/-- One more level of ancestors. -/
theorem Ev.accS {E m F o q o' q' : ℕ} {s a : FVec Ideal ⟨3, ![E, m, F]⟩ .f32} {M : Fam} (hs : Ev s (fun e v => accF M e (o + v / q)))
    (ha : Ev a (fun e v f => M e (o' + v / q') f)) (ho : o' = 2 * o + 1 := by norm_num) (hq : q = q' * 2 := by norm_num) :
    Ev (addf s a) (fun e v => accF M e (o' + v / q')) := fun e v f => by
  show s (ix3 e v f) + a (ix3 e v f) = _
  rw [hs, ha]
  show acc (fun u => M e.val u f.val) (o + v.val / q) + M e.val (o' + v.val / q') f.val
    = acc (fun u => M e.val u f.val) (o' + v.val / q')
  rw [hq, ← Nat.div_div_eq_div_mul]
  generalize v.val / q' = w
  rw [acc_pos _ (by omega : o' + w ≠ 0), show (o' + w - 1) / 2 = o + w / 2 by omega]

/-- The sums of a level are the aggregates of the next. -/
theorem Ev.agg {E m F o o' : ℕ} {s : FVec Ideal ⟨3, ![E, m, F]⟩ .f32} {M : Fam} (hs : Ev s (fun e v => accF M e (o + v / 2)))
    (ho : o' = 2 * o + 1 := by norm_num) : Ev s (fun e v => aggF M e (o' + v)) :=
  hs.congr fun e v f _ _ => by
    show acc _ _ = Tree.agg _ _
    rw [agg_pos _ (by omega : o' + v ≠ 0)]
    congr 1
    omega

/-- The root's aggregate is zero. -/
theorem Ev.agg0 {E F : ℕ} {z : FVec Ideal ⟨3, ![E, 1, F]⟩ .f32} {M : Fam} (hz : Ev z fun _ _ _ => 0) :
    Ev z (fun e v => aggF M e (0 + v)) :=
  hz.congr fun e v f hv _ => by
    have : v = 0 := by omega
    subst this
    exact (agg_zero _).symm

theorem Ev.zero {E n F : ℕ} {h : (⟨0, ![]⟩ : Shape).BroadcastsInDim ⟨3, ![E, n, F]⟩ ![]} :
    Ev (broadcastInDim ⟨3, ![E, n, F]⟩ ![] h (constant ⟨0, ![]⟩ .f32 0x00000000#32)) (fun _ _ _ => 0) :=
  fun e v f => zero_apply (ix3 e v f)

/-! ## Stacks of two to six levels of nodes -/

theorem Cat.ev_2 {E n F : ℕ} {X : Fam} {s0 s1 : Shape} {a0 : s0.Idx → EReal} {a1 : s1.Idx → EReal}
    {h : Shape.Concatenates [s0, s1] ⟨3, ![E, n, F]⟩ 1}
    (hx : Cat ⟨3, ![E, n, F]⟩ 1 (atE E n F X) 0 [⟨s0, a0⟩, ⟨s1, a1⟩]) :
    Ev (concatenate ⟨3, ![E, n, F]⟩ 1 [⟨s0, a0⟩, ⟨s1, a1⟩] h) X := Cat.ev hx

theorem Cat.ev_3 {E n F : ℕ} {X : Fam} {s0 s1 s2 : Shape} {a0 : s0.Idx → EReal} {a1 : s1.Idx → EReal} {a2 : s2.Idx → EReal}
    {h : Shape.Concatenates [s0, s1, s2] ⟨3, ![E, n, F]⟩ 1}
    (hx : Cat ⟨3, ![E, n, F]⟩ 1 (atE E n F X) 0 [⟨s0, a0⟩, ⟨s1, a1⟩, ⟨s2, a2⟩]) :
    Ev (concatenate ⟨3, ![E, n, F]⟩ 1 [⟨s0, a0⟩, ⟨s1, a1⟩, ⟨s2, a2⟩] h) X := Cat.ev hx

theorem Cat.ev_4 {E n F : ℕ} {X : Fam} {s0 s1 s2 s3 : Shape} {a0 : s0.Idx → EReal} {a1 : s1.Idx → EReal} {a2 : s2.Idx → EReal} {a3 : s3.Idx → EReal}
    {h : Shape.Concatenates [s0, s1, s2, s3] ⟨3, ![E, n, F]⟩ 1}
    (hx : Cat ⟨3, ![E, n, F]⟩ 1 (atE E n F X) 0 [⟨s0, a0⟩, ⟨s1, a1⟩, ⟨s2, a2⟩, ⟨s3, a3⟩]) :
    Ev (concatenate ⟨3, ![E, n, F]⟩ 1 [⟨s0, a0⟩, ⟨s1, a1⟩, ⟨s2, a2⟩, ⟨s3, a3⟩] h) X := Cat.ev hx

theorem Cat.ev_5 {E n F : ℕ} {X : Fam} {s0 s1 s2 s3 s4 : Shape} {a0 : s0.Idx → EReal} {a1 : s1.Idx → EReal} {a2 : s2.Idx → EReal} {a3 : s3.Idx → EReal} {a4 : s4.Idx → EReal}
    {h : Shape.Concatenates [s0, s1, s2, s3, s4] ⟨3, ![E, n, F]⟩ 1}
    (hx : Cat ⟨3, ![E, n, F]⟩ 1 (atE E n F X) 0 [⟨s0, a0⟩, ⟨s1, a1⟩, ⟨s2, a2⟩, ⟨s3, a3⟩, ⟨s4, a4⟩]) :
    Ev (concatenate ⟨3, ![E, n, F]⟩ 1 [⟨s0, a0⟩, ⟨s1, a1⟩, ⟨s2, a2⟩, ⟨s3, a3⟩, ⟨s4, a4⟩] h) X := Cat.ev hx

theorem Cat.ev_6 {E n F : ℕ} {X : Fam} {s0 s1 s2 s3 s4 s5 : Shape} {a0 : s0.Idx → EReal} {a1 : s1.Idx → EReal} {a2 : s2.Idx → EReal} {a3 : s3.Idx → EReal} {a4 : s4.Idx → EReal} {a5 : s5.Idx → EReal}
    {h : Shape.Concatenates [s0, s1, s2, s3, s4, s5] ⟨3, ![E, n, F]⟩ 1}
    (hx : Cat ⟨3, ![E, n, F]⟩ 1 (atE E n F X) 0 [⟨s0, a0⟩, ⟨s1, a1⟩, ⟨s2, a2⟩, ⟨s3, a3⟩, ⟨s4, a4⟩, ⟨s5, a5⟩]) :
    Ev (concatenate ⟨3, ![E, n, F]⟩ 1 [⟨s0, a0⟩, ⟨s1, a1⟩, ⟨s2, a2⟩, ⟨s3, a3⟩, ⟨s4, a4⟩, ⟨s5, a5⟩] h) X := Cat.ev hx

/-! ## The first and the last array -/

/-- One root per event. -/
theorem Ev.root {E F : ℕ} (a : FVec Ideal ⟨2, ![E, F]⟩ .f32) (h : (⟨2, ![E, F]⟩ : Shape).ShapeCasts ⟨3, ![E, 1, F]⟩) :
    Ev (shapeCast ⟨3, ![E, 1, F]⟩ a h) (fun e _ => mat a e) := fun e v f => by
  rw [shapeCast_apply a h (ix3 e v f) (ix2 e f), mat_apply a e f]
  rw [Shape.rowMajor_val_two, Shape.rowMajor_val_three]
  show e.val * F + f.val = (e.val * 1 + v.val) * F + f.val
  have : v.val = 0 := by omega
  rw [this, Nat.mul_one, Nat.add_zero]

/-- The first features of each node, the nodes of an event one after another. -/
theorem Ev.flat {E n F m N : ℕ} {a : FVec Ideal ⟨3, ![E, n, F]⟩ .f32} {X : Fam}
    {h : (⟨3, ![E, n, F]⟩ : Shape).Slices ![0, 0, 0] ⟨3, ![E, n, m]⟩} {h' : (⟨3, ![E, n, m]⟩ : Shape).ShapeCasts ⟨2, ![E, N]⟩}
    (ha : Ev a X) (hm : 0 < m := by norm_num) (hN : N = n * m := by norm_num) :
    Gl (shapeCast ⟨2, ![E, N]⟩ (extractStridedSlice ⟨3, ![E, n, m]⟩ ![0, 0, 0] a h) h') (fun e j => X e (j / m) (j % m)) :=
  fun e j => by
  have hv : j.val / m < n := by rw [Nat.div_lt_iff_lt_mul hm, ← hN]; exact j.isLt
  have hf : j.val % m < F := by
    have h2 : 0 + m ≤ F := h.2 2
    have := Nat.mod_lt j.val hm
    omega
  rw [shapeCast_apply _ h' (ix2 e j) (ix3 e ⟨j.val / m, hv⟩ ⟨j.val % m, Nat.mod_lt _ hm⟩),
    extractStridedSlice_apply _ a h (ix3 e ⟨j.val / m, hv⟩ ⟨j.val % m, Nat.mod_lt _ hm⟩) (ix3 e ⟨j.val / m, hv⟩ ⟨j.val % m, hf⟩), ha]
  · intro d
    match d with
    | ⟨0, _⟩ => show e.val = 0 + e.val; omega
    | ⟨1, _⟩ => show j.val / m = 0 + j.val / m; omega
    | ⟨2, _⟩ => show j.val % m = 0 + j.val % m; omega
  · rw [Shape.rowMajor_val_two, Shape.rowMajor_val_three]
    show (e.val * n + j.val / m) * m + j.val % m = e.val * N + j.val
    have hd := Nat.div_add_mod' j.val m
    have hr : e.val * N = e.val * n * m := by rw [hN, Nat.mul_assoc]
    rw [hr, Nat.add_mul, Nat.add_assoc, hd]

end Tree
-- ==== Proof.Ref.lean ====
/-
  THE REFERENCE'S VALUE: its result holds, for every event, the first four features of each node of the event's tree.
-/
module

public import proofs.«01_k».proof.Proof.Host
public import proofs.«01_k».proof.Proof.Value
public import proofs.«01_k».proof.Proof.Gen.ReferenceIdeal.Run

@[expose] public section

set_option maxHeartbeats 1000000
set_option maxRecDepth 8192

noncomputable section

open scoped BigOperators

namespace Tree

open Cert.ReferenceIdeal Cert.ReferenceIdeal.Gen Cert.ReferenceIdeal.Value Idealize.ShloMosaic Idealize.ShloMosaic.TcCoe Idealize.SL.Sem Idealize.ShloMosaic.StableHlo

variable (V0 : Valuation τ sig (Elt Ideal))

/-- The weights that the reference is launched with. -/
abbrev refW : Wts :=
  wts (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26))

variable {V0} {X : Fam} {G : ℕ → Ft} {c : EReal}

/-- The root's features. -/
theorem root0 : Ev (res_main_v0 V0 : FVec Ideal S10000x1x32 .f32)
    (fun e _ => mat (V0 (Proc.devRef .tc main_arg0) : FVec Ideal S10000x32 .f32) e) :=
  Ev.root _ _

/-! ## The first iteration -/

theorem glob0 (hx : Ev (res_main_v0 V0 : FVec Ideal S10000x1x32 .f32) X)
    (hc : ∀ y : EReal, Ideal.div y (Ideal.ofBits .f32 0x3F800000#32) = y * c) :
    Gl (res_main_v23 V0 : FVec Ideal S10000x16 .f32) (fun e => glob (refW V0) 1 c (X e)) := by
  unfold res_main_v23
  exact Gl.lay (Gl.lay (Ev.mean c (Ev.lay (Ev.lay hx)) hc))

theorem upd0 (hx : Ev (res_main_v0 V0 : FVec Ideal S10000x1x32 .f32) X) (hg : Gl (res_main_v23 V0 : FVec Ideal S10000x16 .f32) G) :
    Ev (res_main_v83 V0 : FVec Ideal S10000x3x32 .f32) (fun e v => upd (refW V0) (kids (refW V0) 1 (X e) (G e) v)
      (aggF (fun e v => msg (refW V0) (X e v) (G e)) e v) (G e)) := by
  unfold res_main_v83 res_main_v73
  have hx0 : Ev (res_main_v0 V0 : FVec Ideal S10000x1x32 .f32) (fun e v => X e (0 + v)) :=
    hx.congr fun e v f _ _ => by rw [Nat.zero_add]
  exact Ev.lay (Ev.lay (Ev.lay3 (Ev.three
    (Ev.kids (o := 0) hx (Ev.halves (Ev.lay (Ev.lay (Ev.lay2 hx0 (Gl.one hg))))))
    (Cat.ev_2 (Cat.node (q := 1) 0 (Ev.agg0 Ev.zero)
      (Cat.node (q := 3) 1 (Ev.agg (o := 0) (Ev.acc0 Ev.zero (Ev.rep (Ev.lay (Ev.lay (Ev.lay2 hx0 (Gl.one hg)))))))
        Cat.nil)))
    (Gl.all hg))))

/-! ## The second iteration -/

theorem glob1 (hx : Ev (res_main_v83 V0 : FVec Ideal S10000x3x32 .f32) X)
    (hc : ∀ y : EReal, Ideal.div y (Ideal.ofBits .f32 0x40400000#32) = y * c) :
    Gl (res_main_v106 V0 : FVec Ideal S10000x16 .f32) (fun e => glob (refW V0) 3 c (X e)) := by
  unfold res_main_v106
  exact Gl.lay (Gl.lay (Ev.mean c (Ev.lay (Ev.lay hx)) hc))

theorem msg1 (hx : Ev (res_main_v83 V0 : FVec Ideal S10000x3x32 .f32) X)
    (hg : Gl (res_main_v106 V0 : FVec Ideal S10000x16 .f32) G) :
    Ev (res_main_v144 V0 : FVec Ideal S10000x3x32 .f32) (fun e v => msg (refW V0) (X e v) (G e)) := by
  unfold res_main_v144
  exact Ev.lay (Ev.lay (Ev.lay2 hx (Gl.all hg)))

theorem upd1 (hx : Ev (res_main_v83 V0 : FVec Ideal S10000x3x32 .f32) X)
    (hg : Gl (res_main_v106 V0 : FVec Ideal S10000x16 .f32) G) :
    Ev (res_main_v179 V0 : FVec Ideal S10000x7x32 .f32) (fun e v => upd (refW V0) (kids (refW V0) 3 (X e) (G e) v)
      (aggF (fun e v => msg (refW V0) (X e v) (G e)) e v) (G e)) := by
  have hm := msg1 hx hg
  unfold res_main_v179 res_main_v173
  exact Ev.lay (Ev.lay (Ev.lay3 (Ev.three
    (Ev.kids (o := 1) hx (Ev.halves (Ev.lay (Ev.lay (Ev.lay2 (Ev.slice hx) (Gl.all hg))))))
    (Cat.ev_3 (Cat.node (q := 1) 0 (Ev.agg0 Ev.zero)
      (Cat.node (q := 3) 1 (Ev.agg (o := 0) (Ev.acc0 Ev.zero (Ev.rep (Ev.slice hm))))
      (Cat.node (q := 7) 3 (Ev.agg (o := 1) (Ev.accS (Ev.acc0 Ev.zero (Ev.rep (Ev.slice hm))) (Ev.rep (Ev.slice hm))))
      (Cat.nil)))))
    (Gl.all hg))))

/-! ## The third iteration -/

theorem glob2 (hx : Ev (res_main_v179 V0 : FVec Ideal S10000x7x32 .f32) X)
    (hc : ∀ y : EReal, Ideal.div y (Ideal.ofBits .f32 0x40E00000#32) = y * c) :
    Gl (res_main_v202 V0 : FVec Ideal S10000x16 .f32) (fun e => glob (refW V0) 7 c (X e)) := by
  unfold res_main_v202
  exact Gl.lay (Gl.lay (Ev.mean c (Ev.lay (Ev.lay hx)) hc))

theorem msg2 (hx : Ev (res_main_v179 V0 : FVec Ideal S10000x7x32 .f32) X)
    (hg : Gl (res_main_v202 V0 : FVec Ideal S10000x16 .f32) G) :
    Ev (res_main_v240 V0 : FVec Ideal S10000x7x32 .f32) (fun e v => msg (refW V0) (X e v) (G e)) := by
  unfold res_main_v240
  exact Ev.lay (Ev.lay (Ev.lay2 hx (Gl.all hg)))

theorem upd2 (hx : Ev (res_main_v179 V0 : FVec Ideal S10000x7x32 .f32) X)
    (hg : Gl (res_main_v202 V0 : FVec Ideal S10000x16 .f32) G) :
    Ev (res_main_v288 V0 : FVec Ideal S10000x15x32 .f32) (fun e v => upd (refW V0) (kids (refW V0) 7 (X e) (G e) v)
      (aggF (fun e v => msg (refW V0) (X e v) (G e)) e v) (G e)) := by
  have hm := msg2 hx hg
  unfold res_main_v288 res_main_v273
  exact Ev.lay (Ev.lay (Ev.lay3 (Ev.three
    (Ev.kids (o := 3) hx (Ev.halves (Ev.lay (Ev.lay (Ev.lay2 (Ev.slice hx) (Gl.all hg))))))
    (Cat.ev_4 (Cat.node (q := 1) 0 (Ev.agg0 Ev.zero)
      (Cat.node (q := 3) 1 (Ev.agg (o := 0) (Ev.acc0 Ev.zero (Ev.rep (Ev.slice hm))))
      (Cat.node (q := 7) 3 (Ev.agg (o := 1) (Ev.accS (Ev.acc0 Ev.zero (Ev.rep (Ev.slice hm))) (Ev.rep (Ev.slice hm))))
      (Cat.node (q := 15) 7 (Ev.agg (o := 3) (Ev.accS (Ev.accS (Ev.acc0 Ev.zero (Ev.rep (Ev.slice hm))) (Ev.rep (Ev.slice hm))) (Ev.rep (Ev.slice hm))))
      (Cat.nil))))))
    (Gl.all hg))))

/-! ## The fourth iteration -/

theorem glob3 (hx : Ev (res_main_v288 V0 : FVec Ideal S10000x15x32 .f32) X)
    (hc : ∀ y : EReal, Ideal.div y (Ideal.ofBits .f32 0x41700000#32) = y * c) :
    Gl (res_main_v311 V0 : FVec Ideal S10000x16 .f32) (fun e => glob (refW V0) 15 c (X e)) := by
  unfold res_main_v311
  exact Gl.lay (Gl.lay (Ev.mean c (Ev.lay (Ev.lay hx)) hc))

theorem msg3 (hx : Ev (res_main_v288 V0 : FVec Ideal S10000x15x32 .f32) X)
    (hg : Gl (res_main_v311 V0 : FVec Ideal S10000x16 .f32) G) :
    Ev (res_main_v349 V0 : FVec Ideal S10000x15x32 .f32) (fun e v => msg (refW V0) (X e v) (G e)) := by
  unfold res_main_v349
  exact Ev.lay (Ev.lay (Ev.lay2 hx (Gl.all hg)))

theorem upd3 (hx : Ev (res_main_v288 V0 : FVec Ideal S10000x15x32 .f32) X)
    (hg : Gl (res_main_v311 V0 : FVec Ideal S10000x16 .f32) G) :
    Ev (res_main_v414 V0 : FVec Ideal S10000x31x32 .f32) (fun e v => upd (refW V0) (kids (refW V0) 15 (X e) (G e) v)
      (aggF (fun e v => msg (refW V0) (X e v) (G e)) e v) (G e)) := by
  have hm := msg3 hx hg
  unfold res_main_v414 res_main_v399
  exact Ev.lay (Ev.lay (Ev.lay3 (Ev.three
    (Ev.kids (o := 7) hx (Ev.halves (Ev.lay (Ev.lay (Ev.lay2 (Ev.slice hx) (Gl.all hg))))))
    (Cat.ev_5 (Cat.node (q := 1) 0 (Ev.agg0 Ev.zero)
      (Cat.node (q := 3) 1 (Ev.agg (o := 0) (Ev.acc0 Ev.zero (Ev.rep (Ev.slice hm))))
      (Cat.node (q := 7) 3 (Ev.agg (o := 1) (Ev.accS (Ev.acc0 Ev.zero (Ev.rep (Ev.slice hm))) (Ev.rep (Ev.slice hm))))
      (Cat.node (q := 15) 7 (Ev.agg (o := 3) (Ev.accS (Ev.accS (Ev.acc0 Ev.zero (Ev.rep (Ev.slice hm))) (Ev.rep (Ev.slice hm))) (Ev.rep (Ev.slice hm))))
      (Cat.node (q := 31) 15 (Ev.agg (o := 7) (Ev.accS (Ev.accS (Ev.accS (Ev.acc0 Ev.zero (Ev.rep (Ev.slice hm))) (Ev.rep (Ev.slice hm))) (Ev.rep (Ev.slice hm))) (Ev.rep (Ev.slice hm))))
      (Cat.nil)))))))
    (Gl.all hg))))

/-! ## The fifth iteration -/

theorem glob4 (hx : Ev (res_main_v414 V0 : FVec Ideal S10000x31x32 .f32) X)
    (hc : ∀ y : EReal, Ideal.div y (Ideal.ofBits .f32 0x41F80000#32) = y * c) :
    Gl (res_main_v437 V0 : FVec Ideal S10000x16 .f32) (fun e => glob (refW V0) 31 c (X e)) := by
  unfold res_main_v437
  exact Gl.lay (Gl.lay (Ev.mean c (Ev.lay (Ev.lay hx)) hc))

theorem msg4 (hx : Ev (res_main_v414 V0 : FVec Ideal S10000x31x32 .f32) X)
    (hg : Gl (res_main_v437 V0 : FVec Ideal S10000x16 .f32) G) :
    Ev (res_main_v475 V0 : FVec Ideal S10000x31x32 .f32) (fun e v => msg (refW V0) (X e v) (G e)) := by
  unfold res_main_v475
  exact Ev.lay (Ev.lay (Ev.lay2 hx (Gl.all hg)))

theorem agg4 (hx : Ev (res_main_v414 V0 : FVec Ideal S10000x31x32 .f32) X)
    (hg : Gl (res_main_v437 V0 : FVec Ideal S10000x16 .f32) G) :
    Ev (res_main_v543 V0 : FVec Ideal S10000x63x32 .f32) (aggF (fun e v => msg (refW V0) (X e v) (G e))) := by
  have hm := msg4 hx hg
  unfold res_main_v543
  exact Cat.ev_6 (Cat.node (q := 1) 0 (Ev.agg0 Ev.zero)
      (Cat.node (q := 3) 1 (Ev.agg (o := 0) (Ev.acc0 Ev.zero (Ev.rep (Ev.slice hm))))
      (Cat.node (q := 7) 3 (Ev.agg (o := 1) (Ev.accS (Ev.acc0 Ev.zero (Ev.rep (Ev.slice hm))) (Ev.rep (Ev.slice hm))))
      (Cat.node (q := 15) 7 (Ev.agg (o := 3) (Ev.accS (Ev.accS (Ev.acc0 Ev.zero (Ev.rep (Ev.slice hm))) (Ev.rep (Ev.slice hm))) (Ev.rep (Ev.slice hm))))
      (Cat.node (q := 31) 15 (Ev.agg (o := 7) (Ev.accS (Ev.accS (Ev.accS (Ev.acc0 Ev.zero (Ev.rep (Ev.slice hm))) (Ev.rep (Ev.slice hm))) (Ev.rep (Ev.slice hm))) (Ev.rep (Ev.slice hm))))
      (Cat.node (q := 63) 31 (Ev.agg (o := 15) (Ev.accS (Ev.accS (Ev.accS (Ev.accS (Ev.acc0 Ev.zero (Ev.rep (Ev.slice hm))) (Ev.rep (Ev.slice hm))) (Ev.rep (Ev.slice hm))) (Ev.rep (Ev.slice hm))) (Ev.rep (Ev.slice hm))))
      (Cat.nil)))))))

/-! ## All five -/

/-- The features after `t` iterations, as a family. -/
def refT (V0 : Valuation τ sig (Elt Ideal)) (t : ℕ) : Fam := fun e =>
  tree (refW V0) kc (mat (V0 (Proc.devRef .tc main_arg0) : FVec Ideal S10000x32 .f32) e) t

theorem ref1 : Ev (res_main_v83 V0 : FVec Ideal S10000x3x32 .f32) (refT V0 1) :=
  upd0 (X := refT V0 0) root0 (glob0 (X := refT V0 0) root0 mean0)

theorem ref2 : Ev (res_main_v179 V0 : FVec Ideal S10000x7x32 .f32) (refT V0 2) :=
  upd1 (X := refT V0 1) ref1 (glob1 ref1 mean1)

theorem ref3 : Ev (res_main_v288 V0 : FVec Ideal S10000x15x32 .f32) (refT V0 3) :=
  upd2 (X := refT V0 2) ref2 (glob2 ref2 mean2)

theorem ref4 : Ev (res_main_v414 V0 : FVec Ideal S10000x31x32 .f32) (refT V0 4) :=
  upd3 (X := refT V0 3) ref3 (glob3 ref3 mean3)

theorem refG : Gl (res_main_v437 V0 : FVec Ideal S10000x16 .f32) (fun e => glob (refW V0) 31 (kc 4) (refT V0 4 e)) :=
  glob4 ref4 mean4

/-- The update network of the fifth iteration, over the nodes, their aggregates and the global features. -/
def refX (V0 : Valuation τ sig (Elt Ideal)) : Fam := fun e v => upd (refW V0)
  (kids (refW V0) 31 (refT V0 4 e) (glob (refW V0) 31 (kc 4) (refT V0 4 e)) v)
  (aggF (fun e v => msg (refW V0) (refT V0 4 e v) (glob (refW V0) 31 (kc 4) (refT V0 4 e))) e v)
  (glob (refW V0) 31 (kc 4) (refT V0 4 e))

theorem refX_eq : refX V0 = refT V0 5 := rfl

/-- An array that holds the fifth iteration's features is the value. -/
theorem eq_ref {y : FVec Ideal ⟨2, ![10000, 252]⟩ .f32} (h : Gl y (fun e j => refX V0 e (j / 4) (j % 4))) :
    y = treeOf (refW V0) (V0 (Proc.devRef .tc main_arg0) : FVec Ideal S10000x32 .f32) :=
  eq_treeOf h

/-- THE REFERENCE'S RUN: it ends with the trees' features in its result, and its arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v563)
        = treeOf (wts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
            (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) := by
  refine (θ_run defs _ _).mono (fun r h c => ⟨(h c).1.trans (eq_ref (V0 := launchContents m c) ?_), (h c).2⟩) (run m ρ)
  have hx := ref4 (V0 := launchContents m c)
  have hg := refG (V0 := launchContents m c)
  have hy := agg4 hx hg
  exact Ev.flat (Ev.lay (Ev.lay (Ev.lay3 (Ev.three
    (Ev.kids (o := 15) hx (Ev.halves (Ev.lay (Ev.lay (Ev.lay2 (Ev.slice hx) (Gl.all hg)))))) hy (Gl.all hg)))))

end Tree
-- ==== Proof.lean ====
/-
  The proof of `Cert.Claim`: the two frames of the kernel, the reference's frame, the four named constants, and the equality
  of the kernel's and the reference's results, each `treeOf` of the arguments (`Proof/Ideal/Value.lean`, `Proof/Ref.lean`).
-/
module

public import proofs.«01_k».proof.Defs
public import proofs.«01_k».proof.Proof.Real.Frame
public import proofs.«01_k».proof.Proof.Ideal.Frame
public import proofs.«01_k».proof.Proof.Ideal.Value
public import proofs.«01_k».proof.Proof.Ref
public import Idealize.ShloMosaic.Adequacy
public import Idealize.ShloMosaic.Init

@[expose] public section

noncomputable section

namespace Cert.Proof

open Idealize.ShloMosaic Idealize.SL.Sem

/-- The kernel, at bit-exact floats, runs and keeps its arguments. -/
theorem frame_p : Cert.quiescent_Kernel := fun m ρ _ => Cert.Kernel.Gen.frame m ρ

/-- The kernel, at ideal floats, runs and keeps its arguments. -/
theorem frame_pi : Cert.quiescent_KernelIdeal := fun m ρ _ => Cert.KernelIdeal.Gen.frame m ρ

/-- The reference, at ideal floats, runs and keeps its arguments; it declares no semaphore. -/
theorem frame_ri : Cert.quiescent_ReferenceIdeal := fun m ρ _ =>
  (θ_run Cert.ReferenceIdeal.defs _ _).mono
    (fun r h => ⟨fun c => (h c).2, sem_eq_zero_of_no_sems (by decide) r.2⟩) (Tree.ref_run m ρ)

/-- Each named constant is the value that its name states. -/
theorem preserves : Cert.preserves_Kernel_KernelIdeal :=
  ⟨IdealRules.named_const.statement Cert.KernelIdeal.κ "inv3" .f32 0x3EAAAAAB#32 ((3⁻¹ : ℝ) : EReal) rfl,
   IdealRules.named_const.statement Cert.KernelIdeal.κ "inv7" .f32 0x3E124925#32 ((7⁻¹ : ℝ) : EReal) rfl,
   IdealRules.named_const.statement Cert.KernelIdeal.κ "inv15" .f32 0x3D888889#32 ((15⁻¹ : ℝ) : EReal) rfl,
   IdealRules.named_const.statement Cert.KernelIdeal.κ "inv31" .f32 0x3D042108#32 ((31⁻¹ : ℝ) : EReal) rfl⟩

/-- From memories that agree on the arguments, the kernel and the reference end with the same result: the trees' features. -/
theorem algebraic : Cert.algebraic_KernelIdeal_ReferenceIdeal := by
  intro m g m' g' _ hm
  refine ⟨fun c => Tree.treeOf (Tree.launched m c) (m ((c.tc : Thread Cert.KernelIdeal.nD Cert.KernelIdeal.τ).loc Cert.KernelIdeal.main_arg0)),
    Tree.ker_run m g, (θ_run Cert.ReferenceIdeal.defs _ _).mono (fun r h c => ⟨(h c).1.trans ?_, (h c).2⟩) (Tree.ref_run m' g')⟩
  obtain ⟨h0, h1, h2, h3, h4, h5, h6, h7, h8, h9, h10, h11, h12, h13, h14, h15, h16, h17, h18, h19, h20, h21, h22, h23, h24, h25, h26⟩ := hm c
  rw [h0, h1, h2, h3, h4, h5, h6, h7, h8, h9, h10, h11, h12, h13, h14, h15, h16, h17, h18, h19, h20, h21, h22, h23, h24, h25, h26]
  rfl

theorem claim : Cert.Claim :=
  ⟨Cert.Kernel.Gen.facts, Cert.KernelIdeal.Gen.facts, Cert.ReferenceIdeal.Gen.facts,
    frame_p, frame_pi, frame_ri, preserves, algebraic⟩

end Cert.Proof

end
